-- ==== Defs.lean ====
def Pre_Rg (m : (ℓ : Loc Cert.Rg.nD Cert.Rg.τ Cert.Rg.sig) → Buf (Elt Bits) ℓ) : Prop :=
  True

def Pre_RgIdeal (m : (ℓ : Loc Cert.RgIdeal.nD Cert.RgIdeal.τ Cert.RgIdeal.sig) → Buf (Elt Ideal) ℓ) : Prop :=
  True

def Pre_RgRefIdeal (m : (ℓ : Loc Cert.RgRefIdeal.nD Cert.RgRefIdeal.τ Cert.RgRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def quiescent_Rg [hRg : Cert.Rg.Facts] : Prop :=
  ∀ (m : (ℓ : Loc Cert.Rg.nD Cert.Rg.τ Cert.Rg.sig) → Buf (Elt Bits) ℓ) (g : Dev Cert.Rg.nD → PrngReg), Pre_Rg m →
    θ_run (Cert.Rg.defs (F := Bits)) (onTc (τ := Cert.Rg.τ) (Cert.Rg.main (F := Bits))) ⟨m, fun _ => 0, g⟩ (fun r => (∀ c : Dev Cert.Rg.nD,
      r.2.mem ((c.tc : Thread Cert.Rg.nD Cert.Rg.τ).loc Cert.Rg.main_arg0) = m ((c.tc : Thread Cert.Rg.nD Cert.Rg.τ).loc Cert.Rg.main_arg0)
      ∧ r.2.mem ((c.tc : Thread Cert.Rg.nD Cert.Rg.τ).loc Cert.Rg.main_arg1) = m ((c.tc : Thread Cert.Rg.nD Cert.Rg.τ).loc Cert.Rg.main_arg1)
      ∧ r.2.mem ((c.tc : Thread Cert.Rg.nD Cert.Rg.τ).loc Cert.Rg.main_arg2) = m ((c.tc : Thread Cert.Rg.nD Cert.Rg.τ).loc Cert.Rg.main_arg2)
      ∧ r.2.mem ((c.tc : Thread Cert.Rg.nD Cert.Rg.τ).loc Cert.Rg.main_arg3) = m ((c.tc : Thread Cert.Rg.nD Cert.Rg.τ).loc Cert.Rg.main_arg3)
      ∧ r.2.mem ((c.tc : Thread Cert.Rg.nD Cert.Rg.τ).loc Cert.Rg.main_arg4) = m ((c.tc : Thread Cert.Rg.nD Cert.Rg.τ).loc Cert.Rg.main_arg4)
      ∧ r.2.mem ((c.tc : Thread Cert.Rg.nD Cert.Rg.τ).loc Cert.Rg.main_arg5) = m ((c.tc : Thread Cert.Rg.nD Cert.Rg.τ).loc Cert.Rg.main_arg5)
      ∧ r.2.mem ((c.tc : Thread Cert.Rg.nD Cert.Rg.τ).loc Cert.Rg.main_arg6) = m ((c.tc : Thread Cert.Rg.nD Cert.Rg.τ).loc Cert.Rg.main_arg6)
      ∧ r.2.mem ((c.tc : Thread Cert.Rg.nD Cert.Rg.τ).loc Cert.Rg.main_arg7) = m ((c.tc : Thread Cert.Rg.nD Cert.Rg.τ).loc Cert.Rg.main_arg7)
      ∧ r.2.mem ((c.tc : Thread Cert.Rg.nD Cert.Rg.τ).loc Cert.Rg.main_arg8) = m ((c.tc : Thread Cert.Rg.nD Cert.Rg.τ).loc Cert.Rg.main_arg8))
      ∧ r.2.sem = fun _ => 0)

def quiescent_RgIdeal [hRgIdeal : Cert.RgIdeal.Facts] : Prop :=
  ∀ (m : (ℓ : Loc Cert.RgIdeal.nD Cert.RgIdeal.τ Cert.RgIdeal.sig) → Buf (Elt Ideal) ℓ) (g : Dev Cert.RgIdeal.nD → PrngReg), Pre_RgIdeal m →
    θ_run (Cert.RgIdeal.defs (F := Ideal)) (onTc (τ := Cert.RgIdeal.τ) (Cert.RgIdeal.main (F := Ideal))) ⟨m, fun _ => 0, g⟩ (fun r => (∀ c : Dev Cert.RgIdeal.nD,
      r.2.mem ((c.tc : Thread Cert.RgIdeal.nD Cert.RgIdeal.τ).loc Cert.RgIdeal.main_arg0) = m ((c.tc : Thread Cert.RgIdeal.nD Cert.RgIdeal.τ).loc Cert.RgIdeal.main_arg0)
      ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
      ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
      ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
      ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
      ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
      ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
      ∧ r.2.mem ((c.tc : Thread Cert.RgIdeal.nD Cert.RgIdeal.τ).loc Cert.RgIdeal.main_arg7) = m ((c.tc : Thread Cert.RgIdeal.nD Cert.RgIdeal.τ).loc Cert.RgIdeal.main_arg7)
      ∧ r.2.mem ((c.tc : Thread Cert.RgIdeal.nD Cert.RgIdeal.τ).loc Cert.RgIdeal.main_arg8) = m ((c.tc : Thread Cert.RgIdeal.nD Cert.RgIdeal.τ).loc Cert.RgIdeal.main_arg8))
      ∧ r.2.sem = fun _ => 0)

def quiescent_RgRefIdeal [hRgRefIdeal : Cert.RgRefIdeal.Facts] : Prop :=
  ∀ (m : (ℓ : Loc Cert.RgRefIdeal.nD Cert.RgRefIdeal.τ Cert.RgRefIdeal.sig) → Buf (Elt Ideal) ℓ) (g : Dev Cert.RgRefIdeal.nD → PrngReg), Pre_RgRefIdeal m →
    θ_run (Cert.RgRefIdeal.defs (F := Ideal)) (onTc (τ := Cert.RgRefIdeal.τ) (Cert.RgRefIdeal.main (F := Ideal))) ⟨m, fun _ => 0, g⟩ (fun r => (∀ c : Dev Cert.RgRefIdeal.nD,
      r.2.mem ((c.tc : Thread Cert.RgRefIdeal.nD Cert.RgRefIdeal.τ).loc Cert.RgRefIdeal.main_arg0) = m ((c.tc : Thread Cert.RgRefIdeal.nD Cert.RgRefIdeal.τ).loc Cert.RgRefIdeal.main_arg0)
      ∧ r.2.mem ((c.tc : Thread Cert.RgRefIdeal.nD Cert.RgRefIdeal.τ).loc Cert.RgRefIdeal.main_arg1) = m ((c.tc : Thread Cert.RgRefIdeal.nD Cert.RgRefIdeal.τ).loc Cert.RgRefIdeal.main_arg1)
      ∧ r.2.mem ((c.tc : Thread Cert.RgRefIdeal.nD Cert.RgRefIdeal.τ).loc Cert.RgRefIdeal.main_arg2) = m ((c.tc : Thread Cert.RgRefIdeal.nD Cert.RgRefIdeal.τ).loc Cert.RgRefIdeal.main_arg2)
      ∧ r.2.mem ((c.tc : Thread Cert.RgRefIdeal.nD Cert.RgRefIdeal.τ).loc Cert.RgRefIdeal.main_arg3) = m ((c.tc : Thread Cert.RgRefIdeal.nD Cert.RgRefIdeal.τ).loc Cert.RgRefIdeal.main_arg3)
      ∧ r.2.mem ((c.tc : Thread Cert.RgRefIdeal.nD Cert.RgRefIdeal.τ).loc Cert.RgRefIdeal.main_arg4) = m ((c.tc : Thread Cert.RgRefIdeal.nD Cert.RgRefIdeal.τ).loc Cert.RgRefIdeal.main_arg4)
      ∧ r.2.mem ((c.tc : Thread Cert.RgRefIdeal.nD Cert.RgRefIdeal.τ).loc Cert.RgRefIdeal.main_arg5) = m ((c.tc : Thread Cert.RgRefIdeal.nD Cert.RgRefIdeal.τ).loc Cert.RgRefIdeal.main_arg5)
      ∧ r.2.mem ((c.tc : Thread Cert.RgRefIdeal.nD Cert.RgRefIdeal.τ).loc Cert.RgRefIdeal.main_arg6) = m ((c.tc : Thread Cert.RgRefIdeal.nD Cert.RgRefIdeal.τ).loc Cert.RgRefIdeal.main_arg6)
      ∧ r.2.mem ((c.tc : Thread Cert.RgRefIdeal.nD Cert.RgRefIdeal.τ).loc Cert.RgRefIdeal.main_arg7) = m ((c.tc : Thread Cert.RgRefIdeal.nD Cert.RgRefIdeal.τ).loc Cert.RgRefIdeal.main_arg7)
      ∧ r.2.mem ((c.tc : Thread Cert.RgRefIdeal.nD Cert.RgRefIdeal.τ).loc Cert.RgRefIdeal.main_arg8) = m ((c.tc : Thread Cert.RgRefIdeal.nD Cert.RgRefIdeal.τ).loc Cert.RgRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4)
      ∧ r.2.mem ((c.tc : Thread Cert.Outp.nD Cert.Outp.τ).loc Cert.Outp.main_arg5) = m ((c.tc : Thread Cert.Outp.nD Cert.Outp.τ).loc Cert.Outp.main_arg5))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
      ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4)
      ∧ r.2.mem ((c.tc : Thread Cert.OutpRefIdeal.nD Cert.OutpRefIdeal.τ).loc Cert.OutpRefIdeal.main_arg5) = m ((c.tc : Thread Cert.OutpRefIdeal.nD Cert.OutpRefIdeal.τ).loc Cert.OutpRefIdeal.main_arg5))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def preserves_Rg_RgIdeal : Prop :=
  True

def algebraic_RgIdeal_RgRefIdeal [hRgIdeal : Cert.RgIdeal.Facts] [hRgRefIdeal : Cert.RgRefIdeal.Facts] : Prop :=
  ∀ (m : (ℓ : Loc Cert.RgIdeal.nD Cert.RgIdeal.τ Cert.RgIdeal.sig) → Buf (Elt Ideal) ℓ) (g : Dev Cert.RgIdeal.nD → PrngReg)
    (m' : (ℓ : Loc Cert.RgRefIdeal.nD Cert.RgRefIdeal.τ Cert.RgRefIdeal.sig) → Buf (Elt Ideal) ℓ) (g' : Dev Cert.RgRefIdeal.nD → PrngReg), Pre_RgIdeal m →
    (∀ c : Dev Cert.RgIdeal.nD,
      m' ((c.tc : Thread Cert.RgRefIdeal.nD Cert.RgRefIdeal.τ).loc Cert.RgRefIdeal.main_arg0) = m ((c.tc : Thread Cert.RgIdeal.nD Cert.RgIdeal.τ).loc Cert.RgIdeal.main_arg0)
      ∧ m' ((c.tc : Thread Cert.RgRefIdeal.nD Cert.RgRefIdeal.τ).loc Cert.RgRefIdeal.main_arg1) = m ((c.tc : Thread Cert.RgIdeal.nD Cert.RgIdeal.τ).loc Cert.RgIdeal.main_arg1)
      ∧ m' ((c.tc : Thread Cert.RgRefIdeal.nD Cert.RgRefIdeal.τ).loc Cert.RgRefIdeal.main_arg2) = m ((c.tc : Thread Cert.RgIdeal.nD Cert.RgIdeal.τ).loc Cert.RgIdeal.main_arg2)
      ∧ m' ((c.tc : Thread Cert.RgRefIdeal.nD Cert.RgRefIdeal.τ).loc Cert.RgRefIdeal.main_arg3) = m ((c.tc : Thread Cert.RgIdeal.nD Cert.RgIdeal.τ).loc Cert.RgIdeal.main_arg3)
      ∧ m' ((c.tc : Thread Cert.RgRefIdeal.nD Cert.RgRefIdeal.τ).loc Cert.RgRefIdeal.main_arg4) = m ((c.tc : Thread Cert.RgIdeal.nD Cert.RgIdeal.τ).loc Cert.RgIdeal.main_arg4)
      ∧ m' ((c.tc : Thread Cert.RgRefIdeal.nD Cert.RgRefIdeal.τ).loc Cert.RgRefIdeal.main_arg5) = m ((c.tc : Thread Cert.RgIdeal.nD Cert.RgIdeal.τ).loc Cert.RgIdeal.main_arg5)
      ∧ m' ((c.tc : Thread Cert.RgRefIdeal.nD Cert.RgRefIdeal.τ).loc Cert.RgRefIdeal.main_arg6) = m ((c.tc : Thread Cert.RgIdeal.nD Cert.RgIdeal.τ).loc Cert.RgIdeal.main_arg6)
      ∧ m' ((c.tc : Thread Cert.RgRefIdeal.nD Cert.RgRefIdeal.τ).loc Cert.RgRefIdeal.main_arg7) = m ((c.tc : Thread Cert.RgIdeal.nD Cert.RgIdeal.τ).loc Cert.RgIdeal.main_arg7)
      ∧ m' ((c.tc : Thread Cert.RgRefIdeal.nD Cert.RgRefIdeal.τ).loc Cert.RgRefIdeal.main_arg8) = m ((c.tc : Thread Cert.RgIdeal.nD Cert.RgIdeal.τ).loc Cert.RgIdeal.main_arg8)) →
    ∃ (v0 : (c : Dev Cert.RgIdeal.nD) → Buf (Elt Ideal) ((c.tc : Thread Cert.RgIdeal.nD Cert.RgIdeal.τ).loc Cert.RgIdeal.main_v34)),
      θ_run (Cert.RgIdeal.defs (F := Ideal)) (onTc (τ := Cert.RgIdeal.τ) (Cert.RgIdeal.main (F := Ideal))) ⟨m, fun _ => 0, g⟩ (fun r => ∀ c : Dev Cert.RgIdeal.nD,
          r.2.mem ((c.tc : Thread Cert.RgIdeal.nD Cert.RgIdeal.τ).loc Cert.RgIdeal.main_v34) = v0 c
          ∧ r.2.mem ((c.tc : Thread Cert.RgIdeal.nD Cert.RgIdeal.τ).loc Cert.RgIdeal.main_arg0) = m ((c.tc : Thread Cert.RgIdeal.nD Cert.RgIdeal.τ).loc Cert.RgIdeal.main_arg0)
          ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
          ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
          ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
          ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
          ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
          ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
          ∧ r.2.mem ((c.tc : Thread Cert.RgIdeal.nD Cert.RgIdeal.τ).loc Cert.RgIdeal.main_arg7) = m ((c.tc : Thread Cert.RgIdeal.nD Cert.RgIdeal.τ).loc Cert.RgIdeal.main_arg7)
          ∧ r.2.mem ((c.tc : Thread Cert.RgIdeal.nD Cert.RgIdeal.τ).loc Cert.RgIdeal.main_arg8) = m ((c.tc : Thread Cert.RgIdeal.nD Cert.RgIdeal.τ).loc Cert.RgIdeal.main_arg8))
      ∧ θ_run (Cert.RgRefIdeal.defs (F := Ideal)) (onTc (τ := Cert.RgRefIdeal.τ) (Cert.RgRefIdeal.main (F := Ideal))) ⟨m', fun _ => 0, g'⟩ (fun r => ∀ c : Dev Cert.RgRefIdeal.nD,
          r.2.mem ((c.tc : Thread Cert.RgRefIdeal.nD Cert.RgRefIdeal.τ).loc Cert.RgRefIdeal.main_v96) = v0 c
          ∧ r.2.mem ((c.tc : Thread Cert.RgRefIdeal.nD Cert.RgRefIdeal.τ).loc Cert.RgRefIdeal.main_arg0) = m' ((c.tc : Thread Cert.RgRefIdeal.nD Cert.RgRefIdeal.τ).loc Cert.RgRefIdeal.main_arg0)
          ∧ r.2.mem ((c.tc : Thread Cert.RgRefIdeal.nD Cert.RgRefIdeal.τ).loc Cert.RgRefIdeal.main_arg1) = m' ((c.tc : Thread Cert.RgRefIdeal.nD Cert.RgRefIdeal.τ).loc Cert.RgRefIdeal.main_arg1)
          ∧ r.2.mem ((c.tc : Thread Cert.RgRefIdeal.nD Cert.RgRefIdeal.τ).loc Cert.RgRefIdeal.main_arg2) = m' ((c.tc : Thread Cert.RgRefIdeal.nD Cert.RgRefIdeal.τ).loc Cert.RgRefIdeal.main_arg2)
          ∧ r.2.mem ((c.tc : Thread Cert.RgRefIdeal.nD Cert.RgRefIdeal.τ).loc Cert.RgRefIdeal.main_arg3) = m' ((c.tc : Thread Cert.RgRefIdeal.nD Cert.RgRefIdeal.τ).loc Cert.RgRefIdeal.main_arg3)
          ∧ r.2.mem ((c.tc : Thread Cert.RgRefIdeal.nD Cert.RgRefIdeal.τ).loc Cert.RgRefIdeal.main_arg4) = m' ((c.tc : Thread Cert.RgRefIdeal.nD Cert.RgRefIdeal.τ).loc Cert.RgRefIdeal.main_arg4)
          ∧ r.2.mem ((c.tc : Thread Cert.RgRefIdeal.nD Cert.RgRefIdeal.τ).loc Cert.RgRefIdeal.main_arg5) = m' ((c.tc : Thread Cert.RgRefIdeal.nD Cert.RgRefIdeal.τ).loc Cert.RgRefIdeal.main_arg5)
          ∧ r.2.mem ((c.tc : Thread Cert.RgRefIdeal.nD Cert.RgRefIdeal.τ).loc Cert.RgRefIdeal.main_arg6) = m' ((c.tc : Thread Cert.RgRefIdeal.nD Cert.RgRefIdeal.τ).loc Cert.RgRefIdeal.main_arg6)
          ∧ r.2.mem ((c.tc : Thread Cert.RgRefIdeal.nD Cert.RgRefIdeal.τ).loc Cert.RgRefIdeal.main_arg7) = m' ((c.tc : Thread Cert.RgRefIdeal.nD Cert.RgRefIdeal.τ).loc Cert.RgRefIdeal.main_arg7)
          ∧ r.2.mem ((c.tc : Thread Cert.RgRefIdeal.nD Cert.RgRefIdeal.τ).loc Cert.RgRefIdeal.main_arg8) = m' ((c.tc : Thread Cert.RgRefIdeal.nD Cert.RgRefIdeal.τ).loc Cert.RgRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)
      ∧ m' ((c.tc : Thread Cert.OutpRefIdeal.nD Cert.OutpRefIdeal.τ).loc Cert.OutpRefIdeal.main_arg5) = m ((c.tc : Thread Cert.OutpIdeal.nD Cert.OutpIdeal.τ).loc Cert.OutpIdeal.main_arg5)) →
    ∃ (v0 : (c : Dev Cert.OutpIdeal.nD) → Buf (Elt Ideal) ((c.tc : Thread Cert.OutpIdeal.nD Cert.OutpIdeal.τ).loc Cert.OutpIdeal.main_v6)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v6) = v0 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
          ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v30) = v0 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4)
          ∧ r.2.mem ((c.tc : Thread Cert.OutpRefIdeal.nD Cert.OutpRefIdeal.τ).loc Cert.OutpRefIdeal.main_arg5) = m' ((c.tc : Thread Cert.OutpRefIdeal.nD Cert.OutpRefIdeal.τ).loc Cert.OutpRefIdeal.main_arg5))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)) →
    ∃ (v0 : (c : Dev Cert.OddIdeal.nD) → Buf (Elt Ideal) ((c.tc : Thread Cert.OddIdeal.nD Cert.OddIdeal.τ).loc Cert.OddIdeal.main_v11)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v11) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v33) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v28)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v28) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v47) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def Claim : Prop :=
  ∃ (hRg : Cert.Rg.Facts) (hRgIdeal : Cert.RgIdeal.Facts) (hRgRefIdeal : Cert.RgRefIdeal.Facts) (hFfn : Cert.Ffn.Facts) (hFfnIdeal : Cert.FfnIdeal.Facts) (hFfnRefIdeal : Cert.FfnRefIdeal.Facts) (hOutp : Cert.Outp.Facts) (hOutpIdeal : Cert.OutpIdeal.Facts) (hOutpRefIdeal : Cert.OutpRefIdeal.Facts) (hOdd : Cert.Odd.Facts) (hOddIdeal : Cert.OddIdeal.Facts) (hOddRefIdeal : Cert.OddRefIdeal.Facts) (hGla : Cert.Gla.Facts) (hGlaIdeal : Cert.GlaIdeal.Facts) (hGlaRefIdeal : Cert.GlaRefIdeal.Facts),
    quiescent_Rg (hRg := hRg)
    ∧ quiescent_RgIdeal (hRgIdeal := hRgIdeal)
    ∧ quiescent_RgRefIdeal (hRgRefIdeal := hRgRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Outp (hOutp := hOutp)
    ∧ quiescent_OutpIdeal (hOutpIdeal := hOutpIdeal)
    ∧ quiescent_OutpRefIdeal (hOutpRefIdeal := hOutpRefIdeal)
    ∧ quiescent_Odd (hOdd := hOdd)
    ∧ quiescent_OddIdeal (hOddIdeal := hOddIdeal)
    ∧ quiescent_OddRefIdeal (hOddRefIdeal := hOddRefIdeal)
    ∧ quiescent_Gla (hGla := hGla)
    ∧ quiescent_GlaIdeal (hGlaIdeal := hGlaIdeal)
    ∧ quiescent_GlaRefIdeal (hGlaRefIdeal := hGlaRefIdeal)
    ∧ preserves_Rg_RgIdeal
    ∧ algebraic_RgIdeal_RgRefIdeal (hRgIdeal := hRgIdeal) (hRgRefIdeal := hRgRefIdeal)
    ∧ preserves_Ffn_FfnIdeal
    ∧ algebraic_FfnIdeal_FfnRefIdeal (hFfnIdeal := hFfnIdeal) (hFfnRefIdeal := hFfnRefIdeal)
    ∧ preserves_Outp_OutpIdeal
    ∧ algebraic_OutpIdeal_OutpRefIdeal (hOutpIdeal := hOutpIdeal) (hOutpRefIdeal := hOutpRefIdeal)
    ∧ preserves_Odd_OddIdeal
    ∧ algebraic_OddIdeal_OddRefIdeal (hOddIdeal := hOddIdeal) (hOddRefIdeal := hOddRefIdeal)
    ∧ preserves_Gla_GlaIdeal
    ∧ algebraic_GlaIdeal_GlaRefIdeal (hGlaIdeal := hGlaIdeal) (hGlaRefIdeal := hGlaRefIdeal)
-- ==== Rg.lean ====
abbrev S16x4096x1024 : Shape := ⟨3, ![16, 4096, 1024]⟩
abbrev S1024x3080 : Shape := ⟨2, ![1024, 3080]⟩
abbrev S4x512 : Shape := ⟨2, ![4, 512]⟩
abbrev S512 : Shape := ⟨1, ![512]⟩
abbrev S8x64x64 : Shape := ⟨3, ![8, 64, 64]⟩
abbrev S1024x512 : Shape := ⟨2, ![1024, 512]⟩
abbrev S1x512 : Shape := ⟨2, ![1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S16x4096x512 : Shape := ⟨3, ![16, 4096, 512]⟩
abbrev S1x256x1024 : Shape := ⟨3, ![1, 256, 1024]⟩
abbrev S1x256x512 : Shape := ⟨3, ![1, 256, 512]⟩
abbrev S264x512 : Shape := ⟨2, ![264, 512]⟩
abbrev S8x512 : Shape := ⟨2, ![8, 512]⟩
abbrev S256x1024 : Shape := ⟨2, ![256, 1024]⟩
abbrev S256x512 : Shape := ⟨2, ![256, 512]⟩

abbrev nBuf : Space → Nat
  | .hbm => 46
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S1024x3080, .f32⟩
  | .hbm, ⟨2, _⟩ => ⟨S4x512, .f32⟩
  | .hbm, ⟨3, _⟩ => ⟨S512, .f32⟩
  | .hbm, ⟨4, _⟩ => ⟨S8x64x64, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1024x512, .f32⟩
  | .hbm, ⟨10, _⟩ => ⟨S1024x512, .f32⟩
  | .hbm, ⟨11, _⟩ => ⟨S1024x512, .bf16⟩
  | .hbm, ⟨12, _⟩ => ⟨S1024x512, .bf16⟩
  | .hbm, ⟨13, _⟩ => ⟨S1x512, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S8x1x8x1, .f32⟩
  | .hbm, ⟨22, _⟩ => ⟨S8x64x1x64, .f32⟩
  | .hbm, ⟨23, _⟩ => ⟨S8x64x8x64, .f32⟩
  | .hbm, ⟨24, _⟩ => ⟨S8x64x8x64, .f32⟩
  | .hbm, ⟨25, _⟩ => ⟨S8x64x8x64, .f32⟩
  | .hbm, ⟨26, _⟩ => ⟨S512x512, .f32⟩
  | .hbm, ⟨27, _⟩ => ⟨S512x512, .bf16⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S8x1x8x1, .f32⟩
  | .hbm, ⟨36, _⟩ => ⟨S8x64x1x64, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S512x512, .f32⟩
  | .hbm, ⟨41, _⟩ => ⟨S512x512, .bf16⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S16x4096x512, .bf16⟩
  | .local _ .vmem, ⟨0, _⟩ => ⟨S1x256x1024, .f32⟩
  | .local _ .vmem, ⟨1, _⟩ => ⟨S1x256x1024, .f32⟩
  | .local _ .vmem, ⟨2, _⟩ => ⟨S1024x512, .bf16⟩
  | .local _ .vmem, ⟨3, _⟩ => ⟨S1024x512, .bf16⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x256x512, .bf16⟩
  | .local _ .vmem, ⟨12, _⟩ => ⟨S1x256x512, .bf16⟩
  | .local _ .vmem, ⟨13, _⟩ => ⟨S264x512, .f32⟩
  | .local _ .vmem, ⟨14, _⟩ => ⟨S8x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RgRefIdeal.lean ====
abbrev S16x4096x1024 : Shape := ⟨3, ![16, 4096, 1024]⟩
abbrev S1024x3080 : Shape := ⟨2, ![1024, 3080]⟩
abbrev S4x512 : Shape := ⟨2, ![4, 512]⟩
abbrev S512 : Shape := ⟨1, ![512]⟩
abbrev S8x64x64 : Shape := ⟨3, ![8, 64, 64]⟩
abbrev S16x4096x3080 : Shape := ⟨3, ![16, 4096, 3080]⟩
abbrev S16x4096x512 : Shape := ⟨3, ![16, 4096, 512]⟩
abbrev S_ : Shape := ⟨0, ![]⟩
abbrev S16x4099x512 : Shape := ⟨3, ![16, 4099, 512]⟩
abbrev S1x512 : Shape := ⟨2, ![1, 512]⟩
abbrev S1x1x512 : Shape := ⟨3, ![1, 1, 512]⟩
abbrev S16x4096x8x64 : Shape := ⟨4, ![16, 4096, 8, 64]⟩
abbrev S8x64x16x4096 : Shape := ⟨4, ![8, 64, 16, 4096]⟩
abbrev S4096x16x512 : Shape := ⟨3, ![4096, 16, 512]⟩
abbrev S16x1x512 : Shape := ⟨3, ![16, 1, 512]⟩
abbrev S16x512 : Shape := ⟨2, ![16, 512]⟩
abbrev S1x16x512 : Shape := ⟨3, ![1, 16, 512]⟩

abbrev nBuf : Space → Nat
  | .hbm => 162
  | .vmem => 0
  | .smem => 0
  | _ => 0

abbrev hbmTy0_0 (i : Nat) : BufTy := match i % 128 with
  | 0 => ⟨S16x4096x1024, .f32⟩
  | 1 => ⟨S1024x3080, .f32⟩
  | 2 => ⟨S4x512, .f32⟩
  | 3 => ⟨S512, .f32⟩
  | 4 => ⟨S8x64x64, .f32⟩
  | 5 => ⟨S8x64x64, .f32⟩
  | 6 => ⟨S512, .f32⟩
  | 7 => ⟨S512, .f32⟩
  | 8 => ⟨S512, .f32⟩
  | 9 => ⟨S16x4096x3080, .f32⟩
  | 10 => ⟨S16x4096x512, .f32⟩
  | 11 => ⟨S16x4096x512, .f32⟩
  | 12 => ⟨S_, .i32⟩
  | 13 => ⟨S_, .f32⟩
  | 14 => ⟨S16x4099x512, .f32⟩
  | 15 => ⟨S1x512, .f32⟩
  | 16 => ⟨S512, .f32⟩
  | 17 => ⟨S16x4096x512, .f32⟩
  | 18 => ⟨S1x1x512, .f32⟩
  | 19 => ⟨S16x4096x512, .f32⟩
  | 20 => ⟨S16x4096x512, .f32⟩
  | 21 => ⟨S1x1x512, .f32⟩
  | 22 => ⟨S16x4096x512, .f32⟩
  | 23 => ⟨S16x4096x512, .f32⟩
  | 24 => ⟨S1x512, .f32⟩
  | 25 => ⟨S512, .f32⟩
  | 26 => ⟨S16x4096x512, .f32⟩
  | 27 => ⟨S1x1x512, .f32⟩
  | 28 => ⟨S16x4096x512, .f32⟩
  | 29 => ⟨S16x4096x512, .f32⟩
  | 30 => ⟨S16x4096x512, .f32⟩
  | 31 => ⟨S1x512, .f32⟩
  | 32 => ⟨S512, .f32⟩
  | 33 => ⟨S16x4096x512, .f32⟩
  | 34 => ⟨S1x1x512, .f32⟩
  | 35 => ⟨S16x4096x512, .f32⟩
  | 36 => ⟨S16x4096x512, .f32⟩
  | 37 => ⟨S16x4096x512, .f32⟩
  | 38 => ⟨S1x512, .f32⟩
  | 39 => ⟨S512, .f32⟩
  | 40 => ⟨S16x4096x512, .f32⟩
  | 41 => ⟨S1x1x512, .f32⟩
  | 42 => ⟨S16x4096x512, .f32⟩
  | 43 => ⟨S16x4096x512, .f32⟩
  | 44 => ⟨S16x4096x512, .f32⟩
  | 45 => ⟨S16x4096x8x64, .f32⟩
  | 46 => ⟨S8x64x16x4096, .f32⟩
  | 47 => ⟨S16x4096x8x64, .f32⟩
  | 48 => ⟨S16x4096x512, .f32⟩
  | 49 => ⟨S1x1x512, .f32⟩
  | 50 => ⟨S16x4096x512, .f32⟩
  | 51 => ⟨S16x4096x512, .f32⟩
  | 52 => ⟨S16x4096x512, .f32⟩
  | 53 => ⟨S16x4096x512, .f32⟩
  | 54 => ⟨S_, .f32⟩
  | 55 => ⟨S16x4096x512, .f32⟩
  | 56 => ⟨S16x4096x512, .f32⟩
  | 57 => ⟨S_, .f32⟩
  | 58 => ⟨S16x4096x512, .f32⟩
  | 59 => ⟨S16x4096x512, .f32⟩
  | 60 => ⟨S8x64x16x4096, .f32⟩
  | 61 => ⟨S16x4096x8x64, .f32⟩
  | 62 => ⟨S16x4096x512, .f32⟩
  | 63 => ⟨S1x1x512, .f32⟩
  | 64 => ⟨S16x4096x512, .f32⟩
  | 65 => ⟨S16x4096x512, .f32⟩
  | 66 => ⟨S16x4096x512, .f32⟩
  | 67 => ⟨S16x4096x512, .f32⟩
  | 68 => ⟨S_, .f32⟩
  | 69 => ⟨S16x4096x512, .f32⟩
  | 70 => ⟨S16x4096x512, .f32⟩
  | 71 => ⟨S_, .f32⟩
  | 72 => ⟨S16x4096x512, .f32⟩
  | 73 => ⟨S16x4096x512, .f32⟩
  | 74 => ⟨S_, .f32⟩
  | 75 => ⟨S16x4096x512, .f32⟩
  | 76 => ⟨S16x4096x512, .f32⟩
  | 77 => ⟨S512, .f32⟩
  | 78 => ⟨S_, .f32⟩
  | 79 => ⟨S512, .f32⟩
  | 80 => ⟨S512, .f32⟩
  | 81 => ⟨S512, .f32⟩
  | 82 => ⟨S512, .f32⟩
  | 83 => ⟨S512, .i1⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S1x1x512, .f32⟩
  | 93 => ⟨S16x4096x512, .f32⟩
  | 94 => ⟨S16x4096x512, .f32⟩
  | 95 => ⟨S16x4096x512, .f32⟩
  | 96 => ⟨S_, .f32⟩
  | 97 => ⟨S16x4096x512, .f32⟩
  | 98 => ⟨S16x4096x512, .f32⟩
  | 99 => ⟨S16x4096x512, .f32⟩
  | 100 => ⟨S16x4096x512, .f32⟩
  | 101 => ⟨S16x4096x512, .f32⟩
  | 102 => ⟨S16x4096x512, .f32⟩
  | 103 => ⟨S16x4096x512, .f32⟩
  | 104 => ⟨S16x4096x512, .f32⟩
  | 105 => ⟨S16x4096x512, .f32⟩
  | 106 => ⟨S_, .f32⟩
  | 107 => ⟨S16x4096x512, .f32⟩
  | 108 => ⟨S16x4096x512, .f32⟩
  | 109 => ⟨S16x4096x512, .f32⟩
  | 110 => ⟨S_, .f32⟩
  | 111 => ⟨S16x4096x512, .f32⟩
  | 112 => ⟨S16x4096x512, .f32⟩
  | 113 => ⟨S16x4096x512, .f32⟩
  | 114 => ⟨S_, .f32⟩
  | 115 => ⟨S16x4096x512, .f32⟩
  | 116 => ⟨S16x4096x512, .f32⟩
  | 117 => ⟨S_, .f32⟩
  | 118 => ⟨S16x4096x512, .f32⟩
  | 119 => ⟨S16x4096x512, .f32⟩
  | 120 => ⟨S16x4096x512, .f32⟩
  | 121 => ⟨S4096x16x512, .f32⟩
  | 122 => ⟨S4096x16x512, .f32⟩
  | 123 => ⟨S4096x16x512, .f32⟩
  | 124 => ⟨S16x1x512, .f32⟩
  | 125 => ⟨S16x512, .f32⟩
  | 126 => ⟨S_, .f32⟩
  | 127 => ⟨S16x512, .f32⟩
  | _ => ⟨S16x4096x1024, .f32⟩

abbrev hbmTy0_1 (i : Nat) : BufTy := match i % 128 with
  | 0 => ⟨S_, .f32⟩
  | 1 => ⟨S4096x16x512, .f32⟩
  | 2 => ⟨S_, .i32⟩
  | 3 => ⟨S4096x16x512, .f32⟩
  | 4 => ⟨S4096x16x512, .f32⟩
  | 5 => ⟨S4096x16x512, .f32⟩
  | 6 => ⟨S_, .i32⟩
  | 7 => ⟨S16x512, .f32⟩
  | 8 => ⟨S4096x16x512, .f32⟩
  | 9 => ⟨S_, .i32⟩
  | 10 => ⟨S_, .i1⟩
  | 11 => ⟨S_, .i32⟩
  | 12 => ⟨S_, .i32⟩
  | 13 => ⟨S1x16x512, .f32⟩
  | 14 => ⟨S16x512, .f32⟩
  | 15 => ⟨S_, .i32⟩
  | 16 => ⟨S_, .i32⟩
  | 17 => ⟨S1x16x512, .f32⟩
  | 18 => ⟨S16x512, .f32⟩
  | 19 => ⟨S_, .i32⟩
  | 20 => ⟨S_, .i32⟩
  | 21 => ⟨S1x16x512, .f32⟩
  | 22 => ⟨S16x512, .f32⟩
  | 23 => ⟨S16x512, .f32⟩
  | 24 => ⟨S16x512, .f32⟩
  | 25 => ⟨S16x512, .f32⟩
  | 26 => ⟨S1x16x512, .f32⟩
  | 27 => ⟨S_, .i32⟩
  | 28 => ⟨S_, .i32⟩
  | 29 => ⟨S4096x16x512, .f32⟩
  | 30 => ⟨S_, .i32⟩
  | 31 => ⟨S_, .i32⟩
  | 32 => ⟨S16x4096x512, .f32⟩
  | 33 => ⟨S16x4096x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_1 : Ref sig .tc := ⟨.hbm, 68, rfl⟩
abbrev main_v55 : Ref sig .tc := ⟨.hbm, 69, rfl⟩
abbrev main_v56 : Ref sig .tc := ⟨.hbm, 70, rfl⟩
abbrev main_cst_2 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_4 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_5 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_6 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_7 : Ref sig .tc := ⟨.hbm, 114, rfl⟩
abbrev main_v82 : Ref sig .tc := ⟨.hbm, 115, rfl⟩
abbrev main_v83 : Ref sig .tc := ⟨.hbm, 116, rfl⟩
abbrev main_cst_8 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_9 : Ref sig .tc := ⟨.hbm, 126, rfl⟩
abbrev main_v92 : Ref sig .tc := ⟨.hbm, 127, rfl⟩
abbrev main_cst_10 : Ref sig .tc := ⟨.hbm, 128, rfl⟩
abbrev main_v93 : Ref sig .tc := ⟨.hbm, 129, rfl⟩
abbrev main_c_11 : Ref sig .tc := ⟨.hbm, 130, rfl⟩
abbrev main_v94_0 : Ref sig .tc := ⟨.hbm, 131, rfl⟩
abbrev main_v94_1 : Ref sig .tc := ⟨.hbm, 132, rfl⟩
abbrev main_v94_2 : Ref sig .tc := ⟨.hbm, 133, rfl⟩
abbrev main_v94_3 : Ref sig .tc := ⟨.hbm, 134, rfl⟩
abbrev main_v94_4 : Ref sig .tc := ⟨.hbm, 135, rfl⟩
abbrev main_v94_5 : Ref sig .tc := ⟨.hbm, 136, rfl⟩
abbrev main_while0c_c_17 : Ref sig .tc := ⟨.hbm, 137, rfl⟩
abbrev main_while0c_v97 : Ref sig .tc := ⟨.hbm, 138, rfl⟩
abbrev main_while0b_call2_c : Ref sig .tc := ⟨.hbm, 139, rfl⟩
abbrev main_while0b_call2_c_0 : Ref sig .tc := ⟨.hbm, 140, rfl⟩
abbrev main_while0b_call2_v0 : Ref sig .tc := ⟨.hbm, 141, rfl⟩
abbrev main_while0b_v97 : Ref sig .tc := ⟨.hbm, 142, rfl⟩
abbrev main_while0b_call3_c : Ref sig .tc := ⟨.hbm, 143, rfl⟩
abbrev main_while0b_call3_c_0 : Ref sig .tc := ⟨.hbm, 144, rfl⟩
abbrev main_while0b_call3_v0 : Ref sig .tc := ⟨.hbm, 145, rfl⟩
abbrev main_while0b_v98 : Ref sig .tc := ⟨.hbm, 146, rfl⟩
abbrev main_while0b_call4_c : Ref sig .tc := ⟨.hbm, 147, rfl⟩
abbrev main_while0b_call4_c_0 : Ref sig .tc := ⟨.hbm, 148, rfl⟩
abbrev main_while0b_call4_v0 : Ref sig .tc := ⟨.hbm, 149, rfl⟩
abbrev main_while0b_v99 : Ref sig .tc := ⟨.hbm, 150, rfl⟩
abbrev main_while0b_v100 : Ref sig .tc := ⟨.hbm, 151, rfl⟩
abbrev main_while0b_v101 : Ref sig .tc := ⟨.hbm, 152, rfl⟩
abbrev main_while0b_v102 : Ref sig .tc := ⟨.hbm, 153, rfl⟩
abbrev main_while0b_call5_v0 : Ref sig .tc := ⟨.hbm, 154, rfl⟩
abbrev main_while0b_call5_c : Ref sig .tc := ⟨.hbm, 155, rfl⟩
abbrev main_while0b_call5_c_0 : Ref sig .tc := ⟨.hbm, 156, rfl⟩
abbrev main_while0b_v103 : Ref sig .tc := ⟨.hbm, 157, rfl⟩
abbrev main_while0b_c_17 : Ref sig .tc := ⟨.hbm, 158, rfl⟩
abbrev main_while0b_v104 : Ref sig .tc := ⟨.hbm, 159, rfl⟩
abbrev main_v95 : Ref sig .tc := ⟨.hbm, 160, rfl⟩
abbrev main_v96 : Ref sig .tc := ⟨.hbm, 161, rfl⟩

abbrev nD : Nat := 1
abbrev τ : Topo := Topo.v7x

variable {F : FTy → Type} [FloatOps F]

abbrev main_while0_count : Scf.Loop 32 := ⟨0#32, 4096#32, 1#32⟩
-- ==== Ffn.lean ====
abbrev S65536x1024 : Shape := ⟨2, ![65536, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S256x1024 : Shape := ⟨2, ![256, 1024]⟩
abbrev S1024x2816 : Shape := ⟨2, ![1024, 2816]⟩
abbrev S256x2816 : Shape := ⟨2, ![256, 2816]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S65536x5632 : Shape := ⟨2, ![65536, 5632]⟩
abbrev S65536x2816 : Shape := ⟨2, ![65536, 2816]⟩
abbrev S65536 : Shape := ⟨1, ![65536]⟩
abbrev S65536x1 : Shape := ⟨2, ![65536, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S65536x1024, .f32⟩
  | .hbm, ⟨7, _⟩ => ⟨S65536x1024, .f32⟩
  | .hbm, ⟨8, _⟩ => ⟨S65536x5632, .f32⟩
  | .hbm, ⟨9, _⟩ => ⟨S65536x2816, .f32⟩
  | .hbm, ⟨10, _⟩ => ⟨S65536x2816, .f32⟩
  | .hbm, ⟨11, _⟩ => ⟨S65536x2816, .f32⟩
  | .hbm, ⟨12, _⟩ => ⟨S65536x2816, .f32⟩
  | .hbm, ⟨13, _⟩ => ⟨S_, .f32⟩
  | .hbm, ⟨14, _⟩ => ⟨S65536x2816, .f32⟩
  | .hbm, ⟨15, _⟩ => ⟨S65536x2816, .f32⟩
  | .hbm, ⟨16, _⟩ => ⟨S_, .f32⟩
  | .hbm, ⟨17, _⟩ => ⟨S65536x2816, .f32⟩
  | .hbm, ⟨18, _⟩ => ⟨S65536x2816, .f32⟩
  | .hbm, ⟨19, _⟩ => ⟨S65536x2816, .f32⟩
  | .hbm, ⟨20, _⟩ => ⟨S65536x2816, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Outp.lean ====
abbrev S65536x512 : Shape := ⟨2, ![65536, 512]⟩
abbrev S65536x1024 : Shape := ⟨2, ![65536, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S512x1024, .f32⟩
  | .hbm, ⟨9, _⟩ => ⟨S512x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutpRefIdeal.lean ====
abbrev S65536x512 : Shape := ⟨2, ![65536, 512]⟩
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S65536x512, .f32⟩
  | .hbm, ⟨7, _⟩ => ⟨S65536x512, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Odd.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S512x1024 : Shape := ⟨2, ![512, 1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 20
  | .vmem => 12
  | .smem => 0
  | _ => 0

abbrev bufTy : (tb : Table) → Fin (tcTables nBuf tb) → BufTy
  | .hbm, ⟨0, _⟩ => ⟨S65536x1024, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S1024x512, .f32⟩
  | .hbm, ⟨8, _⟩ => ⟨S1024x8x64, .f32⟩
  | .hbm, ⟨9, _⟩ => ⟨S_, .i32⟩
  | .hbm, ⟨10, _⟩ => ⟨S_, .f32⟩
  | .hbm, ⟨11, _⟩ => ⟨S1024x8x128, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S512x1024, .f32⟩
  | .hbm, ⟨16, _⟩ => ⟨S512x1024, .bf16⟩
  | .hbm, ⟨17, _⟩ => ⟨S1x1024, .f32⟩
  | .hbm, ⟨18, _⟩ => ⟨S1x1024, .f32⟩
  | .hbm, ⟨19, _⟩ => ⟨S65536x1024, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddRefIdeal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S65536x8x128 : Shape := ⟨3, ![65536, 8, 128]⟩
abbrev S65536x8x64 : Shape := ⟨3, ![65536, 8, 64]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S65536x8x128, .bf16⟩
  | .hbm, ⟨7, _⟩ => ⟨S65536x8x64, .bf16⟩
  | .hbm, ⟨8, _⟩ => ⟨S65536x512, .bf16⟩
  | .hbm, ⟨9, _⟩ => ⟨S65536x512, .f32⟩
  | .hbm, ⟨10, _⟩ => ⟨S65536x512, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | .hbm, ⟨43, _⟩ => ⟨S1x1024, .f32⟩
  | .hbm, ⟨44, _⟩ => ⟨S65536x1024, .f32⟩
  | .hbm, ⟨45, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Gla.lean ====
abbrev S16x4096x1024 : Shape := ⟨3, ![16, 4096, 1024]⟩
abbrev S1024x3216 : Shape := ⟨2, ![1024, 3216]⟩
abbrev S16x256 : Shape := ⟨2, ![16, 256]⟩
abbrev S256 : Shape := ⟨1, ![256]⟩
abbrev S512 : Shape := ⟨1, ![512]⟩
abbrev S1024x1552 : Shape := ⟨2, ![1024, 1552]⟩
abbrev S1024x256 : Shape := ⟨2, ![1024, 256]⟩
abbrev S1024x512 : Shape := ⟨2, ![1024, 512]⟩
abbrev S1024x16 : Shape := ⟨2, ![1024, 16]⟩
abbrev S1024x4x64 : Shape := ⟨3, ![1024, 4, 64]⟩
abbrev S_ : Shape := ⟨0, ![]⟩
abbrev S1024x4x128 : Shape := ⟨3, ![1024, 4, 128]⟩
abbrev S1024x128 : Shape := ⟨2, ![1024, 128]⟩
abbrev S16x4x64 : Shape := ⟨3, ![16, 4, 64]⟩
abbrev S16x4x128 : Shape := ⟨3, ![16, 4, 128]⟩
abbrev S16x512 : Shape := ⟨2, ![16, 512]⟩
abbrev S128x512 : Shape := ⟨2, ![128, 512]⟩
abbrev S4x64 : Shape := ⟨2, ![4, 64]⟩
abbrev S4x128 : Shape := ⟨2, ![4, 128]⟩
abbrev S1x512 : Shape := ⟨2, ![1, 512]⟩
abbrev S16x4096x512 : Shape := ⟨3, ![16, 4096, 512]⟩
abbrev S1x256x1024 : Shape := ⟨3, ![1, 256, 1024]⟩
abbrev S1x256x512 : Shape := ⟨3, ![1, 256, 512]⟩
abbrev S256x512 : Shape := ⟨2, ![256, 512]⟩
abbrev S4x128x128 : Shape := ⟨3, ![4, 128, 128]⟩
abbrev S256x1024 : Shape := ⟨2, ![256, 1024]⟩
abbrev S256x128 : Shape := ⟨2, ![256, 128]⟩
abbrev S256x256 : Shape := ⟨2, ![256, 256]⟩
abbrev S64x64 : Shape := ⟨2, ![64, 64]⟩
abbrev S64x128 : Shape := ⟨2, ![64, 128]⟩
abbrev S1x128x128 : Shape := ⟨3, ![1, 128, 128]⟩
abbrev S128x128 : Shape := ⟨2, ![128, 128]⟩
abbrev S1x128 : Shape := ⟨2, ![1, 128]⟩
abbrev S128x64 : Shape := ⟨2, ![128, 64]⟩
abbrev S64 : Shape := ⟨1, ![64]⟩
abbrev S64x1 : Shape := ⟨2, ![64, 1]⟩
abbrev S1x64x128 : Shape := ⟨3, ![1, 64, 128]⟩

abbrev nBuf : Space → Nat
  | .hbm => 46
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S1024x3216, .f32⟩
  | .hbm, ⟨2, _⟩ => ⟨S16x256, .f32⟩
  | .hbm, ⟨3, _⟩ => ⟨S256, .f32⟩
  | .hbm, ⟨4, _⟩ => ⟨S512, .f32⟩
  | .hbm, ⟨5, _⟩ => ⟨S1024x1552, .f32⟩
  | .hbm, ⟨6, _⟩ => ⟨S1024x256, .f32⟩
  | .hbm, ⟨7, _⟩ => ⟨S1024x256, .f32⟩
  | .hbm, ⟨8, _⟩ => ⟨S1024x512, .f32⟩
  | .hbm, ⟨9, _⟩ => ⟨S1024x16, .f32⟩
  | .hbm, ⟨10, _⟩ => ⟨S1024x512, .f32⟩
  | .hbm, ⟨11, _⟩ => ⟨S1024x4x64, .f32⟩
  | .hbm, ⟨12, _⟩ => ⟨S_, .i32⟩
  | .hbm, ⟨13, _⟩ => ⟨S_, .f32⟩
  | .hbm, ⟨14, _⟩ => ⟨S1024x4x128, .f32⟩
  | .hbm, ⟨15, _⟩ => ⟨S1024x512, .f32⟩
  | .hbm, ⟨16, _⟩ => ⟨S1024x512, .bf16⟩
  | .hbm, ⟨17, _⟩ => ⟨S1024x4x64, .f32⟩
  | .hbm, ⟨18, _⟩ => ⟨S_, .i32⟩
  | .hbm, ⟨19, _⟩ => ⟨S_, .f32⟩
  | .hbm, ⟨20, _⟩ => ⟨S1024x4x128, .f32⟩
  | .hbm, ⟨21, _⟩ => ⟨S1024x512, .f32⟩
  | .hbm, ⟨22, _⟩ => ⟨S1024x512, .bf16⟩
  | .hbm, ⟨23, _⟩ => ⟨S1024x512, .bf16⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x128, .bf16⟩
  | .hbm, ⟨28, _⟩ => ⟨S1024x512, .bf16⟩
  | .hbm, ⟨29, _⟩ => ⟨S16x4x64, .f32⟩
  | .hbm, ⟨30, _⟩ => ⟨S_, .i32⟩
  | .hbm, ⟨31, _⟩ => ⟨S_, .f32⟩
  | .hbm, ⟨32, _⟩ => ⟨S16x4x128, .f32⟩
  | .hbm, ⟨33, _⟩ => ⟨S16x512, .f32⟩
  | .hbm, ⟨34, _⟩ => ⟨S_, .i32⟩
  | .hbm, ⟨35, _⟩ => ⟨S_, .f32⟩
  | .hbm, ⟨36, _⟩ => ⟨S128x512, .f32⟩
  | .hbm, ⟨37, _⟩ => ⟨S128x512, .bf16⟩
  | .hbm, ⟨38, _⟩ => ⟨S4x64, .f32⟩
  | .hbm, ⟨39, _⟩ => ⟨S_, .i32⟩
  | .hbm, ⟨40, _⟩ => ⟨S_, .f32⟩
  | .hbm, ⟨41, _⟩ => ⟨S4x128, .f32⟩
  | .hbm, ⟨42, _⟩ => ⟨S512, .f32⟩
  | .hbm, ⟨43, _⟩ => ⟨S1x512, .f32⟩
  | .hbm, ⟨44, _⟩ => ⟨S1x512, .f32⟩
  | .hbm, ⟨45, _⟩ => ⟨S16x4096x512, .bf16⟩
  | .local _ .vmem, ⟨0, _⟩ => ⟨S1x256x1024, .f32⟩
  | .local _ .vmem, ⟨1, _⟩ => ⟨S1x256x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1024x512, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S1x256x512, .bf16⟩
  | .local _ .vmem, ⟨11, _⟩ => ⟨S1x256x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S4x128x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call2_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_call3_v0 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_call4_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_call5_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32_44 : BitVec 32 := 0#32
  let c4_i32 : BitVec 32 := 4#32
  let v90 : BitVec 32 := Scalar.addi c0_i32_44 c4_i32
  let c1_i32 : BitVec 32 := 1#32
  ⟨c0_i32_44, v90, c1_i32⟩
def k0_mult1 (k0_t1 : Fin k0_t1_loop.trips) : BitVec 32 :=
  let c0_i32_44 : BitVec 32 := 0#32
  let c1_i32 : BitVec 32 := 1#32
  let arg18 : BitVec 32 := Scf.iv c0_i32_44 c1_i32 k0_t1
  let c64_i32 : BitVec 32 := 64#32
  let v91 : BitVec 32 := Scalar.muli arg18 c64_i32
  v91
def k0_off1 (k0_t1 : Fin k0_t1_loop.trips) : Fin 2 → Nat :=
  let c0_i32_44 : BitVec 32 := 0#32
  let c1_i32 : BitVec 32 := 1#32
  let arg18 : BitVec 32 := Scf.iv c0_i32_44 c1_i32 k0_t1
  let c64_i32 : BitVec 32 := 64#32
  let v91 : BitVec 32 := Scalar.muli arg18 c64_i32
  let v92 : BitVec 32 := v91
  let v93 : Index := Scalar.indexCast v92
  let c0_46 : Index := 0#32
  ![v93.toNat, 0]
def k0_off2 (k0_t1 : Fin k0_t1_loop.trips) : Fin 3 → Nat :=
  let c0_70 : Index := 0#32
  let c0_i32_44 : BitVec 32 := 0#32
  let c1_i32 : BitVec 32 := 1#32
  let arg18 : BitVec 32 := Scf.iv c0_i32_44 c1_i32 k0_t1
  let c64_i32 : BitVec 32 := 64#32
  let v91 : BitVec 32 := Scalar.muli arg18 c64_i32
  let v92 : BitVec 32 := v91
  let v161 : Index := Scalar.indexCast v92
  let c0_71 : Index := 0#32
  ![0, v161.toNat, 0]
def k0_off3 (k0_t1 : Fin k0_t1_loop.trips) : Fin 2 → Nat :=
  let c0_i32_44 : BitVec 32 := 0#32
  let c1_i32 : BitVec 32 := 1#32
  let arg18 : BitVec 32 := Scf.iv c0_i32_44 c1_i32 k0_t1
  let c64_i32 : BitVec 32 := 64#32
  let v91 : BitVec 32 := Scalar.muli arg18 c64_i32
  let v92 : BitVec 32 := v91
  let v165 : Index := Scalar.indexCast v92
  let c128 : Index := 128#32
  ![v165.toNat, 128]
def k0_off4 (k0_t1 : Fin k0_t1_loop.trips) : Fin 3 → Nat :=
  let c0_94 : Index := 0#32
  let c0_i32_44 : BitVec 32 := 0#32
  let c1_i32 : BitVec 32 := 1#32
  let arg18 : BitVec 32 := Scf.iv c0_i32_44 c1_i32 k0_t1
  let c64_i32 : BitVec 32 := 64#32
  let v91 : BitVec 32 := Scalar.muli arg18 c64_i32
  let v92 : BitVec 32 := v91
  let v233 : Index := Scalar.indexCast v92
  let c128_95 : Index := 128#32
  ![0, v233.toNat, 128]
def k0_off5 (k0_t1 : Fin k0_t1_loop.trips) : Fin 2 → Nat :=
  let c0_i32_44 : BitVec 32 := 0#32
  let c1_i32 : BitVec 32 := 1#32
  let arg18 : BitVec 32 := Scf.iv c0_i32_44 c1_i32 k0_t1
  let c64_i32 : BitVec 32 := 64#32
  let v91 : BitVec 32 := Scalar.muli arg18 c64_i32
  let v92 : BitVec 32 := v91
  let v237 : Index := Scalar.indexCast v92
  let c256 : Index := 256#32
  ![v237.toNat, 256]
def k0_off6 (k0_t1 : Fin k0_t1_loop.trips) : Fin 3 → Nat :=
  let c0_118 : Index := 0#32
  let c0_i32_44 : BitVec 32 := 0#32
  let c1_i32 : BitVec 32 := 1#32
  let arg18 : BitVec 32 := Scf.iv c0_i32_44 c1_i32 k0_t1
  let c64_i32 : BitVec 32 := 64#32
  let v91 : BitVec 32 := Scalar.muli arg18 c64_i32
  let v92 : BitVec 32 := v91
  let v305 : Index := Scalar.indexCast v92
  let c256_119 : Index := 256#32
  ![0, v305.toNat, 256]
def k0_off7 (k0_t1 : Fin k0_t1_loop.trips) : Fin 2 → Nat :=
  let c0_i32_44 : BitVec 32 := 0#32
  let c1_i32 : BitVec 32 := 1#32
  let arg18 : BitVec 32 := Scf.iv c0_i32_44 c1_i32 k0_t1
  let c64_i32 : BitVec 32 := 64#32
  let v91 : BitVec 32 := Scalar.muli arg18 c64_i32
  let v92 : BitVec 32 := v91
  let v309 : Index := Scalar.indexCast v92
  let c384 : Index := 384#32
  ![v309.toNat, 384]
def k0_off8 (k0_t1 : Fin k0_t1_loop.trips) : Fin 3 → Nat :=
  let c0_142 : Index := 0#32
  let c0_i32_44 : BitVec 32 := 0#32
  let c1_i32 : BitVec 32 := 1#32
  let arg18 : BitVec 32 := Scf.iv c0_i32_44 c1_i32 k0_t1
  let c64_i32 : BitVec 32 := 64#32
  let v91 : BitVec 32 := Scalar.muli arg18 c64_i32
  let v92 : BitVec 32 := v91
  let v377 : Index := Scalar.indexCast v92
  let c384_143 : Index := 384#32
  ![0, v377.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GlaRefIdeal.lean ====
abbrev S16x4096x1024 : Shape := ⟨3, ![16, 4096, 1024]⟩
abbrev S1024x3216 : Shape := ⟨2, ![1024, 3216]⟩
abbrev S16x256 : Shape := ⟨2, ![16, 256]⟩
abbrev S256 : Shape := ⟨1, ![256]⟩
abbrev S512 : Shape := ⟨1, ![512]⟩
abbrev S16x4096x3216 : Shape := ⟨3, ![16, 4096, 3216]⟩
abbrev S16x4096x1552 : Shape := ⟨3, ![16, 4096, 1552]⟩
abbrev S16x4096x256 : Shape := ⟨3, ![16, 4096, 256]⟩
abbrev S16x4096x512 : Shape := ⟨3, ![16, 4096, 512]⟩
abbrev S16x4096x16 : Shape := ⟨3, ![16, 4096, 16]⟩
abbrev S1x1x256 : Shape := ⟨3, ![1, 1, 256]⟩
abbrev S_ : Shape := ⟨0, ![]⟩
abbrev S16x4096x4x64 : Shape := ⟨4, ![16, 4096, 4, 64]⟩
abbrev S16x64x64x4x64 : Shape := ⟨5, ![16, 64, 64, 4, 64]⟩
abbrev S64x16x64x4x64 : Shape := ⟨5, ![64, 16, 64, 4, 64]⟩
abbrev S64x16x4x64x64 : Shape := ⟨5, ![64, 16, 4, 64, 64]⟩
abbrev S16x4096x4x128 : Shape := ⟨4, ![16, 4096, 4, 128]⟩
abbrev S16x64x64x4x128 : Shape := ⟨5, ![16, 64, 64, 4, 128]⟩
abbrev S64x16x64x4x128 : Shape := ⟨5, ![64, 16, 64, 4, 128]⟩
abbrev S64x16x4x64x128 : Shape := ⟨5, ![64, 16, 4, 64, 128]⟩
abbrev S1x1x512 : Shape := ⟨3, ![1, 1, 512]⟩
abbrev S16x4x64x128 : Shape := ⟨4, ![16, 4, 64, 128]⟩
abbrev S1x16x4x64x64 : Shape := ⟨5, ![1, 16, 4, 64, 64]⟩
abbrev S16x4x64x64 : Shape := ⟨4, ![16, 4, 64, 64]⟩
abbrev S1x16x4x64x128 : Shape := ⟨5, ![1, 16, 4, 64, 128]⟩
abbrev S64x64 : Shape := ⟨2, ![64, 64]⟩
abbrev S16x4x1x64 : Shape := ⟨4, ![16, 4, 1, 64]⟩
abbrev S16x4x64 : Shape := ⟨3, ![16, 4, 64]⟩
abbrev S16x4x64x1 : Shape := ⟨4, ![16, 4, 64, 1]⟩

abbrev nBuf : Space → Nat
  | .hbm => 193
  | .vmem => 0
  | .smem => 0
  | _ => 0

abbrev hbmTy0_0 (i : Nat) : BufTy := match i % 128 with
  | 0 => ⟨S16x4096x1024, .f32⟩
  | 1 => ⟨S1024x3216, .f32⟩
  | 2 => ⟨S16x256, .f32⟩
  | 3 => ⟨S256, .f32⟩
  | 4 => ⟨S512, .f32⟩
  | 5 => ⟨S16x4096x3216, .f32⟩
  | 6 => ⟨S16x4096x1552, .f32⟩
  | 7 => ⟨S16x4096x256, .f32⟩
  | 8 => ⟨S16x4096x256, .f32⟩
  | 9 => ⟨S16x4096x512, .f32⟩
  | 10 => ⟨S16x4096x16, .f32⟩
  | 11 => ⟨S16x4096x512, .f32⟩
  | 12 => ⟨S16x4096x256, .f32⟩
  | 13 => ⟨S1x1x256, .f32⟩
  | 14 => ⟨S16x4096x256, .f32⟩
  | 15 => ⟨S16x4096x256, .f32⟩
  | 16 => ⟨S16x4096x256, .f32⟩
  | 17 => ⟨S_, .f32⟩
  | 18 => ⟨S16x4096x256, .f32⟩
  | 19 => ⟨S16x4096x256, .f32⟩
  | 20 => ⟨S16x4096x256, .f32⟩
  | 21 => ⟨S16x4096x256, .f32⟩
  | 22 => ⟨S16x4096x256, .i1⟩
  | 23 => ⟨S16x4096x256, .f32⟩
  | 24 => ⟨S16x4096x256, .f32⟩
  | 25 => ⟨S16x4096x256, .f32⟩
  | 26 => ⟨S16x4096x256, .f32⟩
  | 27 => ⟨S16x4096x256, .f32⟩
  | 28 => ⟨S16x4096x256, .f32⟩
  | 29 => ⟨S16x4096x256, .f32⟩
  | 30 => ⟨S16x4096x256, .f32⟩
  | 31 => ⟨S16x4096x256, .f32⟩
  | 32 => ⟨S_, .f32⟩
  | 33 => ⟨S16x4096x256, .f32⟩
  | 34 => ⟨S16x4096x256, .f32⟩
  | 35 => ⟨S16x4096x4x64, .f32⟩
  | 36 => ⟨S_, .f32⟩
  | 37 => ⟨S16x4096x4x64, .f32⟩
  | 38 => ⟨S16x4096x4x64, .f32⟩
  | 39 => ⟨S16x64x64x4x64, .f32⟩
  | 40 => ⟨S64x16x64x4x64, .f32⟩
  | 41 => ⟨S64x16x4x64x64, .f32⟩
  | 42 => ⟨S16x4096x4x64, .f32⟩
  | 43 => ⟨S16x64x64x4x64, .f32⟩
  | 44 => ⟨S64x16x64x4x64, .f32⟩
  | 45 => ⟨S64x16x4x64x64, .f32⟩
  | 46 => ⟨S16x4096x4x128, .f32⟩
  | 47 => ⟨S16x64x64x4x128, .f32⟩
  | 48 => ⟨S64x16x64x4x128, .f32⟩
  | 49 => ⟨S64x16x4x64x128, .f32⟩
  | 50 => ⟨S16x4096x4x64, .f32⟩
  | 51 => ⟨S16x64x64x4x64, .f32⟩
  | 52 => ⟨S64x16x64x4x64, .f32⟩
  | 53 => ⟨S64x16x4x64x64, .f32⟩
  | 54 => ⟨S16x4096x512, .f32⟩
  | 55 => ⟨S16x4096x512, .f32⟩
  | 56 => ⟨S_, .f32⟩
  | 57 => ⟨S16x4096x512, .f32⟩
  | 58 => ⟨S16x4096x512, .f32⟩
  | 59 => ⟨S_, .f32⟩
  | 60 => ⟨S16x4096x512, .f32⟩
  | 61 => ⟨S16x4096x512, .f32⟩
  | 62 => ⟨S16x4096x512, .f32⟩
  | 63 => ⟨S1x1x512, .f32⟩
  | 64 => ⟨S16x4096x512, .f32⟩
  | 65 => ⟨S16x4096x512, .f32⟩
  | 66 => ⟨S16x4096x4x128, .f32⟩
  | 67 => ⟨S16x64x64x4x128, .f32⟩
  | 68 => ⟨S64x16x64x4x128, .f32⟩
  | 69 => ⟨S64x16x4x64x128, .f32⟩
  | 70 => ⟨S_, .f32⟩
  | 71 => ⟨S16x4x64x128, .f32⟩
  | 72 => ⟨S_, .f32⟩
  | 73 => ⟨S64x16x4x64x128, .f32⟩
  | 74 => ⟨S_, .i32⟩
  | 75 => ⟨S64x16x4x64x64, .f32⟩
  | 76 => ⟨S64x16x4x64x64, .f32⟩
  | 77 => ⟨S64x16x4x64x128, .f32⟩
  | 78 => ⟨S64x16x4x64x64, .f32⟩
  | 79 => ⟨S64x16x4x64x128, .f32⟩
  | 80 => ⟨S_, .i32⟩
  | 81 => ⟨S16x4x64x128, .f32⟩
  | 82 => ⟨S64x16x4x64x128, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S1x16x4x64x64, .f32⟩
  | 90 => ⟨S16x4x64x64, .f32⟩
  | 91 => ⟨S_, .i32⟩
  | 92 => ⟨S_, .i32⟩
  | 93 => ⟨S_, .i32⟩
  | 94 => ⟨S_, .i32⟩
  | 95 => ⟨S1x16x4x64x64, .f32⟩
  | 96 => ⟨S16x4x64x64, .f32⟩
  | 97 => ⟨S_, .i32⟩
  | 98 => ⟨S_, .i32⟩
  | 99 => ⟨S_, .i32⟩
  | 100 => ⟨S_, .i32⟩
  | 101 => ⟨S1x16x4x64x128, .f32⟩
  | 102 => ⟨S16x4x64x128, .f32⟩
  | 103 => ⟨S_, .i32⟩
  | 104 => ⟨S_, .i32⟩
  | 105 => ⟨S_, .i32⟩
  | 106 => ⟨S_, .i32⟩
  | 107 => ⟨S1x16x4x64x64, .f32⟩
  | 108 => ⟨S16x4x64x64, .f32⟩
  | 109 => ⟨S_, .i32⟩
  | 110 => ⟨S_, .i32⟩
  | 111 => ⟨S_, .i32⟩
  | 112 => ⟨S_, .i32⟩
  | 113 => ⟨S1x16x4x64x128, .f32⟩
  | 114 => ⟨S16x4x64x128, .f32⟩
  | 115 => ⟨S_, .f32⟩
  | 116 => ⟨S_, .f32⟩
  | 117 => ⟨S16x4x64x64, .f32⟩
  | 118 => ⟨S16x4x64x64, .f32⟩
  | 119 => ⟨S16x4x64x64, .f32⟩
  | 120 => ⟨S16x4x64x64, .f32⟩
  | 121 => ⟨S16x4x64x64, .f32⟩
  | 122 => ⟨S16x4x64x64, .f32⟩
  | 123 => ⟨S_, .i1⟩
  | 124 => ⟨S64x64, .i1⟩
  | 125 => ⟨S64x64, .i32⟩
  | 126 => ⟨S_, .i32⟩
  | 127 => ⟨S64x64, .i32⟩
  | _ => ⟨S16x4096x1024, .f32⟩

abbrev hbmTy0_1 (i : Nat) : BufTy := match i % 128 with
  | 0 => ⟨S64x64, .i32⟩
  | 1 => ⟨S64x64, .i32⟩
  | 2 => ⟨S64x64, .i1⟩
  | 3 => ⟨S_, .i1⟩
  | 4 => ⟨S64x64, .i1⟩
  | 5 => ⟨S64x64, .i1⟩
  | 6 => ⟨S16x4x64x64, .f32⟩
  | 7 => ⟨S_, .f32⟩
  | 8 => ⟨S_, .f32⟩
  | 9 => ⟨S16x4x64x64, .i1⟩
  | 10 => ⟨S16x4x64x64, .f32⟩
  | 11 => ⟨S16x4x64x64, .f32⟩
  | 12 => ⟨S16x4x64x128, .f32⟩
  | 13 => ⟨S16x4x64x128, .f32⟩
  | 14 => ⟨S16x4x64x128, .f32⟩
  | 15 => ⟨S16x4x1x64, .f32⟩
  | 16 => ⟨S16x4x64, .f32⟩
  | 17 => ⟨S16x4x1x64, .f32⟩
  | 18 => ⟨S16x4x64x64, .f32⟩
  | 19 => ⟨S16x4x64x64, .f32⟩
  | 20 => ⟨S16x4x64x64, .f32⟩
  | 21 => ⟨S16x4x64x64, .f32⟩
  | 22 => ⟨S16x4x64x128, .f32⟩
  | 23 => ⟨S_, .f32⟩
  | 24 => ⟨S16x4x64, .f32⟩
  | 25 => ⟨S16x4x64x1, .f32⟩
  | 26 => ⟨S_, .f32⟩
  | 27 => ⟨S16x4x64x1, .f32⟩
  | 28 => ⟨S16x4x64x1, .f32⟩
  | 29 => ⟨S16x4x64x128, .f32⟩
  | 30 => ⟨S16x4x64x128, .f32⟩
  | 31 => ⟨S16x4x64x128, .f32⟩
  | 32 => ⟨S_, .f32⟩
  | 33 => ⟨S16x4x64, .f32⟩
  | 34 => ⟨S16x4x64x1, .f32⟩
  | 35 => ⟨S_, .f32⟩
  | 36 => ⟨S16x4x64x1, .f32⟩
  | 37 => ⟨S16x4x64x1, .f32⟩
  | 38 => ⟨S16x4x64x128, .f32⟩
  | 39 => ⟨S16x4x64x128, .f32⟩
  | 40 => ⟨S_, .f32⟩
  | 41 => ⟨S16x4x64x1, .f32⟩
  | 42 => ⟨S16x4x64x1, .f32⟩
  | 43 => ⟨S16x4x64x1, .f32⟩
  | 44 => ⟨S16x4x64x128, .f32⟩
  | 45 => ⟨S16x4x64x128, .f32⟩
  | 46 => ⟨S16x4x64x128, .f32⟩
  | 47 => ⟨S16x4x64, .f32⟩
  | 48 => ⟨S16x4x64x1, .f32⟩
  | 49 => ⟨S16x4x64x128, .f32⟩
  | 50 => ⟨S16x4x64x128, .f32⟩
  | 51 => ⟨S16x4x64x128, .f32⟩
  | 52 => ⟨S1x16x4x64x128, .f32⟩
  | 53 => ⟨S_, .i32⟩
  | 54 => ⟨S_, .i32⟩
  | 55 => ⟨S_, .i32⟩
  | 56 => ⟨S_, .i32⟩
  | 57 => ⟨S64x16x4x64x128, .f32⟩
  | 58 => ⟨S_, .i32⟩
  | 59 => ⟨S_, .i32⟩
  | 60 => ⟨S64x16x64x4x128, .f32⟩
  | 61 => ⟨S16x64x64x4x128, .f32⟩
  | 62 => ⟨S16x4096x4x128, .f32⟩
  | 63 => ⟨S16x4096x512, .f32⟩
  | 64 => ⟨S16x4096x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_1 : Ref sig .tc := ⟨.hbm, 70, rfl⟩
abbrev main_v40 : Ref sig .tc := ⟨.hbm, 71, rfl⟩
abbrev main_cst_2 : Ref sig .tc := ⟨.hbm, 72, rfl⟩
abbrev main_v41 : Ref sig .tc := ⟨.hbm, 73, rfl⟩
abbrev main_c : Ref sig .tc := ⟨.hbm, 74, rfl⟩
abbrev main_v42_0 : Ref sig .tc := ⟨.hbm, 75, rfl⟩
abbrev main_v42_1 : Ref sig .tc := ⟨.hbm, 76, rfl⟩
abbrev main_v42_2 : Ref sig .tc := ⟨.hbm, 77, rfl⟩
abbrev main_v42_3 : Ref sig .tc := ⟨.hbm, 78, rfl⟩
abbrev main_v42_4 : Ref sig .tc := ⟨.hbm, 79, rfl⟩
abbrev main_v42_5 : Ref sig .tc := ⟨.hbm, 80, rfl⟩
abbrev main_v42_6 : Ref sig .tc := ⟨.hbm, 81, rfl⟩
abbrev main_v42_7 : Ref sig .tc := ⟨.hbm, 82, rfl⟩
abbrev main_while0c_c_10 : Ref sig .tc := ⟨.hbm, 83, rfl⟩
abbrev main_while0c_v48 : Ref sig .tc := ⟨.hbm, 84, rfl⟩
abbrev main_while0b_call2_c : Ref sig .tc := ⟨.hbm, 85, rfl⟩
abbrev main_while0b_call2_c_0 : Ref sig .tc := ⟨.hbm, 86, rfl⟩
abbrev main_while0b_call2_c_1 : Ref sig .tc := ⟨.hbm, 87, rfl⟩
abbrev main_while0b_call2_c_2 : Ref sig .tc := ⟨.hbm, 88, rfl⟩
abbrev main_while0b_call2_v0 : Ref sig .tc := ⟨.hbm, 89, rfl⟩
abbrev main_while0b_v48 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_c_2 : Ref sig .tc := ⟨.hbm, 94, rfl⟩
abbrev main_while0b_call3_v0 : Ref sig .tc := ⟨.hbm, 95, rfl⟩
abbrev main_while0b_v49 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_call4_c_1 : Ref sig .tc := ⟨.hbm, 99, rfl⟩
abbrev main_while0b_call4_c_2 : Ref sig .tc := ⟨.hbm, 100, rfl⟩
abbrev main_while0b_call4_v0 : Ref sig .tc := ⟨.hbm, 101, rfl⟩
abbrev main_while0b_v50 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v0 : Ref sig .tc := ⟨.hbm, 107, rfl⟩
abbrev main_while0b_v51 : Ref sig .tc := ⟨.hbm, 108, rfl⟩
abbrev main_while0b_call6_c : Ref sig .tc := ⟨.hbm, 109, rfl⟩
abbrev main_while0b_call6_c_0 : Ref sig .tc := ⟨.hbm, 110, rfl⟩
abbrev main_while0b_call6_c_1 : Ref sig .tc := ⟨.hbm, 111, rfl⟩
abbrev main_while0b_call6_c_2 : Ref sig .tc := ⟨.hbm, 112, rfl⟩
abbrev main_while0b_call6_v0 : Ref sig .tc := ⟨.hbm, 113, rfl⟩
abbrev main_while0b_v52 : Ref sig .tc := ⟨.hbm, 114, rfl⟩
abbrev main_while0b_call7_call0_cst : Ref sig .tc := ⟨.hbm, 115, rfl⟩
abbrev main_while0b_call7_call0_v0 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_v56 : Ref sig .tc := ⟨.hbm, 120, rfl⟩
abbrev main_while0b_v57 : Ref sig .tc := ⟨.hbm, 121, rfl⟩
abbrev main_while0b_v58 : Ref sig .tc := ⟨.hbm, 122, rfl⟩
abbrev main_while0b_c_10 : Ref sig .tc := ⟨.hbm, 123, rfl⟩
abbrev main_while0b_v59 : Ref sig .tc := ⟨.hbm, 124, rfl⟩
abbrev main_while0b_call8_v0 : Ref sig .tc := ⟨.hbm, 125, rfl⟩
abbrev main_while0b_call8_c : Ref sig .tc := ⟨.hbm, 126, rfl⟩
abbrev main_while0b_call8_v1 : Ref sig .tc := ⟨.hbm, 127, rfl⟩
abbrev main_while0b_call8_v2 : Ref sig .tc := ⟨.hbm, 128, rfl⟩
abbrev main_while0b_call8_v3 : Ref sig .tc := ⟨.hbm, 129, rfl⟩
abbrev main_while0b_call8_v4 : Ref sig .tc := ⟨.hbm, 130, rfl⟩
abbrev main_while0b_call8_c_0 : Ref sig .tc := ⟨.hbm, 131, rfl⟩
abbrev main_while0b_call8_v5 : Ref sig .tc := ⟨.hbm, 132, rfl⟩
abbrev main_while0b_v60 : Ref sig .tc := ⟨.hbm, 133, rfl⟩
abbrev main_while0b_v61 : Ref sig .tc := ⟨.hbm, 134, rfl⟩
abbrev main_while0b_cst_11 : Ref sig .tc := ⟨.hbm, 135, rfl⟩
abbrev main_while0b_call9_v0 : Ref sig .tc := ⟨.hbm, 136, rfl⟩
abbrev main_while0b_call9_v1 : Ref sig .tc := ⟨.hbm, 137, rfl⟩
abbrev main_while0b_call9_v2 : Ref sig .tc := ⟨.hbm, 138, rfl⟩
abbrev main_while0b_v62 : Ref sig .tc := ⟨.hbm, 139, rfl⟩
abbrev main_while0b_v63 : Ref sig .tc := ⟨.hbm, 140, rfl⟩
abbrev main_while0b_v64 : Ref sig .tc := ⟨.hbm, 141, rfl⟩
abbrev main_while0b_v65 : Ref sig .tc := ⟨.hbm, 142, rfl⟩
abbrev main_while0b_v66 : Ref sig .tc := ⟨.hbm, 143, rfl⟩
abbrev main_while0b_v67 : Ref sig .tc := ⟨.hbm, 144, rfl⟩
abbrev main_while0b_v68 : Ref sig .tc := ⟨.hbm, 145, rfl⟩
abbrev main_while0b_v69 : Ref sig .tc := ⟨.hbm, 146, rfl⟩
abbrev main_while0b_v70 : Ref sig .tc := ⟨.hbm, 147, rfl⟩
abbrev main_while0b_v71 : Ref sig .tc := ⟨.hbm, 148, rfl⟩
abbrev main_while0b_v72 : Ref sig .tc := ⟨.hbm, 149, rfl⟩
abbrev main_while0b_v73 : Ref sig .tc := ⟨.hbm, 150, rfl⟩
abbrev main_while0b_cst_12 : Ref sig .tc := ⟨.hbm, 151, rfl⟩
abbrev main_while0b_v74 : Ref sig .tc := ⟨.hbm, 152, rfl⟩
abbrev main_while0b_v75 : Ref sig .tc := ⟨.hbm, 153, rfl⟩
abbrev main_while0b_cst_13 : Ref sig .tc := ⟨.hbm, 154, rfl⟩
abbrev main_while0b_v76 : Ref sig .tc := ⟨.hbm, 155, rfl⟩
abbrev main_while0b_v77 : Ref sig .tc := ⟨.hbm, 156, rfl⟩
abbrev main_while0b_v78 : Ref sig .tc := ⟨.hbm, 157, rfl⟩
abbrev main_while0b_v79 : Ref sig .tc := ⟨.hbm, 158, rfl⟩
abbrev main_while0b_v80 : Ref sig .tc := ⟨.hbm, 159, rfl⟩
abbrev main_while0b_cst_14 : Ref sig .tc := ⟨.hbm, 160, rfl⟩
abbrev main_while0b_v81 : Ref sig .tc := ⟨.hbm, 161, rfl⟩
abbrev main_while0b_v82 : Ref sig .tc := ⟨.hbm, 162, rfl⟩
abbrev main_while0b_cst_15 : Ref sig .tc := ⟨.hbm, 163, rfl⟩
abbrev main_while0b_v83 : Ref sig .tc := ⟨.hbm, 164, rfl⟩
abbrev main_while0b_v84 : Ref sig .tc := ⟨.hbm, 165, rfl⟩
abbrev main_while0b_v85 : Ref sig .tc := ⟨.hbm, 166, rfl⟩
abbrev main_while0b_v86 : Ref sig .tc := ⟨.hbm, 167, rfl⟩
abbrev main_while0b_cst_16 : Ref sig .tc := ⟨.hbm, 168, rfl⟩
abbrev main_while0b_v87 : Ref sig .tc := ⟨.hbm, 169, rfl⟩
abbrev main_while0b_v88 : Ref sig .tc := ⟨.hbm, 170, rfl⟩
abbrev main_while0b_v89 : Ref sig .tc := ⟨.hbm, 171, rfl⟩
abbrev main_while0b_v90 : Ref sig .tc := ⟨.hbm, 172, rfl⟩
abbrev main_while0b_v91 : Ref sig .tc := ⟨.hbm, 173, rfl⟩
abbrev main_while0b_v92 : Ref sig .tc := ⟨.hbm, 174, rfl⟩
abbrev main_while0b_v93 : Ref sig .tc := ⟨.hbm, 175, rfl⟩
abbrev main_while0b_v94 : Ref sig .tc := ⟨.hbm, 176, rfl⟩
abbrev main_while0b_v95 : Ref sig .tc := ⟨.hbm, 177, rfl⟩
abbrev main_while0b_v96 : Ref sig .tc := ⟨.hbm, 178, rfl⟩
abbrev main_while0b_v97 : Ref sig .tc := ⟨.hbm, 179, rfl⟩
abbrev main_while0b_call10_v0 : Ref sig .tc := ⟨.hbm, 180, rfl⟩
abbrev main_while0b_call10_c : Ref sig .tc := ⟨.hbm, 181, rfl⟩
abbrev main_while0b_call10_c_0 : Ref sig .tc := ⟨.hbm, 182, rfl⟩
abbrev main_while0b_call10_c_1 : Ref sig .tc := ⟨.hbm, 183, rfl⟩
abbrev main_while0b_call10_c_2 : Ref sig .tc := ⟨.hbm, 184, rfl⟩
abbrev main_while0b_v98 : Ref sig .tc := ⟨.hbm, 185, rfl⟩
abbrev main_while0b_c_17 : Ref sig .tc := ⟨.hbm, 186, rfl⟩
abbrev main_while0b_v99 : Ref sig .tc := ⟨.hbm, 187, rfl⟩
abbrev main_v43 : Ref sig .tc := ⟨.hbm, 188, rfl⟩
abbrev main_v44 : Ref sig .tc := ⟨.hbm, 189, rfl⟩
abbrev main_v45 : Ref sig .tc := ⟨.hbm, 190, rfl⟩
abbrev main_v46 : Ref sig .tc := ⟨.hbm, 191, rfl⟩
abbrev main_v47 : Ref sig .tc := ⟨.hbm, 192, rfl⟩

abbrev nD : Nat := 1
abbrev τ : Topo := Topo.v7x

variable {F : FTy → Type} [FloatOps F]

abbrev main_while0_count : Scf.Loop 32 := ⟨0#32, 64#32, 1#32⟩
-- ==== Proof.Rows.lean ====
/- Row functions over the extended reals: layer normalisation of one row, the gated feed-forward of one row, and the
   output projection of one row. The kernels and the references are both shown to compute these. -/
module

public import Idealize.ShloMosaic.Lib.Pointwise

@[expose] public section

noncomputable section

namespace Rows

open Idealize.ShloMosaic

/-- Layer normalisation of the row `r` at place `l`: the centred value over the root of the mean square (plus the
    small constant), scaled by `g` and shifted by `b`. -/
def lnRow (r : Fin 1024 → EReal) (g b : Fin 1024 → EReal) (l : Fin 1024) : EReal :=
  (r l - Ideal.div (∑ k, r k) (Ideal.ofBits .f32 0x44800000#32))
    * Ideal.rsqrt (Ideal.div (∑ j, (r j - Ideal.div (∑ k, r k) (Ideal.ofBits .f32 0x44800000#32))
        * (r j - Ideal.div (∑ k, r k) (Ideal.ofBits .f32 0x44800000#32))) (Ideal.ofBits .f32 0x44800000#32)
      + Ideal.ofBits .f32 0x3727C5AC#32) * g l + b l

/-- The hidden layer of the gated feed-forward at place `n`: the gate column times its logistic, times the up column. -/
def hidRow (x : Fin 1024 → EReal) (wg wu : Fin 1024 → Fin 2816 → EReal) (n : Fin 2816) : EReal :=
  (∑ k, x k * wg k n) * Ideal.logistic (∑ k, x k * wg k n) * (∑ k, x k * wu k n)

/-- The residual row of the feed-forward: the scaled input plus half of the hidden layer times the second matrix. -/
def ffnRow (x : Fin 1024 → EReal) (wg wu : Fin 1024 → Fin 2816 → EReal) (wo : Fin 2816 → Fin 1024 → EReal)
    (l : Fin 1024) : EReal :=
  Ideal.ofBits .f32 0x3FD744FD#32 * x l + Ideal.ofBits .f32 0x3F000000#32 * ∑ n, hidRow x wg wu n * wo n l

/-- The residual row of the output projection: the scaled input plus the two mixers' outputs, each times its half of the
    matrix. -/
def outRow (ya yb : Fin 512 → EReal) (x : Fin 1024 → EReal) (wa wb : Fin 512 → Fin 1024 → EReal) (l : Fin 1024) : EReal :=
  Ideal.ofBits .f32 0x3FD744FD#32 * x l + ((∑ k, ya k * wa k l) + ∑ k, yb k * wb k l)

/-- A sum over 1024 places is the sum over the first 512 plus the sum over the last 512. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

end Rows

end
-- ==== Proof.FfnKer.lean ====
/- The feed-forward kernel at the extended reals: its result array, read at an index, is the layer-normalised feed-forward
   of the index's row. -/
module

public import proofs.«01_k».proof.Proof.Rows
public import proofs.«01_k».proof.Proof.Gen.FfnIdeal.Value
public import Idealize.ShloMosaic.Lib.Pipeline.ValueKit
public import Idealize.ShloMosaic.Lib.Claim

@[expose] public section

set_option maxRecDepth 16384

noncomputable section

namespace Cert.FfnIdeal.RefValue

open Cert.FfnIdeal Cert.FfnIdeal.Gen Idealize.ShloMosaic Idealize.ShloMosaic.TcCoe Idealize.SL.Sem Rows

/-- The stored payload of one block, from the block's operands. -/
abbrev pay (P0 : Vec Ideal S256x1024 .f32) (P1 P2 : Vec Ideal S1024x2816 .bf16) (P3 : Vec Ideal S2816x1024 .bf16)
    (P4 P5 : Vec Ideal S1x1024 .f32) : Vec Ideal S256x1024 .f32 :=
  k0_pay1 (k0_pay2 P4) (k0_pay3 P5) (k0_pay4 P0 P1 P2 P3) (k0_pay5 P0 P1 P2 P3)

/-- The residual row of block row `r`. -/
abbrev rowOf (P0 : Vec Ideal S256x1024 .f32) (P1 P2 : Vec Ideal S1024x2816 .bf16) (P3 : Vec Ideal S2816x1024 .bf16)
    (r : Fin 256) : Fin 1024 → EReal :=
  ffnRow (fun k => P0 (ix2 r k)) (fun k n => P1 (ix2 k n)) (fun k n => P2 (ix2 k n)) (fun n l => P3 (ix2 n l))

/-- The centred residual at an index of the block. -/
theorem pay4_apply (P0 : Vec Ideal S256x1024 .f32) (P1 P2 : Vec Ideal S1024x2816 .bf16) (P3 : Vec Ideal S2816x1024 .bf16)
    (r : Fin 256) (l : Fin 1024) :
    k0_pay4 P0 P1 P2 P3 (ix2 r l) = rowOf P0 P1 P2 P3 r l
      - Ideal.div (∑ k, rowOf P0 P1 P2 P3 r k) (Ideal.ofBits .f32 0x44800000#32) := by
  pointwise [k0_pay4]
  rfl

/-- The mean square plus the small constant, at a row of the block. -/
theorem pay5_apply (P0 : Vec Ideal S256x1024 .f32) (P1 P2 : Vec Ideal S1024x2816 .bf16) (P3 : Vec Ideal S2816x1024 .bf16)
    (r : Fin 256) (z : Fin 1) :
    k0_pay5 P0 P1 P2 P3 (ix2 r z) = Ideal.div (∑ j : Fin 1024, k0_pay4 P0 P1 P2 P3 (ix2 r j) * k0_pay4 P0 P1 P2 P3 (ix2 r j))
      (Ideal.ofBits .f32 0x44800000#32) + Ideal.ofBits .f32 0x3727C5AC#32 := by
  unfold k0_pay5
  generalize k0_pay4 P0 P1 P2 P3 = q
  pointwise

/-- The payload at an index is the normalised feed-forward of the block's row. -/
theorem pay_apply (P0 : Vec Ideal S256x1024 .f32) (P1 P2 : Vec Ideal S1024x2816 .bf16) (P3 : Vec Ideal S2816x1024 .bf16)
    (P4 P5 : Vec Ideal S1x1024 .f32) (r : Fin 256) (l : Fin 1024) :
    pay P0 P1 P2 P3 P4 P5 (ix2 r l) = lnRow (rowOf P0 P1 P2 P3 r) (fun k => P4 (ix2 0 k)) (fun k => P5 (ix2 0 k)) l := by
  have h5 := fun z => pay5_apply P0 P1 P2 P3 r z
  simp only [pay4_apply] at h5
  have h4 := pay4_apply P0 P1 P2 P3 r l
  unfold pay
  generalize k0_pay5 P0 P1 P2 P3 = q5 at *
  generalize k0_pay4 P0 P1 P2 P3 = q4 at *
  pointwise [k0_pay1, k0_pay2, k0_pay3]
  rw [h4, h5]
  rfl

variable (m : (ℓ : Loc nD τ sig) → Buf (Elt Ideal) ℓ)

/-- The result as one function of the argument arrays. -/
def G (c : Dev nD) (j : S65536x1024.Idx) : EReal :=
  lnRow (ffnRow (fun k => (m ((c : Thread nD τ).loc main_arg0) : FVec Ideal S65536x1024 .f32) (ix2 (j 0) k))
        (fun k n => (m ((c : Thread nD τ).loc main_arg1) : FVec Ideal S1024x5632 .f32) (ix2 k ⟨n.val, by omega⟩))
        (fun k n => (m ((c : Thread nD τ).loc main_arg1) : FVec Ideal S1024x5632 .f32) (ix2 k ⟨2816 + n.val, by omega⟩))
        (fun n l => (m ((c : Thread nD τ).loc main_arg2) : FVec Ideal S2816x1024 .f32) (ix2 n l)))
        (fun k => (m ((c : Thread nD τ).loc main_arg3) : FVec Ideal S1024 .f32) (ix1 k))
        (fun k => (m ((c : Thread nD τ).loc main_arg4) : FVec Ideal S1024 .f32) (ix1 k)) (j 1)

/-- The row window's block index is the point; the other windows stay at the origin. -/
theorem idx : ∀ t : Fin cfg0.N, (win0_0.index t = ![t.val, 0] ∧ win0_1.index t = ![0, 0] ∧ win0_2.index t = ![0, 0])
    ∧ win0_3.index t = ![0, 0] ∧ win0_4.index t = ![0, 0] ∧ win0_5.index t = ![t.val, 0] :=
  (by decide +kernel : ∀ t : Fin grid0.N, (win0_0.index t = ![t.val, 0] ∧ win0_1.index t = ![0, 0] ∧ win0_2.index t = ![0, 0])
    ∧ win0_3.index t = ![0, 0] ∧ win0_4.index t = ![0, 0] ∧ win0_5.index t = ![t.val, 0])

theorem hz : (![0, 0] : Fin 2 → Nat) = fun _ => 0 := funext fun a => by fin_cases a <;> rfl

variable (c : Dev nD) (t : Fin cfg0.N)

/-- The array row of block row `r` at point `t`. -/
abbrev rowIx (r : Fin 256) : Fin 65536 := ⟨t.val * 256 + r.val, by have := t.isLt; have : cfg0.N = 256 := N_0; omega⟩

/-- The input rows of the point's block. -/
theorem blk0 (r : Fin 256) (k : Fin 1024) : View.ld (iblk m c 0 t) r0_0 (ix2 r k)
    = (m ((c : Thread nD τ).loc main_arg0) : FVec Ideal S65536x1024 .f32) (ix2 (rowIx t r) k) := by
  refine (congrFun (View.ld_unit_zero (S := S256x1024) hz inb_S256x1024_S256x1024_0_0 (iblk m c 0 t)) (ix2 r k)).trans ?_
  blk_ext! [iblk, V_main_arg0, idx t]

/-- The gate columns of the first matrix. -/
theorem blk1 (k : Fin 1024) (n : Fin 2816) : View.ld (iblk m c 1 t) r0_1 (ix2 k n)
    = (m ((c : Thread nD τ).loc main_arg1) : FVec Ideal S1024x5632 .f32) (ix2 k ⟨n.val, by omega⟩) := by
  have e : View.ld (iblk m c 1 t) r0_1 (ix2 k n) = iblk m c 1 t (ix2 k ⟨n.val, by omega⟩) := by
    unfold r0_1; pointwise
  rw [e]
  blk_ext! [iblk, idx t]

/-- The up columns of the first matrix. -/
theorem blk2 (k : Fin 1024) (n : Fin 2816) : View.ld (iblk m c 1 t) r0_2 (ix2 k n)
    = (m ((c : Thread nD τ).loc main_arg1) : FVec Ideal S1024x5632 .f32) (ix2 k ⟨2816 + n.val, by omega⟩) := by
  have e : View.ld (iblk m c 1 t) r0_2 (ix2 k n) = iblk m c 1 t (ix2 k ⟨2816 + n.val, by omega⟩) := by
    unfold r0_2; pointwise
  rw [e]
  blk_ext! [iblk, idx t]

/-- The second matrix. -/
theorem blk3 (n : Fin 2816) (l : Fin 1024) : View.ld (iblk m c 2 t) r0_3 (ix2 n l)
    = (m ((c : Thread nD τ).loc main_arg2) : FVec Ideal S2816x1024 .f32) (ix2 n l) := by
  refine (congrFun (View.ld_unit_zero (S := S2816x1024) hz inb_S2816x1024_S2816x1024_0_0 (iblk m c 2 t)) (ix2 n l)).trans ?_
  blk_ext! [iblk, idx t]

/-- The scale. -/
theorem blk4 (l : Fin 1024) : View.ld (iblk m c 3 t) r0_4 (ix2 0 l)
    = (m ((c : Thread nD τ).loc main_arg3) : FVec Ideal S1024 .f32) (ix1 l) := by
  refine (congrFun (View.ld_unit_zero (S := S1x1024) hz inb_S1x1024_S1x1024_0_0 (iblk m c 3 t)) (ix2 0 l)).trans ?_
  blk_ext! [iblk, idx t]

/-- The shift. -/
theorem blk5 (l : Fin 1024) : View.ld (iblk m c 4 t) r0_4 (ix2 0 l)
    = (m ((c : Thread nD τ).loc main_arg4) : FVec Ideal S1024 .f32) (ix1 l) := by
  refine (congrFun (View.ld_unit_zero (S := S1x1024) hz inb_S1x1024_S1x1024_0_0 (iblk m c 4 t)) (ix2 0 l)).trans ?_
  blk_ext! [iblk, idx t]

/-- What point `t` stores at block index `(r, l)` is `G` at the array's index. -/
theorem point (r : Fin 256) (l : Fin 1024) :
    pay (View.ld (iblk m c 0 t) r0_0) (View.ld (iblk m c 1 t) r0_1) (View.ld (iblk m c 1 t) r0_2)
      (View.ld (iblk m c 2 t) r0_3) (View.ld (iblk m c 3 t) r0_4) (View.ld (iblk m c 4 t) r0_4) (ix2 r l)
      = G m c (ix2 (rowIx t r) l) := by
  refine (pay_apply _ _ _ _ _ _ r l).trans ?_
  simp only [rowOf, blk0, blk1, blk2, blk3, blk4, blk5]
  rfl

/-- Where the output window's block lies in its array. -/
theorem emb5 (r : Fin 256) (l : Fin 1024) :
    (win0_5.blk t).view.emb (ix2 r l : S256x1024.Idx) = (ix2 (rowIx t r) l : S65536x1024.Idx) := by
  blk_ext [idx t]

omit c t in
/-- The result array after the run is `G` of the argument arrays. -/
theorem final5 (c : Dev nD) : (dats m 0 c).arrAt 5 cfg0.N = G m c := by
  refine (dats m 0 c).arrAt_eq_of_covers 5 _ (by decide +kernel) fun t hf y => ?_
  blk_simp
  rw [after0_5]
  unfold out0_5
  rw [View.canon_unit_zero hz]
  have ey : y = (ix2 (y 0) (y 1) : S256x1024.Idx) := by blk_ext
  rw [ey]
  exact (point m c t (y 0) (y 1)).trans (congrArg (G m c) (emb5 t (y 0) (y 1)).symm)

end Cert.FfnIdeal.RefValue

end
-- ==== Proof.FfnRef.lean ====
/- The feed-forward reference read at an index: its result is the layer-normalised feed-forward of the index's row. -/
module

public import proofs.«01_k».proof.Proof.Rows
public import proofs.«01_k».proof.Proof.Gen.FfnRefIdeal.Run

@[expose] public section

set_option maxRecDepth 16384

noncomputable section

namespace Cert.FfnRefIdeal.RefValue

open Cert.FfnRefIdeal Cert.FfnRefIdeal.Gen Idealize.ShloMosaic Idealize.ShloMosaic.TcCoe Idealize.SL.Sem Idealize.ShloMosaic.StableHlo Rows

/-- The gate and up columns' product with the input. -/
def proj (x : FVec Ideal S65536x1024 .f32) (wi : FVec Ideal S1024x5632 .f32) : FVec Ideal S65536x5632 .f32 :=
  Host.dotGeneral dot_S65536x1024_S1024x5632_S65536x5632_1_0_0_1_n_n none x wi

/-- The gated hidden layer from the product. -/
def hid (p : FVec Ideal S65536x5632 .f32) : FVec Ideal S65536x2816 .f32 :=
  mulf (mulf (extractStridedSlice S65536x2816 ![0, 0] p slices_S65536x5632_S65536x2816_0_0)
    (Host.divf (broadcastInDim S65536x2816 ![] bcast_S_S65536x2816 (constant S_ .f32 0x3F800000#32))
      (addf (broadcastInDim S65536x2816 ![] bcast_S_S65536x2816 (constant S_ .f32 0x3F800000#32))
        (Host.exp (Host.negf (extractStridedSlice S65536x2816 ![0, 0] p slices_S65536x5632_S65536x2816_0_0))))))
    (extractStridedSlice S65536x2816 ![0, 2816] p slices_S65536x5632_S65536x2816_0_2816)

/-- The residual. -/
def resid (x : FVec Ideal S65536x1024 .f32) (h : FVec Ideal S65536x2816 .f32) (wo : FVec Ideal S2816x1024 .f32) :
    FVec Ideal S65536x1024 .f32 :=
  addf (mulf (broadcastInDim S65536x1024 ![] bcast_S_S65536x1024 (constant S_ .f32 0x3FD744FD#32)) x)
    (mulf (broadcastInDim S65536x1024 ![] bcast_S_S65536x1024 (constant S_ .f32 0x3F000000#32))
      (Host.dotGeneral dot_S65536x2816_S2816x1024_S65536x1024_1_0_0_1_n_n none h wo))

/-- The mean of each row, as a column. -/
def meanCol (r : FVec Ideal S65536x1024 .f32) : FVec Ideal S65536x1 .f32 :=
  Host.divf (broadcastInDim S65536x1 ![0] bcast_S65536_S65536x1_0
      (Host.reduceAdd r (constant S_ .f32 0x00000000#32) reducesTo_S65536x1024_S65536_d1 h_S_))
    (broadcastInDim S65536x1 ![] bcast_S_S65536x1 (constant S_ .f32 0x44800000#32))

/-- The row less its mean. -/
def cen (r : FVec Ideal S65536x1024 .f32) : FVec Ideal S65536x1024 .f32 :=
  subf r (broadcastInDim S65536x1024 ![0, 1] bcast_S65536x1_S65536x1024_0_1 (meanCol r))

/-- Layer normalisation of every row. -/
def ln (r : FVec Ideal S65536x1024 .f32) (g b : FVec Ideal S1024 .f32) : FVec Ideal S65536x1024 .f32 :=
  addf (mulf (mulf (cen r) (broadcastInDim S65536x1024 ![0, 1] bcast_S65536x1_S65536x1024_0_1
      (Host.rsqrt (addf (meanCol (mulf (cen r) (cen r)))
        (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

/-- The printed result is the stages composed. -/
theorem res_eq (m : (ℓ : Loc nD τ sig) → Buf (Elt Ideal) ℓ) (c : Dev nD) :
    Value.res_out0 m c = ln (resid (m ((c : Thread nD τ).loc main_arg0))
      (hid (proj (m ((c : Thread nD τ).loc main_arg0)) (m ((c : Thread nD τ).loc main_arg1))))
      (m ((c : Thread nD τ).loc main_arg2))) (m ((c : Thread nD τ).loc main_arg3)) (m ((c : Thread nD τ).loc main_arg4)) := rfl

theorem proj_apply (x : FVec Ideal S65536x1024 .f32) (wi : FVec Ideal S1024x5632 .f32) (r : Fin 65536) (n : Fin 5632) :
    proj x wi (ix2 r n) = ∑ k : Fin 1024, x (ix2 r k) * wi (ix2 k n) := by
  pointwise [proj]

/-- The hidden layer at an index. -/
theorem hid_apply (x : FVec Ideal S65536x1024 .f32) (wi : FVec Ideal S1024x5632 .f32) (r : Fin 65536) (n : Fin 2816) :
    hid (proj x wi) (ix2 r n) = hidRow (fun k => x (ix2 r k)) (fun k n => wi (ix2 k ⟨n.val, by omega⟩))
      (fun k n => wi (ix2 k ⟨2816 + n.val, by omega⟩)) n := by
  pointwise [hid]
  rw [proj_apply, proj_apply]
  rfl

/-- The residual at an index. -/
theorem resid_apply (x : FVec Ideal S65536x1024 .f32) (wi : FVec Ideal S1024x5632 .f32) (wo : FVec Ideal S2816x1024 .f32)
    (r : Fin 65536) (l : Fin 1024) :
    resid x (hid (proj x wi)) wo (ix2 r l) = ffnRow (fun k => x (ix2 r k)) (fun k n => wi (ix2 k ⟨n.val, by omega⟩))
      (fun k n => wi (ix2 k ⟨2816 + n.val, by omega⟩)) (fun n l => wo (ix2 n l)) l := by
  pointwise [resid]
  simp only [hid_apply]
  rfl

theorem meanCol_apply (r : FVec Ideal S65536x1024 .f32) (i : Fin 65536) (z : Fin 1) :
    meanCol r (ix2 i z) = Ideal.div (∑ k : Fin 1024, r (ix2 i k)) (Ideal.ofBits .f32 0x44800000#32) := by
  pointwise [meanCol]

theorem cen_apply (r : FVec Ideal S65536x1024 .f32) (i : Fin 65536) (l : Fin 1024) :
    cen r (ix2 i l) = r (ix2 i l) - Ideal.div (∑ k : Fin 1024, r (ix2 i k)) (Ideal.ofBits .f32 0x44800000#32) := by
  pointwise [cen]
  rw [meanCol_apply]

/-- The normalised row at an index. -/
theorem ln_apply (r : FVec Ideal S65536x1024 .f32) (g b : FVec Ideal S1024 .f32) (i : Fin 65536) (l : Fin 1024) :
    ln r g b (ix2 i l) = lnRow (fun k => r (ix2 i k)) (fun k => g (ix1 k)) (fun k => b (ix1 k)) l := by
  pointwise [ln]
  rw [meanCol_apply, cen_apply]
  pointwise
  simp only [cen_apply]
  rfl

/-- The reference's result at an index. -/
theorem res_apply (m : (ℓ : Loc nD τ sig) → Buf (Elt Ideal) ℓ) (c : Dev nD) (i : Fin 65536) (l : Fin 1024) :
    (Value.res_out0 m c : FVec Ideal S65536x1024 .f32) (ix2 i l) =
      lnRow (ffnRow (fun k => (m ((c : Thread nD τ).loc main_arg0) : FVec Ideal S65536x1024 .f32) (ix2 i k))
        (fun k n => (m ((c : Thread nD τ).loc main_arg1) : FVec Ideal S1024x5632 .f32) (ix2 k ⟨n.val, by omega⟩))
        (fun k n => (m ((c : Thread nD τ).loc main_arg1) : FVec Ideal S1024x5632 .f32) (ix2 k ⟨2816 + n.val, by omega⟩))
        (fun n l => (m ((c : Thread nD τ).loc main_arg2) : FVec Ideal S2816x1024 .f32) (ix2 n l)))
        (fun k => (m ((c : Thread nD τ).loc main_arg3) : FVec Ideal S1024 .f32) (ix1 k))
        (fun k => (m ((c : Thread nD τ).loc main_arg4) : FVec Ideal S1024 .f32) (ix1 k)) l := by
  rw [res_eq, ln_apply]
  simp only [resid_apply]

end Cert.FfnRefIdeal.RefValue

end
-- ==== Proof.OutpKer.lean ====
/- The output-projection kernel at the extended reals: its result array, read at an index, is the layer-normalised
   projection of the index's row. -/
module

public import proofs.«01_k».proof.Proof.Rows
public import proofs.«01_k».proof.Proof.Gen.OutpIdeal.Value
public import Idealize.ShloMosaic.Lib.Pipeline.ValueKit
public import Idealize.ShloMosaic.Lib.Claim

@[expose] public section

set_option maxRecDepth 16384

noncomputable section

namespace Cert.OutpIdeal.RefValue

open Cert.OutpIdeal Cert.OutpIdeal.Gen Idealize.ShloMosaic Idealize.ShloMosaic.TcCoe Idealize.SL.Sem Rows

/-- The residual row of block row `r`. -/
abbrev rowOf (A : Vec Ideal S256x512 .bf16) (WA : Vec Ideal S512x1024 .bf16) (B : Vec Ideal S256x512 .bf16)
    (WB : Vec Ideal S512x1024 .bf16) (X : Vec Ideal S256x1024 .f32) (r : Fin 256) : Fin 1024 → EReal :=
  outRow (fun k => A (ix2 r k)) (fun k => B (ix2 r k)) (fun k => X (ix2 r k)) (fun k l => WA (ix2 k l)) (fun k l => WB (ix2 k l))

/-- The payload at an index is the normalised projection of the block's row. -/
theorem pay_apply (A : Vec Ideal S256x512 .bf16) (WA : Vec Ideal S512x1024 .bf16) (B : Vec Ideal S256x512 .bf16)
    (WB : Vec Ideal S512x1024 .bf16) (X : Vec Ideal S256x1024 .f32) (P4 P5 : Vec Ideal S1x1024 .f32) (r : Fin 256) (l : Fin 1024) :
    k0_pay1 A WA B WB X P4 P5 (ix2 r l) = lnRow (rowOf A WA B WB X r) (fun k => P4 (ix2 0 k)) (fun k => P5 (ix2 0 k)) l := by
  pointwise [k0_pay1]
  rfl

variable (m : (ℓ : Loc nD τ sig) → Buf (Elt Ideal) ℓ)

/-- The result as one function of the argument arrays. -/
def G (c : Dev nD) (j : S65536x1024.Idx) : EReal :=
  lnRow (outRow (fun k => (m ((c : Thread nD τ).loc main_arg0) : FVec Ideal S65536x512 .bf16) (ix2 (j 0) k))
        (fun k => (m ((c : Thread nD τ).loc main_arg1) : FVec Ideal S65536x512 .bf16) (ix2 (j 0) k))
        (fun k => (m ((c : Thread nD τ).loc main_arg2) : FVec Ideal S65536x1024 .f32) (ix2 (j 0) k))
        (fun k l => (m ((c : Thread nD τ).loc main_arg3) : FVec Ideal S1024x1024 .f32) (ix2 ⟨k.val, by omega⟩ l))
        (fun k l => (m ((c : Thread nD τ).loc main_arg3) : FVec Ideal S1024x1024 .f32) (ix2 ⟨512 + k.val, by omega⟩ l)))
        (fun k => (m ((c : Thread nD τ).loc main_arg4) : FVec Ideal S1024 .f32) (ix1 k))
        (fun k => (m ((c : Thread nD τ).loc main_arg5) : FVec Ideal S1024 .f32) (ix1 k)) (j 1)

/-- The row windows' block index is the point; the other windows stay at the origin. -/
theorem idx : ∀ t : Fin cfg0.N, (win0_0.index t = ![t.val, 0] ∧ win0_1.index t = ![t.val, 0] ∧ win0_2.index t = ![t.val, 0])
    ∧ (win0_3.index t = ![0, 0] ∧ win0_4.index t = ![0, 0] ∧ win0_5.index t = ![0, 0]) ∧ win0_6.index t = ![0, 0]
    ∧ win0_7.index t = ![t.val, 0] :=
  (by decide +kernel : ∀ t : Fin grid0.N, (win0_0.index t = ![t.val, 0] ∧ win0_1.index t = ![t.val, 0] ∧ win0_2.index t = ![t.val, 0])
    ∧ (win0_3.index t = ![0, 0] ∧ win0_4.index t = ![0, 0] ∧ win0_5.index t = ![0, 0]) ∧ win0_6.index t = ![0, 0]
    ∧ win0_7.index t = ![t.val, 0])

theorem hz : (![0, 0] : Fin 2 → Nat) = fun _ => 0 := funext fun a => by fin_cases a <;> rfl

variable (c : Dev nD) (t : Fin cfg0.N)

/-- The array row of block row `r` at point `t`. -/
abbrev rowIx (r : Fin 256) : Fin 65536 := ⟨t.val * 256 + r.val, by have := t.isLt; have : cfg0.N = 256 := N_0; omega⟩

/-- The first mixer's rows of the point's block. -/
theorem blk0 (r : Fin 256) (k : Fin 512) : View.ld (iblk m c 0 t) r0_0 (ix2 r k)
    = (m ((c : Thread nD τ).loc main_arg0) : FVec Ideal S65536x512 .bf16) (ix2 (rowIx t r) k) := by
  refine (congrFun (View.ld_unit_zero (S := S256x512) hz inb_S256x512_S256x512_0_0 (iblk m c 0 t)) (ix2 r k)).trans ?_
  blk_ext! [iblk, V_main_arg0, idx t]

/-- The second mixer's rows. -/
theorem blk1 (r : Fin 256) (k : Fin 512) : View.ld (iblk m c 1 t) r0_0 (ix2 r k)
    = (m ((c : Thread nD τ).loc main_arg1) : FVec Ideal S65536x512 .bf16) (ix2 (rowIx t r) k) := by
  refine (congrFun (View.ld_unit_zero (S := S256x512) hz inb_S256x512_S256x512_0_0 (iblk m c 1 t)) (ix2 r k)).trans ?_
  blk_ext! [iblk, V_main_arg1, idx t]

/-- The input rows. -/
theorem blk2 (r : Fin 256) (k : Fin 1024) : View.ld (iblk m c 2 t) r0_2 (ix2 r k)
    = (m ((c : Thread nD τ).loc main_arg2) : FVec Ideal S65536x1024 .f32) (ix2 (rowIx t r) k) := by
  refine (congrFun (View.ld_unit_zero (S := S256x1024) hz inb_S256x1024_S256x1024_0_0 (iblk m c 2 t)) (ix2 r k)).trans ?_
  blk_ext! [iblk, V_main_arg2, idx t]

/-- The matrix's upper half. -/
theorem blk3 (n : Fin 512) (l : Fin 1024) : View.ld (iblk m c 3 t) r0_1 (ix2 n l)
    = (m ((c : Thread nD τ).loc main_arg3) : FVec Ideal S1024x1024 .f32) (ix2 ⟨n.val, by omega⟩ l) := by
  refine (congrFun (View.ld_unit_zero (S := S512x1024) hz inb_S512x1024_S512x1024_0_0 (iblk m c 3 t)) (ix2 n l)).trans ?_
  blk_ext! [iblk, idx t]

/-- The matrix's lower half. -/
theorem blk4 (n : Fin 512) (l : Fin 1024) : View.ld (iblk m c 4 t) r0_1 (ix2 n l)
    = (m ((c : Thread nD τ).loc main_arg3) : FVec Ideal S1024x1024 .f32) (ix2 ⟨512 + n.val, by omega⟩ l) := by
  refine (congrFun (View.ld_unit_zero (S := S512x1024) hz inb_S512x1024_S512x1024_0_0 (iblk m c 4 t)) (ix2 n l)).trans ?_
  blk_ext! [iblk, idx t]

/-- The scale. -/
theorem blk5 (l : Fin 1024) : View.ld (iblk m c 5 t) r0_3 (ix2 0 l)
    = (m ((c : Thread nD τ).loc main_arg4) : FVec Ideal S1024 .f32) (ix1 l) := by
  refine (congrFun (View.ld_unit_zero (S := S1x1024) hz inb_S1x1024_S1x1024_0_0 (iblk m c 5 t)) (ix2 0 l)).trans ?_
  blk_ext! [iblk, idx t]

/-- The shift. -/
theorem blk6 (l : Fin 1024) : View.ld (iblk m c 6 t) r0_3 (ix2 0 l)
    = (m ((c : Thread nD τ).loc main_arg5) : FVec Ideal S1024 .f32) (ix1 l) := by
  refine (congrFun (View.ld_unit_zero (S := S1x1024) hz inb_S1x1024_S1x1024_0_0 (iblk m c 6 t)) (ix2 0 l)).trans ?_
  blk_ext! [iblk, idx t]

/-- What point `t` stores at block index `(r, l)` is `G` at the array's index. -/
theorem point (r : Fin 256) (l : Fin 1024) :
    k0_pay1 (View.ld (iblk m c 0 t) r0_0) (View.ld (iblk m c 3 t) r0_1) (View.ld (iblk m c 1 t) r0_0)
      (View.ld (iblk m c 4 t) r0_1) (View.ld (iblk m c 2 t) r0_2) (View.ld (iblk m c 5 t) r0_3) (View.ld (iblk m c 6 t) r0_3) (ix2 r l)
      = G m c (ix2 (rowIx t r) l) := by
  refine (pay_apply _ _ _ _ _ _ _ r l).trans ?_
  simp only [rowOf, blk0, blk1, blk2, blk3, blk4, blk5, blk6]
  rfl

/-- Where the output window's block lies in its array. -/
theorem emb7 (r : Fin 256) (l : Fin 1024) :
    (win0_7.blk t).view.emb (ix2 r l : S256x1024.Idx) = (ix2 (rowIx t r) l : S65536x1024.Idx) := by
  blk_ext [idx t]

omit c t in
/-- The result array after the run is `G` of the argument arrays. -/
theorem final7 (c : Dev nD) : (dats m 0 c).arrAt 7 cfg0.N = G m c := by
  refine (dats m 0 c).arrAt_eq_of_covers 7 _ (by decide +kernel) fun t hf y => ?_
  blk_simp
  rw [after0_7]
  unfold out0_7
  rw [View.canon_unit_zero hz]
  have ey : y = (ix2 (y 0) (y 1) : S256x1024.Idx) := by blk_ext
  rw [ey]
  exact (point m c t (y 0) (y 1)).trans (congrArg (G m c) (emb7 t (y 0) (y 1)).symm)

end Cert.OutpIdeal.RefValue

end
-- ==== Proof.OutpRef.lean ====
/- The output-projection reference read at an index: its result is the layer-normalised projection of the index's row. -/
module

public import proofs.«01_k».proof.Proof.FfnRef
public import proofs.«01_k».proof.Proof.Gen.OutpRefIdeal.Run

@[expose] public section

set_option maxRecDepth 16384

noncomputable section

namespace Cert.OutpRefIdeal.RefValue

open Cert.OutpRefIdeal Cert.OutpRefIdeal.Gen Idealize.ShloMosaic Idealize.ShloMosaic.TcCoe Idealize.SL.Sem Idealize.ShloMosaic.StableHlo Rows

/-- The two mixers' outputs side by side. -/
def cat (a b : FVec Ideal S65536x512 .bf16) : FVec Ideal S65536x1024 .f32 :=
  concatenate S65536x1024 1 [⟨S65536x512, (extf .f32 a bitsLt_bf16_f32)⟩, ⟨S65536x512, (extf .f32 b bitsLt_bf16_f32)⟩]
    concatenates_S65536x512_S65536x512_S65536x1024_d1

/-- The residual. -/
def resid (a b : FVec Ideal S65536x512 .bf16) (x : FVec Ideal S65536x1024 .f32) (w : FVec Ideal S1024x1024 .f32) :
    FVec Ideal S65536x1024 .f32 :=
  addf (mulf (broadcastInDim S65536x1024 ![] bcast_S_S65536x1024 (constant S_ .f32 0x3FD744FD#32)) x)
    (Host.dotGeneral dot_S65536x1024_S1024x1024_S65536x1024_1_0_0_1_n_n none (cat a b) w)

/-- The printed result is the stages composed. -/
theorem res_eq (m : (ℓ : Loc nD τ sig) → Buf (Elt Ideal) ℓ) (c : Dev nD) :
    Value.res_out0 m c = Cert.FfnRefIdeal.RefValue.ln (resid (m ((c : Thread nD τ).loc main_arg0)) (m ((c : Thread nD τ).loc main_arg1))
      (m ((c : Thread nD τ).loc main_arg2)) (m ((c : Thread nD τ).loc main_arg3)))
      (m ((c : Thread nD τ).loc main_arg4)) (m ((c : Thread nD τ).loc main_arg5)) := rfl

theorem cat_lo (a b : FVec Ideal S65536x512 .bf16) (r : Fin 65536) (k : Fin 512) :
    cat a b (ix2 r ⟨k.val, by omega⟩) = a (ix2 r k) := by
  pointwise [cat]

theorem cat_hi (a b : FVec Ideal S65536x512 .bf16) (r : Fin 65536) (k : Fin 512) :
    cat a b (ix2 r ⟨512 + k.val, by omega⟩) = b (ix2 r k) := by
  pointwise [cat]

/-- The residual at an index. -/
theorem resid_apply (a b : FVec Ideal S65536x512 .bf16) (x : FVec Ideal S65536x1024 .f32) (w : FVec Ideal S1024x1024 .f32)
    (r : Fin 65536) (l : Fin 1024) :
    resid a b x w (ix2 r l) = outRow (fun k => a (ix2 r k)) (fun k => b (ix2 r k)) (fun k => x (ix2 r k))
      (fun k l => w (ix2 ⟨k.val, by omega⟩ l)) (fun k l => w (ix2 ⟨512 + k.val, by omega⟩ l)) l := by
  pointwise [resid]
  rw [sum_halves]
  simp only [cat_lo, cat_hi]
  rfl

/-- The reference's result at an index. -/
theorem res_apply (m : (ℓ : Loc nD τ sig) → Buf (Elt Ideal) ℓ) (c : Dev nD) (i : Fin 65536) (l : Fin 1024) :
    (Value.res_out0 m c : FVec Ideal S65536x1024 .f32) (ix2 i l) =
      lnRow (outRow (fun k => (m ((c : Thread nD τ).loc main_arg0) : FVec Ideal S65536x512 .bf16) (ix2 i k))
        (fun k => (m ((c : Thread nD τ).loc main_arg1) : FVec Ideal S65536x512 .bf16) (ix2 i k))
        (fun k => (m ((c : Thread nD τ).loc main_arg2) : FVec Ideal S65536x1024 .f32) (ix2 i k))
        (fun k l => (m ((c : Thread nD τ).loc main_arg3) : FVec Ideal S1024x1024 .f32) (ix2 ⟨k.val, by omega⟩ l))
        (fun k l => (m ((c : Thread nD τ).loc main_arg3) : FVec Ideal S1024x1024 .f32) (ix2 ⟨512 + k.val, by omega⟩ l)))
        (fun k => (m ((c : Thread nD τ).loc main_arg4) : FVec Ideal S1024 .f32) (ix1 k))
        (fun k => (m ((c : Thread nD τ).loc main_arg5) : FVec Ideal S1024 .f32) (ix1 k)) l := by
  rw [res_eq]
  refine (Cert.FfnRefIdeal.RefValue.ln_apply _ _ _ i l).trans ?_
  simp only [resid_apply]

end Cert.OutpRefIdeal.RefValue

end
-- ==== Proof.Claims.lean ====
/- The value claims of the feed-forward and the output projection: each kernel and its reference leave the same result. -/
module

public import proofs.«01_k».proof.Defs
public import proofs.«01_k».proof.Proof.FfnKer
public import proofs.«01_k».proof.Proof.FfnRef
public import proofs.«01_k».proof.Proof.OutpKer
public import proofs.«01_k».proof.Proof.OutpRef

@[expose] public section

set_option maxRecDepth 16384

noncomputable section

namespace Cert.Proof

open Idealize.ShloMosaic Idealize.ShloMosaic.TcCoe Idealize.SL.Sem

/-- The feed-forward kernel and its reference leave the same result at the extended reals. -/
theorem ffn : Cert.algebraic_FfnIdeal_FfnRefIdeal := by
  intro m g m' g' _ hagree
  refine ⟨fun c => Cert.FfnIdeal.RefValue.G m c, ?_, ?_⟩
  · refine (θ_run _ _ _).mono (fun r h c => ⟨(h c).1.trans (Cert.FfnIdeal.RefValue.final5 m c), (h c).2⟩)
      (Cert.FfnIdeal.Value.run_blocks m g)
  · refine (θ_run _ _ _).mono (fun r h c => ⟨(h c).1.trans ?_, (h c).2⟩) (Cert.FfnRefIdeal.Value.run m' g')
    obtain ⟨h0, h1, h2, h3, h4⟩ := hagree c
    funext j
    rw [eq_ix2 j]
    refine (Cert.FfnRefIdeal.RefValue.res_apply m' c (j 0) (j 1)).trans ?_
    rw [h0, h1, h2, h3, h4]
    rfl

/-- The output-projection kernel and its reference leave the same result at the extended reals. -/
theorem outp : Cert.algebraic_OutpIdeal_OutpRefIdeal := by
  intro m g m' g' _ hagree
  refine ⟨fun c => Cert.OutpIdeal.RefValue.G m c, ?_, ?_⟩
  · refine (θ_run _ _ _).mono (fun r h c => ⟨(h c).1.trans (Cert.OutpIdeal.RefValue.final7 m c), (h c).2⟩)
      (Cert.OutpIdeal.Value.run_blocks m g)
  · refine (θ_run _ _ _).mono (fun r h c => ⟨(h c).1.trans ?_, (h c).2⟩) (Cert.OutpRefIdeal.Value.run m' g')
    obtain ⟨h0, h1, h2, h3, h4, h5⟩ := hagree c
    funext j
    rw [eq_ix2 j]
    refine (Cert.OutpRefIdeal.RefValue.res_apply m' c (j 0) (j 1)).trans ?_
    rw [h0, h1, h2, h3, h4, h5]
    rfl

end Cert.Proof

end
-- ==== Proof.RgSpec.lean ====
/- The scalar mathematics of the recurrent call over the extended reals: gates, decay, input, and the linear recurrence with its
   doubling scan. -/
module

public import Idealize.ShloMosaic.Lib.Pointwise
public import Idealize.ShloMosaic.Lib.Claim

@[expose] public section

set_option maxRecDepth 16384

noncomputable section

namespace RgSpec

open Idealize.ShloMosaic

/-- Softplus of minus `x`. -/
def soft (x : EReal) : EReal := max (-x) 0 + Ideal.log1p (Ideal.exp (-(FloatOps.absf (F := Ideal) (φ := .f32) (-x))))

/-- The logarithm of the decay, from the gate's argument and the channel's parameter. -/
def decay (z lam : EReal) : EReal := Ideal.ofBits .f32 0xC1000000#32 * Ideal.logistic z * soft lam

/-- The recurrence's input, from the decay's logarithm, the gate's argument and the convolved value. -/
def inp (L z u : EReal) : EReal := Ideal.sqrt (1 - Ideal.exp L * Ideal.exp L) * (Ideal.logistic z * u)

/-- The gate branch's activation. -/
def act (g : EReal) : EReal := g * (Ideal.ofBits .f32 0x3F000000#32 * (1 + Ideal.tanh (Ideal.ofBits .f32 0x3F4C422A#32 *
  (g + Ideal.ofBits .f32 0x3D372713#32 * (g * g * g)))))

/-- The constant eight, negated. -/
theorem minus_eight : Ideal.ofBits .f32 0xC1000000#32 = ((-8 : ℝ) : EReal) := by
  simp [Ideal.ofBits, Ideal.ieee]
  rw [← EReal.coe_mul]
  norm_num

/-- The constant two. -/
theorem two : Ideal.ofBits .f32 0x40000000#32 = ((2 : ℝ) : EReal) := by
  simp [Ideal.ofBits, Ideal.ieee]
  rw [← EReal.coe_mul]
  norm_num

/-- The exponential is nowhere negative. -/
theorem exp_nonneg (x : EReal) : 0 ≤ Ideal.exp x := by
  induction x with
  | bot => exact le_refl _
  | top => exact le_top
  | coe r => exact EReal.coe_nonneg.mpr (Real.exp_pos r).le

/-- The exponential of anything but `+∞` is finite. -/
theorem exp_ne_top {x : EReal} (h : x ≠ ⊤) : Ideal.exp x ≠ ⊤ := by
  induction x with
  | bot => exact EReal.zero_ne_top
  | top => exact absurd rfl h
  | coe r => exact EReal.coe_ne_top _

/-- The logistic function is nowhere negative. -/
theorem logistic_nonneg (x : EReal) : 0 ≤ Ideal.logistic x := by
  have h : (1 : EReal) ≤ 1 + Ideal.exp (-x) := le_add_of_nonneg_right (exp_nonneg _)
  have h0 : (0 : EReal) ≤ 1 + Ideal.exp (-x) := le_trans zero_le_one h
  unfold Ideal.logistic Ideal.div
  split
  · split
    · exact le_top
    · rename_i h1 h2; exact absurd zero_lt_one h2
  · rw [one_mul]; exact EReal.inv_nonneg_of_nonneg h0

/-- Softplus is nowhere negative. -/
theorem soft_nonneg (x : EReal) : 0 ≤ soft x := by
  refine add_nonneg (le_max_right _ _) ?_
  obtain ⟨y, hy⟩ : ∃ y : EReal, -(FloatOps.absf (F := Ideal) (φ := .f32) (-x)) = y := ⟨_, rfl⟩
  rw [hy]
  unfold Ideal.log1p
  induction y with
  | bot =>
    show (0 : EReal) ≤ Ideal.log (1 + 0)
    rw [add_zero]
    show (0 : EReal) ≤ if (1 : ℝ) ≤ 0 then ⊥ else ((Real.log 1 : ℝ) : EReal)
    rw [if_neg (by norm_num), Real.log_one, EReal.coe_zero]
  | top =>
    show (0 : EReal) ≤ Ideal.log (1 + ⊤)
    rw [show (1 : EReal) + ⊤ = ⊤ from rfl]
    exact le_top
  | coe r =>
    show (0 : EReal) ≤ Ideal.log (((1 : ℝ) : EReal) + ((Real.exp r : ℝ) : EReal))
    rw [← EReal.coe_add]
    have : 0 < Real.exp r := Real.exp_pos r
    show (0 : EReal) ≤ if 1 + Real.exp r ≤ 0 then ⊥ else ((Real.log (1 + Real.exp r) : ℝ) : EReal)
    rw [if_neg (by linarith)]
    exact EReal.coe_nonneg.mpr (Real.log_nonneg (by linarith))

/-- The decay's logarithm is at most zero. -/
theorem decay_nonpos (z lam : EReal) : decay z lam ≤ 0 := by
  unfold decay
  rw [minus_eight, show (((-8 : ℝ) : ℝ) : EReal) = -((8 : ℝ) : EReal) from by rw [← EReal.coe_neg], EReal.neg_mul, EReal.neg_mul]
  refine (EReal.neg_le_neg_iff.mpr (?_ : (0 : EReal) ≤ _)).trans_eq neg_zero
  exact mul_nonneg (mul_nonneg (EReal.coe_nonneg.mpr (by norm_num)) (logistic_nonneg _)) (soft_nonneg _)

/-- One less the decay's square, as the host writes it. -/
theorem one_sub_sq {L : EReal} (h : L ≤ 0) :
    -(Ideal.exp (Ideal.ofBits .f32 0x40000000#32 * L) - 1) = 1 - Ideal.exp L * Ideal.exp L := by
  rw [two]
  induction L with
  | bot =>
    rw [EReal.coe_mul_bot_of_pos (by norm_num)]
    show -((0 : EReal) - 1) = 1 - 0 * 0
    simp
  | top => exact absurd h (by simp)
  | coe r =>
    rw [← EReal.coe_mul]
    show -(((Real.exp (2 * r) : ℝ) : EReal) - ((1 : ℝ) : EReal)) = ((1 : ℝ) : EReal) - ((Real.exp r : ℝ) : EReal) * ((Real.exp r : ℝ) : EReal)
    rw [← EReal.coe_mul, ← EReal.coe_sub, ← EReal.coe_sub, ← EReal.coe_neg, ← Real.exp_add, two_mul, neg_sub]

/-- A product with a factor that is not negative and finite goes over a sum. -/
theorem mul_add' {a : EReal} (h0 : 0 ≤ a) (h1 : a ≠ ⊤) (x y : EReal) : a * (x + y) = a * x + a * y :=
  EReal.left_distrib_of_nonneg_of_ne_top h0 h1 x y

section Scan

variable (a b : ℕ → EReal)

/-- The linear recurrence from `h₀`: `h (n + 1) = a n * h n + b n`. -/
def recur (h₀ : EReal) : ℕ → EReal
  | 0 => h₀
  | n + 1 => a n * recur h₀ n + b n

/-- The product of the factors of the `d` last steps up to and including step `t`, the ones before step 0 left out. -/
def P : ℕ → ℕ → EReal
  | 0, _ => 1
  | d + 1, 0 => a 0
  | d + 1, t + 1 => a (t + 1) * P d t

/-- What the `d` last steps up to and including step `t` make of zero. -/
def S : ℕ → ℕ → EReal
  | 0, _ => 0
  | d + 1, 0 => b 0
  | d + 1, t + 1 => a (t + 1) * S d t + b (t + 1)

variable {a b}

theorem P_one (t : ℕ) : P a 1 t = a t := by
  cases t with
  | zero => rfl
  | succ t => show a (t + 1) * 1 = _; rw [mul_one]

theorem S_one (t : ℕ) : S a b 1 t = b t := by
  cases t with
  | zero => rfl
  | succ t => show a (t + 1) * 0 + _ = _; rw [mul_zero, zero_add]

/-- Two adjoining stretches' products. -/
theorem P_add (d e : ℕ) : ∀ t, P a (d + e) t = P a d t * (if d ≤ t then P a e (t - d) else 1) := by
  induction d with
  | zero => intro t; simp [P]
  | succ d ih =>
    intro t
    rw [show d + 1 + e = d + e + 1 by omega]
    cases t with
    | zero => simp [P, ← Nat.add_assoc]
    | succ t =>
      show P a (d + e + 1) (t + 1) = _
      show a (t + 1) * P a (d + e) t = a (t + 1) * P a d t * _
      rw [ih t, mul_assoc]
      simp only [Nat.succ_le_succ_iff, Nat.succ_eq_add_one, Nat.add_sub_add_right, Nat.add_le_add_iff_right]

/-- Two adjoining stretches, the later one's product applied to the earlier one's result. -/
theorem S_add (h0 : ∀ t, 0 ≤ a t) (h1 : ∀ t, a t ≠ ⊤) (d e : ℕ) :
    ∀ t, S a b (d + e) t = P a d t * (if d ≤ t then S a b e (t - d) else 0) + S a b d t := by
  induction d with
  | zero => intro t; simp [P, S]
  | succ d ih =>
    intro t
    rw [show d + 1 + e = d + e + 1 by omega]
    cases t with
    | zero => simp [P, S, ← Nat.add_assoc]
    | succ t =>
      show a (t + 1) * S a b (d + e) t + b (t + 1) = a (t + 1) * P a d t * _ + (a (t + 1) * S a b d t + b (t + 1))
      rw [ih t, mul_add' (h0 _) (h1 _), mul_assoc, add_assoc]
      simp only [Nat.succ_eq_add_one, Nat.add_sub_add_right, Nat.add_le_add_iff_right]

/-- A window that reaches before step 0 gives the whole recurrence from zero, and with the product the recurrence from `h₀`. -/
theorem recur_eq (h0 : ∀ t, 0 ≤ a t) (h1 : ∀ t, a t ≠ ⊤) (h₀ : EReal) :
    ∀ t d, t < d → recur a b h₀ (t + 1) = S a b d t + P a d t * h₀ := by
  intro t
  induction t with
  | zero =>
    intro d hd
    obtain ⟨d, rfl⟩ : ∃ e, d = e + 1 := ⟨d - 1, by omega⟩
    show a 0 * h₀ + b 0 = b 0 + a 0 * h₀
    rw [add_comm]
  | succ t ih =>
    intro d hd
    obtain ⟨d, rfl⟩ : ∃ e, d = e + 1 := ⟨d - 1, by omega⟩
    show a (t + 1) * recur a b h₀ (t + 1) + b (t + 1) = a (t + 1) * S a b d t + b (t + 1) + a (t + 1) * P a d t * h₀
    rw [ih d (by omega), mul_add' (h0 _) (h1 _), mul_assoc]
    abel

/-- The recurrence depends on the steps before `n` only. -/
theorem recur_congr {a' b' : ℕ → EReal} (h₀ : EReal) : ∀ n, (∀ k < n, a k = a' k ∧ b k = b' k) → recur a b h₀ n = recur a' b' h₀ n
  | 0, _ => rfl
  | n + 1, h => by
    show a n * recur a b h₀ n + b n = a' n * recur a' b' h₀ n + b' n
    rw [recur_congr h₀ n (fun k hk => h k (by omega)), (h n (by omega)).1, (h n (by omega)).2]

/-- The recurrence in two stretches. -/
theorem recur_add (h₀ : EReal) (n : ℕ) : ∀ k, recur a b h₀ (n + k) = recur (fun j => a (n + j)) (fun j => b (n + j)) (recur a b h₀ n) k
  | 0 => rfl
  | k + 1 => by
    show a (n + k) * recur a b h₀ (n + k) + b (n + k) = a (n + k) * _ + b (n + k)
    rw [recur_add h₀ n k]

end Scan

/-- What the call's weights hold, by their indices. -/
structure Par where
  /-- the convolution's taps -/
  cw : Fin 4 → Fin 512 → EReal
  /-- the convolution's bias -/
  cb : Fin 512 → EReal
  /-- the decay gate's blocks -/
  wa : Fin 8 → Fin 64 → Fin 64 → EReal
  /-- the input gate's blocks -/
  wx : Fin 8 → Fin 64 → Fin 64 → EReal
  /-- the decay gate's bias -/
  ba : Fin 512 → EReal
  /-- the input gate's bias -/
  bx : Fin 512 → EReal
  /-- the decay's parameter -/
  lam : Fin 512 → EReal

/-- The sequence `d` steps back, zero before its start. -/
def back (X : ℕ → Fin 512 → EReal) (d t : ℕ) (l : Fin 512) : EReal := if d ≤ t then X (t - d) l else 0

/-- A block-diagonal product. -/
def block (w : Fin 8 → Fin 64 → Fin 64 → EReal) (u : Fin 512 → EReal) (l : Fin 512) : EReal :=
  ∑ k : Fin 64, w ⟨l.val / 64, by omega⟩ k ⟨l.val % 64, by omega⟩ * u ⟨l.val / 64 * 64 + k.val, by omega⟩

namespace Par

variable (p : Par) (X : ℕ → Fin 512 → EReal)

/-- The causal convolution. -/
def U (t : ℕ) (l : Fin 512) : EReal :=
  p.cb l + p.cw 0 l * back X 3 t l + p.cw 1 l * back X 2 t l + p.cw 2 l * back X 1 t l + p.cw 3 l * X t l

/-- The decay's logarithm. -/
def la (t : ℕ) (l : Fin 512) : EReal := decay (block p.wa (p.U X t) l + p.ba l) (p.lam l)

/-- The decay. -/
def A (l : Fin 512) (t : ℕ) : EReal := Ideal.exp (p.la X t l)

/-- The recurrence's input. -/
def B (l : Fin 512) (t : ℕ) : EReal := inp (p.la X t l) (block p.wx (p.U X t) l + p.bx l) (p.U X t l)

/-- The state before step `t`. -/
def H (l : Fin 512) (t : ℕ) : EReal := recur (p.A X l) (p.B X l) 0 t

theorem A_nonneg (l : Fin 512) (t : ℕ) : 0 ≤ p.A X l t := exp_nonneg _

theorem A_ne_top (l : Fin 512) (t : ℕ) : p.A X l t ≠ ⊤ :=
  exp_ne_top fun h => absurd (decay_nonpos (block p.wa (p.U X t) l + p.ba l) (p.lam l)) (by
    rw [show decay (block p.wa (p.U X t) l + p.ba l) (p.lam l) = ⊤ from h]; simp)

end Par

end RgSpec

end
-- ==== Proof.RgScan.lean ====
/- The recurrent call's kernel: its scan over a block's rows, by doubling, is the recurrence. -/
module

public import Idealize.ShloMosaic.Lib.Pointwise
public import Idealize.ShloMosaic.Lib.WordArith
public import Idealize.ShloMosaic.Lib.Pipeline.ValueKit
public import Idealize.ShloMosaic.Lib.Claim
public import proofs.«01_k».proof.Proof.Gen.RgIdeal.Value
public import proofs.«01_k».proof.Proof.RgSpec

@[expose] public section

set_option maxRecDepth 16384

noncomputable section

namespace Cert.RgIdeal.KerValue

open Cert.RgIdeal Cert.RgIdeal.Gen Idealize.ShloMosaic

/-- A block of rows moved down by `d`, the first `d` rows filled. -/
def shiftB (d fill : BitVec 32) (x : FVec Ideal S256x512 .f32) : FVec Ideal S256x512 .f32 :=
  select (cmpi .sge (iota .tc S256x512 32 [0] iota_S256x512_d0_w32) (broadcast S256x512 d))
    (dynamicRotate 0 d none x rotates_S256x512_d0) (broadcast S256x512 (Scalar.ofBits .f32 fill))

/-- One doubling of the products. -/
def dblA (d : BitVec 32) (a : FVec Ideal S256x512 .f32) : FVec Ideal S256x512 .f32 := mulf a (shiftB d 0x3F800000#32 a)

/-- One doubling of the results from zero. -/
def dblB (d : BitVec 32) (a b : FVec Ideal S256x512 .f32) : FVec Ideal S256x512 .f32 := addf (mulf a (shiftB d 0x00000000#32 b)) b

/-- One doubling of the pair. -/
def dbl (d : BitVec 32) (p : FVec Ideal S256x512 .f32 × FVec Ideal S256x512 .f32) : FVec Ideal S256x512 .f32 × FVec Ideal S256x512 .f32 :=
  (dblA d p.1, dblB d p.1 p.2)

/-- The states after a block's steps, from the decays, the inputs and the state before the block. -/
def stateB (a b : FVec Ideal S256x512 .f32) (r : FVec Ideal S1x512 .f32) : FVec Ideal S256x512 .f32 :=
  let p := dbl 128#32 (dbl 64#32 (dbl 32#32 (dbl 16#32 (dbl 8#32 (dbl 4#32 (dbl 2#32 (dbl 1#32 (a, b))))))))
  addf p.2 (mulf p.1 (broadcastTo S256x512 r broadcasts_S1x512_S256x512))

theorem shiftB_one (d : ℕ) (hd : d < 256) (x : FVec Ideal S256x512 .f32) (t : Fin 256) (l : Fin 512) (fill : BitVec 32) :
    shiftB (BitVec.ofNat 32 d) fill x (ix2 t l)
      = if h : d ≤ t.val then x (ix2 ⟨t.val - d, by omega⟩ l) else Ideal.ofBits .f32 fill := by
  pointwise [shiftB]
  have e : (BitVec.ofNat 32 d).toNat = d := by rw [BitVec.toNat_ofNat]; omega
  have i1 : (BitVec.ofNat 32 t.val).toInt = t.val := by rw [BitVec.toInt_eq_toNat_of_lt (by rw [BitVec.toNat_ofNat]; omega), BitVec.toNat_ofNat]; omega
  have i2 : (BitVec.ofNat 32 d).toInt = d := by rw [BitVec.toInt_eq_toNat_of_lt (by omega), e]
  by_cases h : d ≤ t.val
  · rw [dif_pos h]
    have c : IntOp.cmpi CmpIPredicate.sge (BitVec.ofNat 32 t.val) (BitVec.ofNat 32 d) = 1#1 := by
      simp only [IntOp.cmpi, WordArith.ofBool_eq_one_iff, BitVec.sle_iff_toInt_le]
      omega
    rw [c]
    refine congrArg x (congrArg (fun q => ix2 q l) (Fin.ext ?_))
    show (t.val + 256 - (BitVec.ofNat 32 d).toNat % 256) % 256 = t.val - d
    rw [e]
    omega
  · rw [dif_neg h]
    have c : IntOp.cmpi CmpIPredicate.sge (BitVec.ofNat 32 t.val) (BitVec.ofNat 32 d) = 0#1 := by
      refine ValueIdx.eq_zero_of_ne_one fun hh => ?_
      simp only [IntOp.cmpi, WordArith.ofBool_eq_one_iff, BitVec.sle_iff_toInt_le] at hh
      omega
    rw [c]
    rfl

/-- The pair holds, at every row, the product and the result from zero of the `d` last steps. -/
def Holds (α β : Fin 512 → ℕ → EReal) (d : ℕ) (p : FVec Ideal S256x512 .f32 × FVec Ideal S256x512 .f32) : Prop :=
  ∀ (t : Fin 256) (l : Fin 512), p.1 (ix2 t l) = RgSpec.P (α l) d t.val ∧ p.2 (ix2 t l) = RgSpec.S (α l) (β l) d t.val

theorem holds_dbl (α β : Fin 512 → ℕ → EReal) (h0 : ∀ l t, 0 ≤ α l t) (h1 : ∀ l t, α l t ≠ ⊤) (d : ℕ) (hd : d < 256)
    (p : FVec Ideal S256x512 .f32 × FVec Ideal S256x512 .f32) (h : Holds α β d p) :
    Holds α β (d + d) (dbl (BitVec.ofNat 32 d) p) := by
  intro t l
  constructor
  · show p.1 (ix2 t l) * shiftB (BitVec.ofNat 32 d) 0x3F800000#32 p.1 (ix2 t l) = _
    rw [shiftB_one d hd, RgSpec.P_add, (h t l).1]
    refine congrArg (fun q : EReal => _ * q) ?_
    by_cases ht : d ≤ t.val
    · rw [dif_pos ht, if_pos ht, (h _ l).1]
    · rw [dif_neg ht, if_neg ht]
      exact Ideal.ofBits_one_f32
  · show p.1 (ix2 t l) * shiftB (BitVec.ofNat 32 d) 0x00000000#32 p.2 (ix2 t l) + p.2 (ix2 t l) = _
    rw [shiftB_one d hd, RgSpec.S_add (h0 l) (h1 l), (h t l).1, (h t l).2]
    refine congrArg (fun q : EReal => _ * q + _) ?_
    by_cases ht : d ≤ t.val
    · rw [dif_pos ht, if_pos ht, (h _ l).2]
    · rw [dif_neg ht, if_neg ht]
      exact Ideal.ofBits_zero_f32

/-- The block's states are the recurrence's. -/
theorem stateB_apply (α β : Fin 512 → ℕ → EReal) (h0 : ∀ l t, 0 ≤ α l t) (h1 : ∀ l t, α l t ≠ ⊤) (a b : FVec Ideal S256x512 .f32)
    (r : FVec Ideal S1x512 .f32) (ha : ∀ (t : Fin 256) (l : Fin 512), a (ix2 t l) = α l t.val)
    (hb : ∀ (t : Fin 256) (l : Fin 512), b (ix2 t l) = β l t.val) (t : Fin 256) (l : Fin 512) :
    stateB a b r (ix2 t l) = RgSpec.recur (α l) (β l) (r (ix2 0 l)) (t.val + 1) := by
  have e1 : Holds α β 1 (a, b) := fun t l => ⟨(ha t l).trans (RgSpec.P_one _).symm, (hb t l).trans (RgSpec.S_one _).symm⟩
  have e2 := holds_dbl α β h0 h1 1 (by omega) _ e1
  have e4 := holds_dbl α β h0 h1 2 (by omega) _ e2
  have e8 := holds_dbl α β h0 h1 4 (by omega) _ e4
  have e16 := holds_dbl α β h0 h1 8 (by omega) _ e8
  have e32 := holds_dbl α β h0 h1 16 (by omega) _ e16
  have e64 := holds_dbl α β h0 h1 32 (by omega) _ e32
  have e128 := holds_dbl α β h0 h1 64 (by omega) _ e64
  have e256 := holds_dbl α β h0 h1 128 (by omega) _ e128
  rw [RgSpec.recur_eq (h0 l) (h1 l) _ t.val 256 t.isLt]
  unfold stateB
  rw [addf_apply, mulf_apply]
  refine congrArg₂ (fun p q : EReal => p + q) (e256 t l).2 (congrArg₂ (fun p q : EReal => p * q) (e256 t l).1 ?_)
  pointwise

/-- The first two doublings, as the kernel writes them. -/
theorem pay21_eq (v59 : FVec Ideal S256x512 .f32) (v65 v66 : FVec Ideal S1x512 .f32) :
    k0_pay21 v59 v65 v66 = dblA 1#32 (k0_pay20 v59 v65 v66) := rfl

/-- The inputs of the recurrence, as the kernel writes them. -/
def inB (a i u : FVec Ideal S256x512 .f32) : FVec Ideal S256x512 .f32 :=
  mulf (sqrt (subf (broadcast S256x512 (Scalar.ofBits .f32 0x3F800000#32)) (mulf a a))) (mulf i u)

theorem pay22_eq (u i v59 : FVec Ideal S256x512 .f32) (v65 v66 : FVec Ideal S1x512 .f32) :
    k0_pay22 u i v59 v65 v66 = dblB 2#32 (k0_pay21 v59 v65 v66) (dblB 1#32 (k0_pay20 v59 v65 v66) (inB (k0_pay20 v59 v65 v66) i u)) := rfl

theorem pay23_eq (v59 : FVec Ideal S256x512 .f32) (v65 v66 : FVec Ideal S1x512 .f32) :
    k0_pay23 v59 v65 v66 = dblA 2#32 (k0_pay21 v59 v65 v66) := rfl

theorem pay24_eq (v59 : FVec Ideal S256x512 .f32) (v65 v66 : FVec Ideal S1x512 .f32) :
    k0_pay24 v59 v65 v66 = dynamicRotate 0 4#32 none (k0_pay23 v59 v65 v66) rotates_S256x512_d0 := rfl

theorem pay26_eq (a : FVec Ideal S256x512 .f32) :
    k0_pay26 a (dynamicRotate 0 4#32 none a rotates_S256x512_d0) = dblA 8#32 (dblA 4#32 a) := rfl

theorem pay27_eq (a : FVec Ideal S256x512 .f32) :
    k0_pay27 a (dynamicRotate 0 4#32 none a rotates_S256x512_d0) = shiftB 16#32 0x3F800000#32 (dblA 8#32 (dblA 4#32 a)) := rfl

theorem pay28_eq (a b : FVec Ideal S256x512 .f32) :
    k0_pay28 b a (dynamicRotate 0 4#32 none a rotates_S256x512_d0)
      = dblB 16#32 (dblA 8#32 (dblA 4#32 a)) (dblB 8#32 (dblA 4#32 a) (dblB 4#32 a b)) := rfl

theorem pay31_eq (a b : FVec Ideal S256x512 .f32) :
    k0_pay31 a (shiftB 16#32 0x3F800000#32 a) b = dblB 64#32 (dblA 32#32 (dblA 16#32 a)) (dblB 32#32 (dblA 16#32 a) b) := rfl

theorem pay32_eq (a : FVec Ideal S256x512 .f32) :
    k0_pay32 a (shiftB 16#32 0x3F800000#32 a) = dblA 64#32 (dblA 32#32 (dblA 16#32 a)) := rfl

theorem pay33_eq (a : FVec Ideal S256x512 .f32) :
    k0_pay33 a (shiftB 16#32 0x3F800000#32 a) = shiftB 128#32 0x3F800000#32 (dblA 64#32 (dblA 32#32 (dblA 16#32 a))) := rfl

theorem pay34_eq (a b : FVec Ideal S256x512 .f32) :
    k0_pay34 a (shiftB 16#32 0x3F800000#32 a) b = dynamicRotate 0 128#32 none
      (dblB 64#32 (dblA 32#32 (dblA 16#32 a)) (dblB 32#32 (dblA 16#32 a) b)) rotates_S256x512_d0 := rfl

theorem pay1_eq (a b : FVec Ideal S256x512 .f32) (r : FVec Ideal S1x512 .f32) :
    k0_pay1 b a (shiftB 128#32 0x3F800000#32 a) (dynamicRotate 0 128#32 none b rotates_S256x512_d0) k0_pay35 k0_pay36 r
      = addf (dblB 128#32 a b) (mulf (dblA 128#32 a) (broadcastTo S256x512 r broadcasts_S1x512_S256x512)) := rfl

/-- What is kept for the next block: the last row, eight times. -/
def lastB (h : FVec Ideal S256x512 .f32) : FVec Ideal S8x512 .f32 :=
  shapeCast S8x512 (broadcastTo S8x512 (shapeCast S1x512 (extractStridedSlice S1x512 ![255, 0] h slices_S256x512_o255_0_S1x512)
    shapeCasts_S1x512_S1x512) broadcasts_S1x512_S8x512) shapeCasts_S8x512_S8x512

/-- What is written back: the states times the gate branch's activation. -/
def gatedB (g h : FVec Ideal S256x512 .f32) : FVec Ideal S1x256x512 .bf16 :=
  shapeCast S1x256x512 (truncf .bf16 (mulf h (mulf g (mulf (broadcast S256x512 (Scalar.ofBits .f32 0x3F000000#32))
    (addf (broadcast S256x512 (Scalar.ofBits .f32 0x3F800000#32)) (tanh (mulf (broadcast S256x512 (Scalar.ofBits .f32 0x3F4C422A#32))
      (addf g (mulf (broadcast S256x512 (Scalar.ofBits .f32 0x3D372713#32)) (mulf g (mulf g g)))))))))) bitsLt_bf16_f32)
    shapeCasts_S256x512_S1x256x512

theorem pay2_eq (v184 v185 v191 v192 : FVec Ideal S256x512 .f32) (v195 : IVec S256x512 1) (v196 : FVec Ideal S256x512 .f32)
    (r : FVec Ideal S1x512 .f32) : k0_pay2 v184 v185 v191 v192 v195 v196 r = lastB (k0_pay1 v184 v185 v191 v192 v195 v196 r) := rfl

theorem pay3_eq (g v184 v185 v191 v192 : FVec Ideal S256x512 .f32) (v195 : IVec S256x512 1) (v196 : FVec Ideal S256x512 .f32)
    (r : FVec Ideal S1x512 .f32) : k0_pay3 g v184 v185 v191 v192 v195 v196 r = gatedB g (k0_pay1 v184 v185 v191 v192 v195 v196 r) := rfl

theorem lastB_apply (h : FVec Ideal S256x512 .f32) (j : Fin 8) (l : Fin 512) : lastB h (ix2 j l) = h (ix2 255 l) := by
  pointwise [lastB]

theorem gatedB_apply (g h : FVec Ideal S256x512 .f32) (t : Fin 256) (l : Fin 512) :
    gatedB g h (ix3 0 t l) = h (ix2 t l) * RgSpec.act (g (ix2 t l)) := by
  pointwise [gatedB]
  unfold RgSpec.act
  rw [mul_assoc (g _) (g _) (g _)]

end Cert.RgIdeal.KerValue

end
-- ==== Proof.RgBlk.lean ====
/- The recurrent call's kernel, one grid point at a time: what a point writes back and what it leaves for the next. -/
module

public import Idealize.ShloMosaic.Lib.WritesUnit
public import proofs.«01_k».proof.Proof.RgScan

@[expose] public section

set_option maxRecDepth 16384

noncomputable section

namespace Cert.RgIdeal.KerValue

open Cert.RgIdeal Cert.RgIdeal.Gen Cert.RgIdeal.Value Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

/-- A block's rows with the eight rows before it, read from row `o`. -/
def backB (o : ℕ) (carry : FVec Ideal S8x512 .f32) (x : FVec Ideal S256x512 .f32) : FVec Ideal S256x512 .f32 := fun j =>
  if h : 8 ≤ o + (j 0).val then (if h' : o + (j 0).val < 264 then x (ix2 ⟨o + (j 0).val - 8, by omega⟩ (j 1)) else 0)
  else carry (ix2 ⟨o + (j 0).val, by omega⟩ (j 1))

/-- A block's last eight rows. -/
def tail8 (x : FVec Ideal S256x512 .f32) : FVec Ideal S8x512 .f32 := fun j => x (ix2 ⟨248 + (j 0).val, by have := (j 0).isLt; change _ < 8 at this; omega⟩ (j 1))

/-- The buffer's first eight rows. -/
def head8 (x : FVec Ideal S264x512 .f32) : FVec Ideal S8x512 .f32 := fun j => x (ix2 ⟨(j 0).val, by have := (j 0).isLt; change _ < 8 at this; omega⟩ (j 1))

section Rows

variable {Val : EltTy → Type} [∀ e, Nonempty (Val e)] {e : EltTy}

/-- Rows read back from a stored run of rows. -/
theorem canon_rows (L : List (View.Piece Val S264x512 e)) {k : Fin 2 → ℕ} (o : ℕ) (inb : ∀ a, (![o, 0] : Fin 2 → ℕ) a + k a ≤ S264x512.size a)
    (x : (Rect.unit (s := S264x512) ![o, 0] k inb).shape.Idx → Val e) (y : S264x512.Idx) (j : (Rect.unit (s := S264x512) ![o, 0] k inb).shape.Idx)
    (h0 : (y 0).val = o + (j 0).val) (h1 : (y 1).val = (j 1).val) :
    View.canon ((⟨Rect.unit (s := S264x512) ![o, 0] k inb, x⟩ : View.Piece Val S264x512 e) :: L) y = x j := by
  have hy : y = (Rect.unit (s := S264x512) ![o, 0] k inb).emb j := by
    funext a
    refine Fin.ext ?_
    fin_cases a
    · show (y 0).val = o + 1 * (j 0).val
      omega
    · show (y 1).val = 0 + 1 * (j 1).val
      omega
  rw [hy]
  exact View.canon_cons_emb _ x L j

/-- A row below a stored run of rows reads the earlier pieces. -/
theorem canon_below (L : List (View.Piece Val S264x512 e)) {k : Fin 2 → ℕ} (o : ℕ) (inb : ∀ a, (![o, 0] : Fin 2 → ℕ) a + k a ≤ S264x512.size a)
    (x : (Rect.unit (s := S264x512) ![o, 0] k inb).shape.Idx → Val e) (y : S264x512.Idx) (h0 : (y 0).val < o) :
    View.canon ((⟨Rect.unit (s := S264x512) ![o, 0] k inb, x⟩ : View.Piece Val S264x512 e) :: L) y = View.canon L y := by
  refine View.canon_cons_of_not_mem _ _ ?_
  show y ∉ (Rect.unit (s := S264x512) ![o, 0] k inb).set
  rw [Rect.mem_set_unit]
  intro hall
  have : o ≤ (y 0).val := (hall 0).1
  omega

end Rows

/-- The rows read at a batch row's first point. -/
theorem readA (o : ℕ) (ho : o ≤ 8) (x : Vec Ideal S256x512 .f32) (z : Vec Ideal S8x512 .f32)
    (inb : ∀ a, (![o, 0] : Fin 2 → ℕ) a + S256x512.size a ≤ S264x512.size a) :
    (View.whole cc0_scratch0).readCov (Val := Elt Ideal) [⟨Rect.unit ![8, 0] ![256, 512] inb_S264x512_S256x512_8_0, x⟩, ⟨Rect.unit ![0, 0] ![8, 512] inb_S264x512_S8x512_0_0, z⟩]
      (Rect.unit (s := S264x512) ![o, 0] ![256, 512] inb).toLoadRect = backB o z x := by
  refine (View.readCov_eq_canon' (Val := Elt Ideal) (View.whole cc0_scratch0) _ _).trans (funext fun j => ?_)
  have hj : (j 0).val < 256 := (j 0).isLt
  have e0 : (((Rect.unit (s := S264x512) ![o, 0] ![256, 512] inb).toLoadRect.idx j) 0).val = o + (j 0).val := by
    show o + 1 * (j 0).val = _
    omega
  have e1 : (((Rect.unit (s := S264x512) ![o, 0] ![256, 512] inb).toLoadRect.idx j) 1).val = (j 1).val := by
    show 0 + 1 * (j 1).val = _
    omega
  unfold backB
  by_cases h : 8 ≤ o + (j 0).val
  · rw [dif_pos h, dif_pos (by omega)]
    exact canon_rows _ 8 _ x _ (ix2 ⟨o + (j 0).val - 8, by omega⟩ (j 1)) (e0.trans (by show _ = 8 + (o + (j 0).val - 8); omega)) e1
  · rw [dif_neg h]
    refine (canon_below _ 8 _ x _ (by rw [e0]; omega)).trans ?_
    exact canon_rows _ 0 _ z _ (ix2 ⟨o + (j 0).val, by omega⟩ (j 1)) (e0.trans (Nat.zero_add _).symm) e1

/-- The rows read at a later point. -/
theorem readB (o : ℕ) (ho : o ≤ 8) (x : Vec Ideal S256x512 .f32) (f : (View.whole cc0_scratch0).ty.Contents (Elt Ideal))
    (inb : ∀ a, (![o, 0] : Fin 2 → ℕ) a + S256x512.size a ≤ S264x512.size a) :
    View.ld ((View.whole cc0_scratch0).read (Elt Ideal) ((View.whole cc0_scratch0).writes (Elt Ideal) f [⟨Rect.unit ![8, 0] ![256, 512] inb_S264x512_S256x512_8_0, x⟩]))
      (Rect.unit (s := S264x512) ![o, 0] ![256, 512] inb) = backB o (head8 ((View.whole cc0_scratch0).read (Elt Ideal) f)) x := by
  funext j
  have hj : (j 0).val < 256 := (j 0).isLt
  unfold backB View.ld
  have e0 : (((Rect.unit (s := S264x512) ![o, 0] ![256, 512] inb).idx j) 0).val = o + (j 0).val := by
    show o + 1 * (j 0).val = _
    omega
  have e1 : (((Rect.unit (s := S264x512) ![o, 0] ![256, 512] inb).idx j) 1).val = (j 1).val := by
    show 0 + 1 * (j 1).val = _
    omega
  by_cases h : 8 ≤ o + (j 0).val
  · rw [dif_pos h, dif_pos (by omega)]
    exact View.read_writes_cons_rows_of_mem (o := 8) (View.whole cc0_scratch0) f inb_S264x512_S256x512_8_0 x [] _ (ix2 ⟨o + (j 0).val - 8, by omega⟩ (j 1)) rfl
      (e0.trans (by show _ = 8 + (o + (j 0).val - 8); omega)) e1
  · rw [dif_neg h]
    refine (View.read_writes_cons_rows_of_not_mem (o := 8) (W := 256) (View.whole cc0_scratch0) f inb_S264x512_S256x512_8_0 x [] _ rfl rfl (Or.inl (e0.trans_lt (by omega)))).trans ?_
    refine congrArg ((View.whole cc0_scratch0).read (Elt Ideal) f) ?_
    funext a
    refine Fin.ext ?_
    fin_cases a
    · exact e0
    · exact e1

/-- The eight rows carried on are the block's last. -/
theorem readTail (x : Vec Ideal S256x512 .f32) (L : List (View.Piece (Elt Ideal) S264x512 .f32)) :
    k0_pay13 ((View.whole cc0_scratch0).readCov (Val := Elt Ideal) (⟨Rect.unit ![8, 0] ![256, 512] inb_S264x512_S256x512_8_0, x⟩ :: L)
      (Rect.unit (s := S264x512) ![256, 0] ![8, 512] inb_S264x512_S8x512_256_0).toLoadRect) = tail8 x := by
  unfold k0_pay13
  dsimp only
  refine (shapeCast_id _ _).trans ((View.readCov_eq_canon' (Val := Elt Ideal) (View.whole cc0_scratch0) _ _).trans (funext fun j => ?_))
  have hj : (j 0).val < 8 := (j 0).isLt
  refine canon_rows L 8 _ x _ (ix2 ⟨248 + (j 0).val, by omega⟩ (j 1)) ?_ ?_
  · show 256 + 1 * (j 0).val = 8 + (248 + (j 0).val)
    omega
  · show 0 + 1 * (j 1).val = (j 1).val
    omega

/-- The buffer's first eight rows after they were stored last. -/
theorem headCanon (x : Vec Ideal S8x512 .f32) (L : List (View.Piece (Elt Ideal) S264x512 .f32)) :
    head8 (View.canon (Val := Elt Ideal) ((⟨Rect.unit (s := S264x512) ![0, 0] ![8, 512] inb_S264x512_S8x512_0_0, x⟩ : View.Piece (Elt Ideal) S264x512 .f32) :: L)) = x := by
  funext j
  unfold head8
  refine canon_rows (Val := Elt Ideal) (e := .f32) L 0 inb_S264x512_S8x512_0_0 x _ j ?_ ?_
  · exact (Nat.zero_add _).symm
  · rfl

/-- A row read back right after the whole array was stored. -/
theorem readR (z : Vec Ideal S8x512 .f32) :
    (View.whole cc0_scratch1).readCov (Val := Elt Ideal) [⟨Rect.unit (s := S8x512) ![0, 0] ![8, 512] inb_S8x512_S8x512_0_0, z⟩]
      (Rect.unit (s := S8x512) ![0, 0] ![1, 512] inb_S8x512_S1x512_0_0).toLoadRect
      = View.ld (Val := Elt Ideal) (e' := .f32) z (Rect.unit (s := S8x512) ![0, 0] ![1, 512] inb_S8x512_S1x512_0_0) := by
  refine (View.readCov_eq_canon' (Val := Elt Ideal) (View.whole cc0_scratch1) _ _).trans ?_
  have e : View.canon (Val := Elt Ideal) [(⟨Rect.unit (s := S8x512) ![0, 0] ![8, 512] inb_S8x512_S8x512_0_0, z⟩ : View.Piece (Elt Ideal) S8x512 .f32)] = z :=
    View.canon_unit_zero (S := S8x512) hz _ _
  rw [e]
  rfl

section Point

variable (x0 : FVec Ideal S1x256x1024 .f32) (x1 : FVec Ideal S1024x512 .bf16) (x3 : FVec Ideal S4x512 .f32) (x4 : FVec Ideal S1x512 .f32) (w : FVec Ideal S512x512 .bf16) (b : FVec Ideal S1x512 .f32)
  (x2 : FVec Ideal S1024x512 .bf16) (x5 x6 : FVec Ideal S512x512 .bf16) (x7 x8 x9 : FVec Ideal S1x512 .f32) (carry : FVec Ideal S8x512 .f32) (r : FVec Ideal S1x512 .f32)

/-- The convolution's output. -/
def uB : FVec Ideal S256x512 .f32 := k0_pay12 (k0_pay10 x0 x1 x4 (View.ld x3 (Rect.unit (s := S4x512) ![3, 0] ![1, 512] inb_S4x512_S1x512_3_0)) (View.ld x3 (Rect.unit (s := S4x512) ![2, 0] ![1, 512] inb_S4x512_S1x512_2_0)) (backB 7 carry (k0_pay9 x0 x1))) (k0_pay11 (View.ld x3 (Rect.unit (s := S4x512) ![1, 0] ![1, 512] inb_S4x512_S1x512_1_0)) (backB 6 carry (k0_pay9 x0 x1))) (View.ld x3 (Rect.unit (s := S4x512) ![0, 0] ![1, 512] inb_S4x512_S1x512_0_0)) (backB 5 carry (k0_pay9 x0 x1))

/-- The input gate. -/
def iB : FVec Ideal S256x512 .f32 := k0_pay15 (k0_pay10 x0 x1 x4 (View.ld x3 (Rect.unit (s := S4x512) ![3, 0] ![1, 512] inb_S4x512_S1x512_3_0)) (View.ld x3 (Rect.unit (s := S4x512) ![2, 0] ![1, 512] inb_S4x512_S1x512_2_0)) (backB 7 carry (k0_pay9 x0 x1))) (k0_pay11 (View.ld x3 (Rect.unit (s := S4x512) ![1, 0] ![1, 512] inb_S4x512_S1x512_1_0)) (backB 6 carry (k0_pay9 x0 x1))) (View.ld x3 (Rect.unit (s := S4x512) ![0, 0] ![1, 512] inb_S4x512_S1x512_0_0)) (backB 5 carry (k0_pay9 x0 x1)) w b

/-- The decay gate, times minus eight. -/
def zB : FVec Ideal S256x512 .f32 := k0_pay16 (k0_pay10 x0 x1 x4 (View.ld x3 (Rect.unit (s := S4x512) ![3, 0] ![1, 512] inb_S4x512_S1x512_3_0)) (View.ld x3 (Rect.unit (s := S4x512) ![2, 0] ![1, 512] inb_S4x512_S1x512_2_0)) (backB 7 carry (k0_pay9 x0 x1))) (k0_pay11 (View.ld x3 (Rect.unit (s := S4x512) ![1, 0] ![1, 512] inb_S4x512_S1x512_1_0)) (backB 6 carry (k0_pay9 x0 x1))) (View.ld x3 (Rect.unit (s := S4x512) ![0, 0] ![1, 512] inb_S4x512_S1x512_0_0)) (backB 5 carry (k0_pay9 x0 x1)) w b

/-- The decay. -/
def aB : FVec Ideal S256x512 .f32 := k0_pay20 (zB x0 x1 x3 x4 x5 x7 carry) (k0_pay18 x9) (k0_pay19 x9)

/-- The states. -/
def hB : FVec Ideal S256x512 .f32 :=
  stateB (aB x0 x1 x3 x4 x5 x7 x9 carry) (inB (aB x0 x1 x3 x4 x5 x7 x9 carry) (iB x0 x1 x3 x4 x6 x8 carry) (uB x0 x1 x3 x4 carry)) r

/-- What the kernel computes of its scan is the states. -/
theorem scan_eq (u i z : FVec Ideal S256x512 .f32) (v65 v66 : FVec Ideal S1x512 .f32) :
    k0_pay1 (k0_pay31 (k0_pay26 (k0_pay23 z v65 v66) (k0_pay24 z v65 v66)) (k0_pay27 (k0_pay23 z v65 v66) (k0_pay24 z v65 v66)) (k0_pay28 (k0_pay22 u i z v65 v66) (k0_pay23 z v65 v66) (k0_pay24 z v65 v66)))
      (k0_pay32 (k0_pay26 (k0_pay23 z v65 v66) (k0_pay24 z v65 v66)) (k0_pay27 (k0_pay23 z v65 v66) (k0_pay24 z v65 v66)))
      (k0_pay33 (k0_pay26 (k0_pay23 z v65 v66) (k0_pay24 z v65 v66)) (k0_pay27 (k0_pay23 z v65 v66) (k0_pay24 z v65 v66)))
      (k0_pay34 (k0_pay26 (k0_pay23 z v65 v66) (k0_pay24 z v65 v66)) (k0_pay27 (k0_pay23 z v65 v66) (k0_pay24 z v65 v66)) (k0_pay28 (k0_pay22 u i z v65 v66) (k0_pay23 z v65 v66) (k0_pay24 z v65 v66)))
      k0_pay35 k0_pay36 r = stateB (k0_pay20 z v65 v66) (inB (k0_pay20 z v65 v66) i u) r := by
  rw [pay24_eq, pay26_eq, pay27_eq, pay28_eq, pay31_eq, pay32_eq, pay33_eq, pay34_eq, pay1_eq, pay22_eq, pay23_eq, pay21_eq]
  rfl

end Point

set_option maxHeartbeats 1000000

/-- What a point writes back, first of its batch row. -/
theorem pointA_o (t : Fin cfg0.N) (h0 : t.val % 16 = 0) (acc : Vec Ideal S1x256x512 .bf16 × Vec Ideal S264x512 .f32 × Vec Ideal S8x512 .f32) :
    (stAt0 m c t.val t.isLt acc).1
      = gatedB (k0_pay8 (iblk m c 0 t) (iblk m c 2 t)) (hB (iblk m c 0 t) (iblk m c 1 t) (iblk m c 3 t) (iblk m c 4 t) (iblk m c 5 t) (iblk m c 6 t) (iblk m c 7 t) (iblk m c 8 t) (iblk m c 9 t) k0_pay4 (View.ld (Val := Elt Ideal) (e' := .f32) (k0_pay5 (F := Ideal)) (Rect.unit (s := S8x512) ![0, 0] ![1, 512] inb_S8x512_S1x512_0_0))) := by
  have hr0 : (View.whole cc0_scratch0).read (Elt Ideal) ((Memref.isWhole_whole cc0_scratch0).unread acc.2.1) = acc.2.1 := (Memref.isWhole_whole cc0_scratch0).read_unread _
  have hr1 : (View.whole cc0_scratch1).read (Elt Ideal) ((Memref.isWhole_whole cc0_scratch1).unread acc.2.2) = acc.2.2 := (Memref.isWhole_whole cc0_scratch1).read_unread _
  rw [stAt0_A m c t acc h0]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, View.canon_cons_unit_zero (S := S8x512) hz, View.canon_unit_zero (S := S1x256x512) hz3, View.ld_unit_zero (S := S1x256x1024) hz3, View.ld_unit_zero (S := S1024x512) hz, View.ld_unit_zero (S := S512x512) hz, View.ld_unit_zero (S := S1x512) hz]
  simp only [readA 7 (by omega), readA 6 (by omega), readA 5 (by omega)]
  rw [pay3_eq, scan_eq]
  exact congrArg (fun r => gatedB (k0_pay8 (iblk m c 0 t) (iblk m c 2 t)) (hB (iblk m c 0 t) (iblk m c 1 t) (iblk m c 3 t) (iblk m c 4 t) (iblk m c 5 t) (iblk m c 6 t) (iblk m c 7 t) (iblk m c 8 t) (iblk m c 9 t) k0_pay4 r)) (readR (k0_pay5 (F := Ideal)))

/-- The rows a point carries on, first of its batch row. -/
theorem pointA_b (t : Fin cfg0.N) (h0 : t.val % 16 = 0) (acc : Vec Ideal S1x256x512 .bf16 × Vec Ideal S264x512 .f32 × Vec Ideal S8x512 .f32) :
    head8 (stAt0 m c t.val t.isLt acc).2.1
      = tail8 (k0_pay9 (iblk m c 0 t) (iblk m c 1 t)) := by
  have hr0 : (View.whole cc0_scratch0).read (Elt Ideal) ((Memref.isWhole_whole cc0_scratch0).unread acc.2.1) = acc.2.1 := (Memref.isWhole_whole cc0_scratch0).read_unread _
  have hr1 : (View.whole cc0_scratch1).read (Elt Ideal) ((Memref.isWhole_whole cc0_scratch1).unread acc.2.2) = acc.2.2 := (Memref.isWhole_whole cc0_scratch1).read_unread _
  rw [stAt0_A m c t acc h0]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, View.canon_cons_unit_zero (S := S8x512) hz, View.canon_unit_zero (S := S1x256x512) hz3, View.ld_unit_zero (S := S1x256x1024) hz3, View.ld_unit_zero (S := S1024x512) hz, View.ld_unit_zero (S := S512x512) hz, View.ld_unit_zero (S := S1x512) hz,
    id_eq]
  exact (headCanon _ _).trans (readTail _ _)

/-- The state a point carries on, first of its batch row. -/
theorem pointA_h (t : Fin cfg0.N) (h0 : t.val % 16 = 0) (acc : Vec Ideal S1x256x512 .bf16 × Vec Ideal S264x512 .f32 × Vec Ideal S8x512 .f32) :
    (stAt0 m c t.val t.isLt acc).2.2
      = lastB (hB (iblk m c 0 t) (iblk m c 1 t) (iblk m c 3 t) (iblk m c 4 t) (iblk m c 5 t) (iblk m c 6 t) (iblk m c 7 t) (iblk m c 8 t) (iblk m c 9 t) k0_pay4 (View.ld (Val := Elt Ideal) (e' := .f32) (k0_pay5 (F := Ideal)) (Rect.unit (s := S8x512) ![0, 0] ![1, 512] inb_S8x512_S1x512_0_0))) := by
  have hr0 : (View.whole cc0_scratch0).read (Elt Ideal) ((Memref.isWhole_whole cc0_scratch0).unread acc.2.1) = acc.2.1 := (Memref.isWhole_whole cc0_scratch0).read_unread _
  have hr1 : (View.whole cc0_scratch1).read (Elt Ideal) ((Memref.isWhole_whole cc0_scratch1).unread acc.2.2) = acc.2.2 := (Memref.isWhole_whole cc0_scratch1).read_unread _
  rw [stAt0_A m c t acc h0]
  dsimp only
  unfold sout0_A_1
  rw [View.read_writes_eq_canon _ _ _ (scover0_A_1 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, View.canon_cons_unit_zero (S := S8x512) hz, View.canon_unit_zero (S := S1x256x512) hz3, View.ld_unit_zero (S := S1x256x1024) hz3, View.ld_unit_zero (S := S1024x512) hz, View.ld_unit_zero (S := S512x512) hz, View.ld_unit_zero (S := S1x512) hz]
  simp only [readA 7 (by omega), readA 6 (by omega), readA 5 (by omega)]
  rw [pay2_eq, scan_eq]
  exact congrArg (fun r => lastB (hB (iblk m c 0 t) (iblk m c 1 t) (iblk m c 3 t) (iblk m c 4 t) (iblk m c 5 t) (iblk m c 6 t) (iblk m c 7 t) (iblk m c 8 t) (iblk m c 9 t) k0_pay4 r)) (readR (k0_pay5 (F := Ideal)))

/-- What a point writes back, not first of its batch row. -/
theorem pointB_o (t : Fin cfg0.N) (h0 : ¬ t.val % 16 = 0) (acc : Vec Ideal S1x256x512 .bf16 × Vec Ideal S264x512 .f32 × Vec Ideal S8x512 .f32) :
    (stAt0 m c t.val t.isLt acc).1
      = gatedB (k0_pay8 (iblk m c 0 t) (iblk m c 2 t)) (hB (iblk m c 0 t) (iblk m c 1 t) (iblk m c 3 t) (iblk m c 4 t) (iblk m c 5 t) (iblk m c 6 t) (iblk m c 7 t) (iblk m c 8 t) (iblk m c 9 t) (head8 acc.2.1) (View.ld (Val := Elt Ideal) (e' := .f32) acc.2.2 (Rect.unit (s := S8x512) ![0, 0] ![1, 512] inb_S8x512_S1x512_0_0))) := by
  have hr0 : (View.whole cc0_scratch0).read (Elt Ideal) ((Memref.isWhole_whole cc0_scratch0).unread acc.2.1) = acc.2.1 := (Memref.isWhole_whole cc0_scratch0).read_unread _
  have hr1 : (View.whole cc0_scratch1).read (Elt Ideal) ((Memref.isWhole_whole cc0_scratch1).unread acc.2.2) = acc.2.2 := (Memref.isWhole_whole cc0_scratch1).read_unread _
  rw [stAt0_B m c t acc h0]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, View.canon_cons_unit_zero (S := S8x512) hz, View.canon_unit_zero (S := S1x256x512) hz3, View.ld_unit_zero (S := S1x256x1024) hz3, View.ld_unit_zero (S := S1024x512) hz, View.ld_unit_zero (S := S512x512) hz, View.ld_unit_zero (S := S1x512) hz]
  simp only [readB 7 (by omega), readB 6 (by omega), readB 5 (by omega), hr0, hr1]
  rw [pay3_eq, scan_eq]
  rfl

/-- The rows a point carries on, not first of its batch row. -/
theorem pointB_b (t : Fin cfg0.N) (h0 : ¬ t.val % 16 = 0) (acc : Vec Ideal S1x256x512 .bf16 × Vec Ideal S264x512 .f32 × Vec Ideal S8x512 .f32) :
    head8 (stAt0 m c t.val t.isLt acc).2.1
      = tail8 (k0_pay9 (iblk m c 0 t) (iblk m c 1 t)) := by
  have hr0 : (View.whole cc0_scratch0).read (Elt Ideal) ((Memref.isWhole_whole cc0_scratch0).unread acc.2.1) = acc.2.1 := (Memref.isWhole_whole cc0_scratch0).read_unread _
  have hr1 : (View.whole cc0_scratch1).read (Elt Ideal) ((Memref.isWhole_whole cc0_scratch1).unread acc.2.2) = acc.2.2 := (Memref.isWhole_whole cc0_scratch1).read_unread _
  rw [stAt0_B m c t acc h0]
  dsimp only
  unfold sout0_B_0
  rw [View.read_writes_eq_canon _ _ _ (scover0_B_0 c _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, View.canon_cons_unit_zero (S := S8x512) hz, View.canon_unit_zero (S := S1x256x512) hz3, View.ld_unit_zero (S := S1x256x1024) hz3, View.ld_unit_zero (S := S1024x512) hz, View.ld_unit_zero (S := S512x512) hz, View.ld_unit_zero (S := S1x512) hz,
    id_eq]
  exact (headCanon _ _).trans (readTail _ _)

/-- The state a point carries on, not first of its batch row. -/
theorem pointB_h (t : Fin cfg0.N) (h0 : ¬ t.val % 16 = 0) (acc : Vec Ideal S1x256x512 .bf16 × Vec Ideal S264x512 .f32 × Vec Ideal S8x512 .f32) :
    (stAt0 m c t.val t.isLt acc).2.2
      = lastB (hB (iblk m c 0 t) (iblk m c 1 t) (iblk m c 3 t) (iblk m c 4 t) (iblk m c 5 t) (iblk m c 6 t) (iblk m c 7 t) (iblk m c 8 t) (iblk m c 9 t) (head8 acc.2.1) (View.ld (Val := Elt Ideal) (e' := .f32) acc.2.2 (Rect.unit (s := S8x512) ![0, 0] ![1, 512] inb_S8x512_S1x512_0_0))) := by
  have hr0 : (View.whole cc0_scratch0).read (Elt Ideal) ((Memref.isWhole_whole cc0_scratch0).unread acc.2.1) = acc.2.1 := (Memref.isWhole_whole cc0_scratch0).read_unread _
  have hr1 : (View.whole cc0_scratch1).read (Elt Ideal) ((Memref.isWhole_whole cc0_scratch1).unread acc.2.2) = acc.2.2 := (Memref.isWhole_whole cc0_scratch1).read_unread _
  rw [stAt0_B m c t acc h0]
  dsimp only
  unfold sout0_B_1
  rw [View.read_writes_eq_canon _ _ _ (scover0_B_1 c _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, View.canon_cons_unit_zero (S := S8x512) hz, View.canon_unit_zero (S := S1x256x512) hz3, View.ld_unit_zero (S := S1x256x1024) hz3, View.ld_unit_zero (S := S1024x512) hz, View.ld_unit_zero (S := S512x512) hz, View.ld_unit_zero (S := S1x512) hz]
  simp only [readB 7 (by omega), readB 6 (by omega), readB 5 (by omega), hr0, hr1]
  rw [pay2_eq, scan_eq]
  rfl

end Cert.RgIdeal.KerValue

end
-- ==== Proof.RgRead.lean ====
/- The recurrent call's kernel: the blocks a grid point reads, as entries of the argument arrays. -/
module

public import proofs.«01_k».proof.Proof.RgBlk

@[expose] public section

set_option maxRecDepth 16384

noncomputable section

namespace Cert.RgIdeal.KerValue

open Cert.RgIdeal Cert.RgIdeal.Gen Cert.RgIdeal.Value Idealize.ShloMosaic Idealize.ShloMosaic.TcCoe Idealize.SL.Sem

variable (m : (ℓ : Loc nD τ sig) → Buf (Elt Ideal) ℓ) (c : Dev nD) (t : Fin cfg0.N)

/-- The input and result windows' block indices are the point's batch row and step; the other windows stay at the origin. -/
theorem idx : ∀ t : Fin cfg0.N, (win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]) :=
  (by decide +kernel : ∀ t : Fin grid0.N, (win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]))

/-- The input's rows. -/
theorem blk0 (r : Fin 256) (k : Fin 1024) : iblk m c 0 t (ix3 0 r k)
    = (m ((c : Thread nD τ).loc main_arg0) : FVec Ideal S16x4096x1024 .f32) (ix3 ⟨t.val / 16, by have := t.isLt; have : cfg0.N = 256 := N_0; omega⟩ ⟨t.val % 16 * 256 + r.val, by omega⟩ k) := by
  blk_ext! [iblk, V_main_arg0, idx t]

/-- The recurrent branch's columns of the input matrix. -/
theorem blk1 (k : Fin 1024) (l : Fin 512) : iblk m c 1 t (ix2 k l)
    = (m ((c : Thread nD τ).loc main_arg1) : FVec Ideal S1024x3080 .f32) (ix2 k ⟨l.val, by omega⟩) := by
  blk_ext! [iblk, idx t]

/-- The convolution's taps. -/
theorem blk3 (k : Fin 4) (l : Fin 512) : iblk m c 3 t (ix2 k l)
    = (m ((c : Thread nD τ).loc main_arg2) : FVec Ideal S4x512 .f32) (ix2 k l) := by
  blk_ext! [iblk, V_main_arg2, idx t]

/-- The convolution's bias. -/
theorem blk4 (l : Fin 512) : iblk m c 4 t (ix2 0 l)
    = (m ((c : Thread nD τ).loc main_arg3) : FVec Ideal S512 .f32) (ix1 l) := by
  blk_ext! [iblk, idx t]

/-- A block-diagonal matrix's entry. -/
def diag (w : FVec Ideal S8x64x64 .f32) (k l : Fin 512) : EReal :=
  if k.val / 64 = l.val / 64 then w (ix3 ⟨k.val / 64, by omega⟩ ⟨k.val % 64, by omega⟩ ⟨l.val % 64, by omega⟩) else 0

/-- The block-diagonal matrix, as the host builds it. -/
def diagS (w : FVec Ideal S8x64x64 .f32) : FVec Ideal S512x512 .f32 :=
  shapeCast S512x512 (mulf (broadcastInDim S8x64x8x64 ![0, 1, 2, 3] bcast_S8x1x8x1_S8x64x8x64_0_1_2_3
      (broadcastInDim S8x1x8x1 ![0, 2] bcast_S8x8_S8x1x8x1_0_2 (uitofp FTy.f32 (cmpi CmpIPredicate.eq
        (addi (iotaInDim S8x8 32 0) (broadcastInDim S8x8 ![] bcast_S_S8x8 (constantI S_ 32 0#32))) (iotaInDim S8x8 32 1)))))
    (broadcastInDim S8x64x8x64 ![0, 1, 2, 3] bcast_S8x64x1x64_S8x64x8x64_0_1_2_3
      (broadcastInDim S8x64x1x64 ![0, 1, 3] bcast_S8x64x64_S8x64x1x64_0_1_3 w))) shapeCasts_S8x64x8x64_S512x512

/-- The host's block-diagonal matrix at an entry. -/
theorem diagS_apply (w : FVec Ideal S8x64x64 .f32) (k l : Fin 512) : diagS w (ix2 k l) = diag w k l := by
  pointwise [diagS]
  unfold diag
  have ez : IntOp.addi (BitVec.ofNat 32 (k.val / 64)) 0#32 = BitVec.ofNat 32 (k.val / 64) := by simp [IntOp.addi]
  rw [ez]
  by_cases h : k.val / 64 = l.val / 64
  · rw [if_pos h]
    have e1 : IntOp.cmpi CmpIPredicate.eq (BitVec.ofNat 32 (k.val / 64)) (BitVec.ofNat 32 (l.val / 64)) = 1#1 := by rw [h]; simp [IntOp.cmpi]
    rw [e1]
    have e2 : FloatOps.uitofp (F := Ideal) FTy.f32 1#1 = (1 : EReal) := by simp [FloatOps.uitofp]
    exact (congrArg (fun q : EReal => q * _) e2).trans (one_mul _)
  · rw [if_neg h]
    have e1 : IntOp.cmpi CmpIPredicate.eq (BitVec.ofNat 32 (k.val / 64)) (BitVec.ofNat 32 (l.val / 64)) = 0#1 := by
      refine ValueIdx.eq_zero_of_ne_one fun hh => h ?_
      simp only [IntOp.cmpi, WordArith.ofBool_eq_one_iff, beq_iff_eq] at hh
      have := congrArg BitVec.toNat hh
      simp only [BitVec.toNat_ofNat] at this
      omega
    rw [e1]
    have e2 : FloatOps.uitofp (F := Ideal) FTy.f32 0#1 = (0 : EReal) := by simp [FloatOps.uitofp]
    exact (congrArg (fun q : EReal => q * _) e2).trans (zero_mul _)

/-- A product with a block-diagonal matrix is the product with the column's block. -/
theorem dot_diag (w : FVec Ideal S8x64x64 .f32) (u : Fin 512 → EReal) (l : Fin 512) :
    ∑ k : Fin 512, u k * diag w k l = RgSpec.block (fun h i j => w (ix3 h i j)) u l := by
  unfold RgSpec.block
  have hl := l.isLt
  refine (Equiv.sum_comp (finProdFinEquiv (m := 8) (n := 64)) (fun k : Fin 512 => u k * diag w k l)).symm.trans ?_
  rw [Fintype.sum_prod_type, Finset.sum_eq_single (⟨l.val / 64, by omega⟩ : Fin 8)]
  · refine Finset.sum_congr rfl fun k _ => ?_
    have ek : (finProdFinEquiv ((⟨l.val / 64, by omega⟩ : Fin 8), k) : Fin 512) = ⟨l.val / 64 * 64 + k.val, by omega⟩ :=
      Fin.ext (by show k.val + 64 * (l.val / 64) = l.val / 64 * 64 + k.val; omega)
    rw [ek, mul_comm]
    unfold diag
    rw [if_pos (by show (l.val / 64 * 64 + k.val) / 64 = l.val / 64; omega)]
    refine congrArg (fun q : EReal => q * _) (congrArg w ?_)
    refine congr (congr (congrArg ix3 (Fin.ext ?_)) (Fin.ext ?_)) rfl
    · show (l.val / 64 * 64 + k.val) / 64 = l.val / 64
      omega
    · show (l.val / 64 * 64 + k.val) % 64 = k.val
      omega
  · intro b _ hb
    refine Finset.sum_eq_zero fun k _ => ?_
    unfold diag
    rw [if_neg, mul_zero]
    intro hh
    refine hb (Fin.ext ?_)
    have : (k.val + 64 * b.val) / 64 = l.val / 64 := hh
    show b.val = l.val / 64
    omega
  · intro h
    exact absurd (Finset.mem_univ _) h

/-- The decay gate's matrix. -/
theorem blk5 (k l : Fin 512) : iblk m c 5 t (ix2 k l) = diag (m ((c : Thread nD τ).loc main_arg4)) k l := by
  have e : (win0_5.blk t).view.emb (ix2 k l : S512x512.Idx) = (ix2 k l : S512x512.Idx) := by blk_ext [idx t]
  have e' : iblk m c 5 t (ix2 k l) = V m c main_v17 (ix2 k l) := congrArg (V m c main_v17) e
  rw [e']
  entry_read
  exact diagS_apply _ k l

/-- The input gate's matrix. -/
theorem blk6 (k l : Fin 512) : iblk m c 6 t (ix2 k l) = diag (m ((c : Thread nD τ).loc main_arg5)) k l := by
  have e : (win0_6.blk t).view.emb (ix2 k l : S512x512.Idx) = (ix2 k l : S512x512.Idx) := by blk_ext [idx t]
  have e' : iblk m c 6 t (ix2 k l) = V m c main_v30 (ix2 k l) := congrArg (V m c main_v30) e
  rw [e']
  entry_read
  exact diagS_apply _ k l

/-- The decay gate's bias. -/
theorem blk7 (l : Fin 512) : iblk m c 7 t (ix2 0 l)
    = (m ((c : Thread nD τ).loc main_arg6) : FVec Ideal S512 .f32) (ix1 l) := by
  blk_ext! [iblk, idx t]

/-- The input gate's bias. -/
theorem blk8 (l : Fin 512) : iblk m c 8 t (ix2 0 l)
    = (m ((c : Thread nD τ).loc main_arg7) : FVec Ideal S512 .f32) (ix1 l) := by
  blk_ext! [iblk, idx t]

/-- The decay's parameter. -/
theorem blk9 (l : Fin 512) : iblk m c 9 t (ix2 0 l)
    = (m ((c : Thread nD τ).loc main_arg8) : FVec Ideal S512 .f32) (ix1 l) := by
  blk_ext! [iblk, idx t]

/-- The gate branch's columns of the input matrix. -/
theorem blk2 (k : Fin 1024) (l : Fin 512) : iblk m c 2 t (ix2 k l)
    = (m ((c : Thread nD τ).loc main_arg1) : FVec Ideal S1024x3080 .f32) (ix2 k ⟨512 + l.val, by omega⟩) := by
  blk_ext! [iblk, idx t]

end Cert.RgIdeal.KerValue

end
-- ==== Proof.RgKer.lean ====
/- The recurrent call's kernel at the extended reals: its result array, read at an index, is the gated recurrence. -/
module

public import proofs.«01_k».proof.Proof.RgRead

@[expose] public section

set_option maxRecDepth 16384

noncomputable section

namespace Cert.RgIdeal.KerValue

open Cert.RgIdeal Cert.RgIdeal.Gen Cert.RgIdeal.Value Idealize.ShloMosaic Idealize.ShloMosaic.TcCoe Idealize.SL.Sem

section Arrays

variable (x0 : FVec Ideal S1x256x1024 .f32) (x1 : FVec Ideal S1024x512 .bf16) (x3 : FVec Ideal S4x512 .f32) (x4 : FVec Ideal S1x512 .f32)
  (w : FVec Ideal S512x512 .bf16) (b x9 : FVec Ideal S1x512 .f32) (carry : FVec Ideal S8x512 .f32) (r : Fin 256) (l : Fin 512)

/-- The recurrent branch's input product. -/
theorem pay9_apply : k0_pay9 x0 x1 (ix2 r l) = ∑ k : Fin 1024, x0 (ix3 0 r k) * x1 (ix2 k l) := by
  pointwise [k0_pay9, k0_pay7, k0_pay6]

/-- The gate branch's input product. -/
theorem pay8_apply : k0_pay8 x0 x1 (ix2 r l) = ∑ k : Fin 1024, x0 (ix3 0 r k) * x1 (ix2 k l) := by
  pointwise [k0_pay8, k0_pay6]

/-- The stored product is the product. -/
theorem pay7_eq : k0_pay7 (F := Ideal) x0 x1 = k0_pay9 (F := Ideal) x0 x1 := by
  unfold k0_pay9
  exact (shapeCast_id _ _).symm

/-- The convolution at an index. -/
theorem uB_apply : uB x0 x1 x3 x4 carry (ix2 r l) = x4 (ix2 0 l) + x3 (ix2 3 l) * k0_pay9 x0 x1 (ix2 r l)
    + x3 (ix2 2 l) * backB 7 carry (k0_pay9 x0 x1) (ix2 r l) + x3 (ix2 1 l) * backB 6 carry (k0_pay9 x0 x1) (ix2 r l)
    + x3 (ix2 0 l) * backB 5 carry (k0_pay9 x0 x1) (ix2 r l) := by
  unfold uB k0_pay12 k0_pay10 k0_pay11
  rw [pay7_eq]
  generalize k0_pay9 (F := Ideal) x0 x1 = q
  generalize backB 7 carry q = b7
  generalize backB 6 carry q = b6
  generalize backB 5 carry q = b5
  pointwise

/-- The input gate at an index. -/
theorem iB_apply : iB x0 x1 x3 x4 w b carry (ix2 r l)
    = Ideal.logistic ((∑ k : Fin 512, uB x0 x1 x3 x4 carry (ix2 r k) * w (ix2 k l)) + b (ix2 0 l)) := by
  change logistic (addf (matmul dot_S256x512_S512x512_S256x512_1_0_0_1_n_n none (truncf .bf16 (uB x0 x1 x3 x4 carry) bitsLt_bf16_f32)
    (shapeCast S512x512 w shapeCasts_S512x512_S512x512) (constant S256x512 .f32 0x00000000#32))
    (broadcastTo S256x512 (shapeCast S1x512 b shapeCasts_S1x512_S1x512) broadcasts_S1x512_S256x512)) (ix2 r l) = _
  generalize uB x0 x1 x3 x4 carry = u
  pointwise

/-- Minus eight times the decay gate at an index. -/
theorem zB_apply : zB x0 x1 x3 x4 w b carry (ix2 r l) = Ideal.ofBits .f32 0xC1000000#32
    * Ideal.logistic ((∑ k : Fin 512, uB x0 x1 x3 x4 carry (ix2 r k) * w (ix2 k l)) + b (ix2 0 l)) := by
  change mulf (broadcast S256x512 (Scalar.ofBits .f32 0xC1000000#32)) (logistic (addf (matmul dot_S256x512_S512x512_S256x512_1_0_0_1_n_n none (truncf .bf16 (uB x0 x1 x3 x4 carry) bitsLt_bf16_f32)
    (shapeCast S512x512 w shapeCasts_S512x512_S512x512) (constant S256x512 .f32 0x00000000#32))
    (broadcastTo S256x512 (shapeCast S1x512 b shapeCasts_S1x512_S1x512) broadcasts_S1x512_S256x512))) (ix2 r l) = _
  generalize uB x0 x1 x3 x4 carry = u
  pointwise

/-- The decay at an index. -/
theorem pay20_apply (z : FVec Ideal S256x512 .f32) : k0_pay20 z (k0_pay18 x9) (k0_pay19 x9) (ix2 r l)
    = Ideal.exp (z (ix2 r l) * RgSpec.soft (x9 (ix2 0 l))) := by
  pointwise [k0_pay20, k0_pay18, k0_pay19, k0_pay17]
  unfold RgSpec.soft
  simp only [zero_sub]

/-- The recurrence's input at an index. -/
theorem inB_apply (a i u : FVec Ideal S256x512 .f32) : inB a i u (ix2 r l)
    = Ideal.sqrt (1 - a (ix2 r l) * a (ix2 r l)) * (i (ix2 r l) * u (ix2 r l)) := by
  pointwise [inB]

end Arrays

section Sequence

variable (p : RgSpec.Par) (X : ℕ → Fin 512 → EReal) (s : ℕ)

/-- The carried rows are the sequence's last three before time `s`. -/
def Carry (carry : FVec Ideal S8x512 .f32) : Prop :=
  ∀ (j : Fin 8) (l : Fin 512), 5 ≤ j.val → carry (ix2 j l) = if 8 ≤ s + j.val then X (s + j.val - 8) l else 0

/-- The rows read from row `8 - d` are the sequence `d` steps back. -/
theorem back_apply (carry : FVec Ideal S8x512 .f32) (hc : Carry X s carry) (q : FVec Ideal S256x512 .f32)
    (hq : ∀ (r : Fin 256) (l : Fin 512), q (ix2 r l) = X (s + r.val) l) (o d : ℕ) (ho : o + d = 8) (hd : d ≤ 3) (r : Fin 256) (l : Fin 512) :
    backB o carry q (ix2 r l) = RgSpec.back X d (s + r.val) l := by
  have hr := r.isLt
  unfold RgSpec.back
  show (if h : 8 ≤ o + r.val then (if h' : o + r.val < 264 then q (ix2 ⟨o + r.val - 8, by omega⟩ l) else 0) else carry (ix2 ⟨o + r.val, by omega⟩ l)) = _
  by_cases h : 8 ≤ o + r.val
  · rw [dif_pos h, dif_pos (by omega), hq, if_pos (by omega)]
    refine congrArg (fun n => X n l) ?_
    show s + (o + r.val - 8) = _
    omega
  · rw [dif_neg h, hc _ _ (by show 5 ≤ o + r.val; omega)]
    show (if 8 ≤ s + (o + r.val) then X (s + (o + r.val) - 8) l else 0) = _
    by_cases h2 : d ≤ s + r.val
    · rw [if_pos (by omega), if_pos h2]
      refine congrArg (fun n => X n l) ?_
      omega
    · rw [if_neg (by omega), if_neg h2]

/-- A block's last rows are carried. -/
theorem tail_carry (q : FVec Ideal S256x512 .f32) (hq : ∀ (r : Fin 256) (l : Fin 512), q (ix2 r l) = X (s + r.val) l) :
    Carry X (s + 256) (tail8 q) := by
  intro j l hj
  rw [if_pos (by omega)]
  refine (hq _ l).trans (congrArg (fun n => X n l) ?_)
  show s + (248 + j.val) = _
  omega

variable (x0 : FVec Ideal S1x256x1024 .f32) (x1 : FVec Ideal S1024x512 .bf16) (x3 : FVec Ideal S4x512 .f32) (x4 : FVec Ideal S1x512 .f32)
  (x5 x6 : FVec Ideal S512x512 .bf16) (x7 x8 x9 : FVec Ideal S1x512 .f32) (carry : FVec Ideal S8x512 .f32) (r0 : FVec Ideal S1x512 .f32)

/-- The arrays one point reads hold the call's parameters and the sequence from time `s`. -/
structure Reads : Prop where
  x : ∀ (r : Fin 256) (l : Fin 512), k0_pay9 (F := Ideal) x0 x1 (ix2 r l) = X (s + r.val) l
  cw : ∀ (j : Fin 4) (l : Fin 512), x3 (ix2 j l) = p.cw j l
  cb : ∀ l : Fin 512, x4 (ix2 0 l) = p.cb l
  wa : ∀ (u : Fin 512 → EReal) (l : Fin 512), ∑ k : Fin 512, u k * x5 (ix2 k l) = RgSpec.block p.wa u l
  wx : ∀ (u : Fin 512 → EReal) (l : Fin 512), ∑ k : Fin 512, u k * x6 (ix2 k l) = RgSpec.block p.wx u l
  ba : ∀ l : Fin 512, x7 (ix2 0 l) = p.ba l
  bx : ∀ l : Fin 512, x8 (ix2 0 l) = p.bx l
  lam : ∀ l : Fin 512, x9 (ix2 0 l) = p.lam l

variable {p X s x0 x1 x3 x4 x5 x6 x7 x8 x9 carry r0}

/-- The convolution's output over the sequence. -/
theorem Reads.u (h : Reads p X s x0 x1 x3 x4 x5 x6 x7 x8 x9) (hc : Carry X s carry) (r : Fin 256) (l : Fin 512) :
    uB x0 x1 x3 x4 carry (ix2 r l) = p.U X (s + r.val) l := by
  rw [uB_apply, back_apply X s carry hc _ h.x 7 1 rfl (by omega), back_apply X s carry hc _ h.x 6 2 rfl (by omega),
    back_apply X s carry hc _ h.x 5 3 rfl (by omega), h.x, h.cw, h.cw, h.cw, h.cw, h.cb]
  unfold RgSpec.Par.U
  ac_rfl

/-- The decay over the sequence. -/
theorem Reads.a (h : Reads p X s x0 x1 x3 x4 x5 x6 x7 x8 x9) (hc : Carry X s carry) (r : Fin 256) (l : Fin 512) :
    aB x0 x1 x3 x4 x5 x7 x9 carry (ix2 r l) = p.A X l (s + r.val) := by
  unfold aB
  rw [pay20_apply, zB_apply]
  simp only [h.u hc]
  rw [h.wa (fun k => p.U X (s + r.val) k) l, h.ba, h.lam]
  rfl

/-- The recurrence's input over the sequence. -/
theorem Reads.b (h : Reads p X s x0 x1 x3 x4 x5 x6 x7 x8 x9) (hc : Carry X s carry) (r : Fin 256) (l : Fin 512) :
    inB (aB x0 x1 x3 x4 x5 x7 x9 carry) (iB x0 x1 x3 x4 x6 x8 carry) (uB x0 x1 x3 x4 carry) (ix2 r l) = p.B X l (s + r.val) := by
  rw [inB_apply, h.a hc, iB_apply]
  simp only [h.u hc]
  rw [h.wx (fun k => p.U X (s + r.val) k) l, h.bx]
  rfl

/-- The states over the sequence. -/
theorem Reads.h (h : Reads p X s x0 x1 x3 x4 x5 x6 x7 x8 x9) (hc : Carry X s carry) (hr : ∀ l : Fin 512, r0 (ix2 0 l) = p.H X l s)
    (r : Fin 256) (l : Fin 512) :
    hB x0 x1 x3 x4 x5 x6 x7 x8 x9 carry r0 (ix2 r l) = p.H X l (s + (r.val + 1)) := by
  unfold hB
  rw [stateB_apply (fun l t => p.A X l (s + t)) (fun l t => p.B X l (s + t)) (fun l t => p.A_nonneg X l _) (fun l t => p.A_ne_top X l _) _ _ r0
    (h.a hc) (h.b hc) r l, hr l]
  unfold RgSpec.Par.H
  exact (RgSpec.recur_add _ _ _).symm

end Sequence

variable (m : (ℓ : Loc nD τ sig) → Buf (Elt Ideal) ℓ) (c : Dev nD)

/-- The call's parameters, from the argument arrays. -/
def par : RgSpec.Par where
  cw := fun j l => (m ((c : Thread nD τ).loc main_arg2) : FVec Ideal S4x512 .f32) (ix2 j l)
  cb := fun l => (m ((c : Thread nD τ).loc main_arg3) : FVec Ideal S512 .f32) (ix1 l)
  wa := fun h i j => (m ((c : Thread nD τ).loc main_arg4) : FVec Ideal S8x64x64 .f32) (ix3 h i j)
  wx := fun h i j => (m ((c : Thread nD τ).loc main_arg5) : FVec Ideal S8x64x64 .f32) (ix3 h i j)
  ba := fun l => (m ((c : Thread nD τ).loc main_arg6) : FVec Ideal S512 .f32) (ix1 l)
  bx := fun l => (m ((c : Thread nD τ).loc main_arg7) : FVec Ideal S512 .f32) (ix1 l)
  lam := fun l => (m ((c : Thread nD τ).loc main_arg8) : FVec Ideal S512 .f32) (ix1 l)

/-- Column `l` of an input product at time `t`. -/
def colOf (x : FVec Ideal S16x4096x1024 .f32) (w : FVec Ideal S1024x3080 .f32) (b : Fin 16) (t : ℕ) (l : Fin 3080) : EReal :=
  if h : t < 4096 then ∑ k : Fin 1024, x (ix3 b ⟨t, h⟩ k) * w (ix2 k l) else 0

/-- Column `l` of the call's input product at time `t`. -/
def col (b : Fin 16) (t : ℕ) (l : Fin 3080) : EReal :=
  colOf (m ((c : Thread nD τ).loc main_arg0)) (m ((c : Thread nD τ).loc main_arg1)) b t l

/-- The recurrent branch's columns. -/
def X (b : Fin 16) (t : ℕ) (l : Fin 512) : EReal := col m c b t ⟨l.val, by omega⟩

/-- The kernel's result by index: the recurrence's state after step `t`, gated. -/
def res (b : Fin 16) (t : ℕ) (l : Fin 512) : EReal :=
  (par m c).H (X m c b) l (t + 1) * RgSpec.act (col m c b t ⟨512 + l.val, by omega⟩)

variable (t : Fin cfg0.N)

/-- The batch row of a point. -/
abbrev bOf (t : Fin cfg0.N) : Fin 16 := ⟨t.val / 16, by have := t.isLt; have : cfg0.N = 256 := N_0; omega⟩

/-- The first time of a point. -/
abbrev sOf (t : Fin cfg0.N) : ℕ := t.val % 16 * 256

/-- The recurrent branch's input product of a point. -/
theorem xr_apply (r : Fin 256) (l : Fin 512) : k0_pay9 (F := Ideal) (iblk m c 0 t) (iblk m c 1 t) (ix2 r l) = X m c (bOf t) (sOf t + r.val) l := by
  rw [pay9_apply]
  unfold X col colOf
  rw [dif_pos (by have := r.isLt; show t.val % 16 * 256 + r.val < 4096; omega)]
  exact Finset.sum_congr rfl fun k _ => congrArg₂ (fun p q : EReal => p * q) (blk0 m c t r k) (blk1 m c t k l)

/-- The gate branch's input product of a point. -/
theorem xg_apply (r : Fin 256) (l : Fin 512) : k0_pay8 (F := Ideal) (iblk m c 0 t) (iblk m c 2 t) (ix2 r l)
    = col m c (bOf t) (sOf t + r.val) ⟨512 + l.val, by omega⟩ := by
  rw [pay8_apply]
  unfold col colOf
  rw [dif_pos (by have := r.isLt; show t.val % 16 * 256 + r.val < 4096; omega)]
  exact Finset.sum_congr rfl fun k _ => congrArg₂ (fun p q : EReal => p * q) (blk0 m c t r k) (blk2 m c t k l)

/-- A point reads the parameters and the sequence from its first time. -/
theorem reads : Reads (par m c) (X m c (bOf t)) (sOf t) (iblk m c 0 t) (iblk m c 1 t) (iblk m c 3 t) (iblk m c 4 t) (iblk m c 5 t) (iblk m c 6 t)
    (iblk m c 7 t) (iblk m c 8 t) (iblk m c 9 t) where
  x := xr_apply m c t
  cw := blk3 m c t
  cb := blk4 m c t
  wa := fun u l => (Finset.sum_congr rfl fun k _ => congrArg (fun q : EReal => u k * q) (blk5 m c t k l)).trans (dot_diag _ u l)
  wx := fun u l => (Finset.sum_congr rfl fun k _ => congrArg (fun q : EReal => u k * q) (blk6 m c t k l)).trans (dot_diag _ u l)
  ba := blk7 m c t
  bx := blk8 m c t
  lam := blk9 m c t

/-- What a point leaves: its block of the result, the rows carried and the state carried. -/
structure Left (t : Fin cfg0.N) (st : Vec Ideal S1x256x512 .bf16 × Vec Ideal S264x512 .f32 × Vec Ideal S8x512 .f32) : Prop where
  out : ∀ (r : Fin 256) (l : Fin 512), (st.1 : FVec Ideal S1x256x512 .bf16) (ix3 0 r l) = res m c (bOf t) (sOf t + r.val) l
  rows : Carry (X m c (bOf t)) (sOf t + 256) (head8 st.2.1)
  state : ∀ (j : Fin 8) (l : Fin 512), (st.2.2 : FVec Ideal S8x512 .f32) (ix2 j l) = (par m c).H (X m c (bOf t)) l (sOf t + 256)

/-- What a point leaves, from what it reads of the point before. -/
theorem left_of (st : Vec Ideal S1x256x512 .bf16 × Vec Ideal S264x512 .f32 × Vec Ideal S8x512 .f32) (carry : FVec Ideal S8x512 .f32) (r0 : FVec Ideal S1x512 .f32)
    (hc : Carry (X m c (bOf t)) (sOf t) carry) (hr : ∀ l : Fin 512, r0 (ix2 0 l) = (par m c).H (X m c (bOf t)) l (sOf t))
    (ho : st.1 = gatedB (k0_pay8 (iblk m c 0 t) (iblk m c 2 t)) (hB (iblk m c 0 t) (iblk m c 1 t) (iblk m c 3 t) (iblk m c 4 t) (iblk m c 5 t) (iblk m c 6 t) (iblk m c 7 t) (iblk m c 8 t) (iblk m c 9 t) carry r0))
    (hb : head8 st.2.1 = tail8 (k0_pay9 (iblk m c 0 t) (iblk m c 1 t)))
    (hh : st.2.2 = lastB (hB (iblk m c 0 t) (iblk m c 1 t) (iblk m c 3 t) (iblk m c 4 t) (iblk m c 5 t) (iblk m c 6 t) (iblk m c 7 t) (iblk m c 8 t) (iblk m c 9 t) carry r0)) :
    Left m c t st where
  out := fun r l => by
    rw [ho, gatedB_apply, (reads m c t).h hc hr, xg_apply]
    rfl
  rows := by
    rw [hb]
    exact tail_carry _ _ _ (xr_apply m c t)
  state := fun j l => by
    rw [hh, lastB_apply, (reads m c t).h hc hr]
    rfl

/-- The first row of eight. -/
theorem ldRow (z : FVec Ideal S8x512 .f32) (l : Fin 512) :
    View.ld (Val := Elt Ideal) (e' := .f32) z (Rect.unit (s := S8x512) ![0, 0] ![1, 512] inb_S8x512_S1x512_0_0) (ix2 0 l) = z (ix2 0 l) := by
  refine congrArg z ?_
  funext a
  refine Fin.ext ?_
  fin_cases a
  · rfl
  · show 0 + 1 * l.val = l.val
    omega

/-- A batch row's first point leaves its block of the result. -/
theorem left_first (t : Fin cfg0.N) (h0 : t.val % 16 = 0) (acc : Vec Ideal S1x256x512 .bf16 × Vec Ideal S264x512 .f32 × Vec Ideal S8x512 .f32) :
    Left m c t (stAt0 m c t.val t.isLt acc) := by
  have hs : sOf t = 0 := by show t.val % 16 * 256 = 0; omega
  refine left_of m c t _ _ _ ?_ ?_ (pointA_o m c t h0 acc) (pointA_b m c t h0 acc) (pointA_h m c t h0 acc)
  · intro j l hj
    rw [hs, if_neg (by have := j.isLt; omega)]
    pointwise [k0_pay4]
  · intro l
    refine (ldRow _ l).trans ?_
    rw [hs]
    refine Eq.trans ?_ (show (0 : EReal) = (par m c).H (X m c (bOf t)) l 0 from rfl)
    pointwise [k0_pay5]

/-- Every point leaves its block of the result. -/
theorem left (n : ℕ) (hn : n < cfg0.N) : Left m c ⟨n, hn⟩ (outsAt0 m c n hn) := by
  induction n with
  | zero =>
    rw [outsAt0_zero]
    exact left_first m c ⟨0, hn⟩ rfl _
  | succ n ih =>
    rw [outsAt0_succ]
    have hn' : n < cfg0.N := Nat.lt_of_succ_lt hn
    have L := ih hn'
    by_cases h0 : (n + 1) % 16 = 0
    · exact left_first m c ⟨n + 1, hn⟩ h0 _
    · have hb : bOf ⟨n, hn'⟩ = bOf ⟨n + 1, hn⟩ := Fin.ext (by show n / 16 = (n + 1) / 16; omega)
      have hs : sOf ⟨n, hn'⟩ + 256 = sOf ⟨n + 1, hn⟩ := by show n % 16 * 256 + 256 = (n + 1) % 16 * 256; omega
      refine left_of m c ⟨n + 1, hn⟩ _ _ _ ?_ ?_ (pointB_o m c ⟨n + 1, hn⟩ h0 _) (pointB_b m c ⟨n + 1, hn⟩ h0 _) (pointB_h m c ⟨n + 1, hn⟩ h0 _)
      · have := L.rows
        rw [hb, hs] at this
        exact this
      · intro l
        have := L.state 0 l
        rw [hb, hs] at this
        exact (ldRow _ l).trans this

/-- The result array at an index. -/
theorem out_apply (b : Fin 16) (t : Fin 4096) (l : Fin 512) :
    (G10 m c : FVec Ideal S16x4096x512 .bf16) (ix3 b t l) = res m c b t.val l := by
  have hl := l.isLt
  have ht := t.isLt
  have hb := b.isLt
  have e : pt10Of (ix3 b t l) = b.val * 16 + t.val / 256 := by
    show 16 * (b.val / 1 - 0) + 1 * (t.val / 256 - 0) + 1 * (l.val / 512 - 0) = _
    omega
  have h : pt10Of (ix3 b t l) < cfg0.N := by
    have : cfg0.N = 256 := N_0
    omega
  unfold G10
  rw [dif_pos h, ← outsAt0_sweep m c _ h]
  have L := (left m c _ h).out ⟨t.val % 256, by omega⟩ l
  have el : loc10Of (ix3 b t l) = (ix3 0 ⟨t.val % 256, by omega⟩ l : S1x256x512.Idx) := by
    funext a
    refine Fin.ext ?_
    fin_cases a
    · show b.val % 1 = 0
      omega
    · rfl
    · show l.val % 512 = l.val
      omega
  rw [el]
  refine L.trans ?_
  have e1 : bOf ⟨pt10Of (ix3 b t l), h⟩ = b := Fin.ext (by show pt10Of (ix3 b t l) / 16 = b.val; omega)
  have e2 : sOf ⟨pt10Of (ix3 b t l), h⟩ + t.val % 256 = t.val := by
    show pt10Of (ix3 b t l) % 16 * 256 + t.val % 256 = t.val
    omega
  rw [e1]
  exact congrArg (fun n => res m c b n l) e2

end Cert.RgIdeal.KerValue

end
-- ==== Proof.RgRef.lean ====
/- The recurrent call's reference before its loop, read at an index. -/
module

public import Idealize.ShloMosaic.Lib.Pointwise
public import Idealize.ShloMosaic.Lib.Pipeline.ValueKit
public import Idealize.ShloMosaic.Lib.Claim
public import Idealize.ShloMosaic.Lib.KernelVsHost
public import proofs.«01_k».proof.Proof.Gen.RgRefIdeal.Run
public import proofs.«01_k».proof.Proof.RgSpec

@[expose] public section

set_option maxRecDepth 16384

noncomputable section

namespace Cert.RgRefIdeal.RefValue

open Cert.RgRefIdeal Cert.RgRefIdeal.Gen Idealize.ShloMosaic Idealize.ShloMosaic.TcCoe Idealize.SL.Sem Idealize.ShloMosaic.StableHlo

/-- The recurrent branch's columns of the input product. -/
def xrS (x : FVec Ideal S16x4096x1024 .f32) (w : FVec Ideal S1024x3080 .f32) : FVec Ideal S16x4096x512 .f32 :=
  extractStridedSlice S16x4096x512 ![0, 0, 0]
    (Host.dotGeneral dot_S16x4096x1024_S1024x3080_S16x4096x3080_2_0_01_1_n_n none x w : FVec Ideal S16x4096x3080 .f32)
    slices_S16x4096x3080_S16x4096x512_0_0_0

/-- The gate branch's columns of the input product. -/
def xgS (x : FVec Ideal S16x4096x1024 .f32) (w : FVec Ideal S1024x3080 .f32) : FVec Ideal S16x4096x512 .f32 :=
  extractStridedSlice S16x4096x512 ![0, 0, 512]
    (Host.dotGeneral dot_S16x4096x1024_S1024x3080_S16x4096x3080_2_0_01_1_n_n none x w : FVec Ideal S16x4096x3080 .f32)
    slices_S16x4096x3080_S16x4096x512_0_0_512

/-- Three rows of zeros before the sequence. -/
def padS (p : FVec Ideal S16x4096x512 .f32) : FVec Ideal S16x4099x512 .f32 :=
  pad S16x4099x512 ![0, 3, 0] ![0, 0, 0] ![0, 0, 0] p (sitofp .f32 (constantI S_ 32 0#32))
    pads_S16x4096x512_S16x4099x512_000_300_000 h_S_

/-- A vector along the last axis. -/
def alongS (v : FVec Ideal S512 .f32) : FVec Ideal S16x4096x512 .f32 :=
  broadcastInDim S16x4096x512 ![0, 1, 2] bcast_S1x1x512_S16x4096x512_0_1_2 (broadcastInDim S1x1x512 ![2] bcast_S512_S1x1x512_2 v)

/-- The convolution of the padded sequence. -/
def convS (cw : FVec Ideal S4x512 .f32) (cb : FVec Ideal S512 .f32) (q : FVec Ideal S16x4099x512 .f32) : FVec Ideal S16x4096x512 .f32 :=
  addf (addf (addf (addf (alongS cb)
    (mulf (alongS (shapeCast S512 (extractStridedSlice S1x512 ![0, 0] cw slices_S4x512_S1x512_0_0) shapeCasts_S1x512_S512))
      (extractStridedSlice S16x4096x512 ![0, 0, 0] q slices_S16x4099x512_S16x4096x512_0_0_0)))
    (mulf (alongS (shapeCast S512 (extractStridedSlice S1x512 ![1, 0] cw slices_S4x512_S1x512_1_0) shapeCasts_S1x512_S512))
      (extractStridedSlice S16x4096x512 ![0, 1, 0] q slices_S16x4099x512_S16x4096x512_0_1_0)))
    (mulf (alongS (shapeCast S512 (extractStridedSlice S1x512 ![2, 0] cw slices_S4x512_S1x512_2_0) shapeCasts_S1x512_S512))
      (extractStridedSlice S16x4096x512 ![0, 2, 0] q slices_S16x4099x512_S16x4096x512_0_2_0)))
    (mulf (alongS (shapeCast S512 (extractStridedSlice S1x512 ![3, 0] cw slices_S4x512_S1x512_3_0) shapeCasts_S1x512_S512))
      (extractStridedSlice S16x4096x512 ![0, 3, 0] q slices_S16x4099x512_S16x4096x512_0_3_0))

/-- The block-diagonal product of the convolved sequence. -/
def blockS (wt : FVec Ideal S8x64x64 .f32) (u : FVec Ideal S16x4096x512 .f32) : FVec Ideal S16x4096x512 .f32 :=
  shapeCast S16x4096x512 (transpose S16x4096x8x64 [2, 3, 0, 1]
    (Host.dotGeneral dot_S8x64x64_S16x4096x8x64_S8x64x16x4096_1_3_2_01_0_2 none wt
      (shapeCast S16x4096x8x64 u shapeCasts_S16x4096x512_S16x4096x8x64) : FVec Ideal S8x64x16x4096 .f32)
    transposes_S8x64x16x4096_S16x4096x8x64_2_3_0_1) shapeCasts_S16x4096x8x64_S16x4096x512

/-- The logistic function, spelled out. -/
def gateS (z : FVec Ideal S16x4096x512 .f32) : FVec Ideal S16x4096x512 .f32 :=
  Host.divf (broadcastInDim S16x4096x512 ![] bcast_S_S16x4096x512 (constant S_ .f32 0x3F800000#32))
    (addf (broadcastInDim S16x4096x512 ![] bcast_S_S16x4096x512 (constant S_ .f32 0x3F800000#32)) (Host.exp (Host.negf z)))

/-- Softplus of a vector less zero, as the host spells it. -/
def softS (v : FVec Ideal S512 .f32) : FVec Ideal S512 .f32 :=
  select (cmpf .une (subf v (broadcastInDim S512 ![] bcast_S_S512 (constant S_ .f32 0x00000000#32)))
      (subf v (broadcastInDim S512 ![] bcast_S_S512 (constant S_ .f32 0x00000000#32))))
    (addf v (broadcastInDim S512 ![] bcast_S_S512 (constant S_ .f32 0x00000000#32)))
    (addf (maximumf v (broadcastInDim S512 ![] bcast_S_S512 (constant S_ .f32 0x00000000#32)))
      (Host.log1p (Host.exp (Host.negf (Host.absf (subf v (broadcastInDim S512 ![] bcast_S_S512 (constant S_ .f32 0x00000000#32))))))))

/-- The logarithm of the decay. -/
def logS (r : FVec Ideal S16x4096x512 .f32) (lam : FVec Ideal S512 .f32) : FVec Ideal S16x4096x512 .f32 :=
  mulf (mulf (broadcastInDim S16x4096x512 ![] bcast_S_S16x4096x512 (constant S_ .f32 0xC1000000#32)) r)
    (alongS (softS (Host.negf lam)))

/-- The recurrence's input. -/
def inS (l i u : FVec Ideal S16x4096x512 .f32) : FVec Ideal S16x4096x512 .f32 :=
  mulf (Host.sqrt (Host.negf (Host.expm1 (mulf (broadcastInDim S16x4096x512 ![] bcast_S_S16x4096x512 (constant S_ .f32 0x40000000#32)) l))))
    (mulf i u)

/-- The gate branch's activation. -/
def geluS (g : FVec Ideal S16x4096x512 .f32) : FVec Ideal S16x4096x512 .f32 :=
  mulf g (mulf (broadcastInDim S16x4096x512 ![] bcast_S_S16x4096x512 (constant S_ .f32 0x3F000000#32))
    (addf (broadcastInDim S16x4096x512 ![] bcast_S_S16x4096x512 (constant S_ .f32 0x3F800000#32))
      (Host.tanh (mulf (broadcastInDim S16x4096x512 ![] bcast_S_S16x4096x512 (constant S_ .f32 0x3F4C422A#32))
        (addf g (mulf (broadcastInDim S16x4096x512 ![] bcast_S_S16x4096x512 (constant S_ .f32 0x3D372713#32))
          (mulf (mulf g g) g)))))))

/-- Time first. -/
def timeS (p : FVec Ideal S16x4096x512 .f32) : FVec Ideal S4096x16x512 .f32 :=
  transpose S4096x16x512 [1, 0, 2] p transposes_S16x4096x512_S4096x16x512_1_0_2

variable (m : (ℓ : Loc nD τ sig) → Buf (Elt Ideal) ℓ) (c : Dev nD)

/-- The convolved sequence. -/
def uS : FVec Ideal S16x4096x512 .f32 :=
  convS (m ((c.tc : Thread nD τ).loc main_arg2)) (m ((c.tc : Thread nD τ).loc main_arg3))
    (padS (xrS (m ((c.tc : Thread nD τ).loc main_arg0)) (m ((c.tc : Thread nD τ).loc main_arg1))))

/-- The logarithm of the decay at every step. -/
def logaS : FVec Ideal S16x4096x512 .f32 :=
  logS (gateS (addf (blockS (m ((c.tc : Thread nD τ).loc main_arg4)) (uS m c)) (alongS (m ((c.tc : Thread nD τ).loc main_arg6)))))
    (m ((c.tc : Thread nD τ).loc main_arg8))

set_option maxHeartbeats 2000000 in
set_option maxRecDepth 65536 in
/-- At the loop's entry: the decays, time first. -/
theorem entry_a : entryContents Value.preI m c (Proc.devRef .tc main_v94_0) = timeS (Host.exp (logaS m c)) := by
  simp only [entryContents, afterL_cons, afterL_nil]; after_reads_simp; rfl

set_option maxHeartbeats 2000000 in
set_option maxRecDepth 65536 in
/-- At the loop's entry: the inputs, time first. -/
theorem entry_b : entryContents Value.preI m c (Proc.devRef .tc main_v94_1) = timeS (inS (logaS m c)
    (gateS (addf (blockS (m ((c.tc : Thread nD τ).loc main_arg5)) (uS m c)) (alongS (m ((c.tc : Thread nD τ).loc main_arg7)))))
    (uS m c)) := by
  simp only [entryContents, afterL_cons, afterL_nil]; after_reads_simp; rfl

set_option maxHeartbeats 2000000 in
set_option maxRecDepth 65536 in
/-- At the loop's entry: the gate branch, time first. -/
theorem entry_g : entryContents Value.preI m c (Proc.devRef .tc main_v94_2) = timeS (geluS
    (xgS (m ((c.tc : Thread nD τ).loc main_arg0)) (m ((c.tc : Thread nD τ).loc main_arg1)))) := by
  simp only [entryContents, afterL_cons, afterL_nil]; after_reads_simp; rfl

/-- At the loop's entry: the counter is zero. -/
theorem entry_n : entryContents Value.preI m c (Proc.devRef .tc main_v94_3) = constantI S_ 32 0#32 := by
  simp only [entryContents, afterL_cons, afterL_nil]; after_reads_simp; rfl

/-- At the loop's entry: the state is zero. -/
theorem entry_h : entryContents Value.preI m c (Proc.devRef .tc main_v94_4) =
    broadcastInDim S16x512 ![] bcast_S_S16x512 (constant (F := Ideal) S_ .f32 0x00000000#32) := by
  simp only [entryContents, afterL_cons, afterL_nil]; after_reads_simp; rfl

section Reads

variable (x : FVec Ideal S16x4096x1024 .f32) (w : FVec Ideal S1024x3080 .f32) (b : Fin 16) (t : Fin 4096) (l : Fin 512)

theorem xrS_apply : xrS x w (ix3 b t l) = ∑ k : Fin 1024, x (ix3 b t k) * w (ix2 k ⟨l.val, by omega⟩) := by
  pointwise [xrS]

theorem xgS_apply : xgS x w (ix3 b t l) = ∑ k : Fin 1024, x (ix3 b t k) * w (ix2 k ⟨512 + l.val, by omega⟩) := by
  pointwise [xgS]

theorem alongS_apply (v : FVec Ideal S512 .f32) : alongS v (ix3 b t l) = v (ix1 l) := by
  pointwise [alongS]

theorem padS_apply (p : FVec Ideal S16x4096x512 .f32) (j : Fin 4099) :
    padS p (ix3 b j l) = if h : 3 ≤ j.val then p (ix3 b ⟨j.val - 3, by omega⟩ l) else 0 := by
  pointwise [padS]
  by_cases h : 3 ≤ j.val
  · rw [dif_pos ⟨h, by omega⟩, dif_pos h]
  · rw [dif_neg (fun h' => h h'.1), dif_neg h]
    exact sitofp_zero

theorem convS_apply (cw : FVec Ideal S4x512 .f32) (cb : FVec Ideal S512 .f32) (q : FVec Ideal S16x4099x512 .f32) :
    convS cw cb q (ix3 b t l) = cb (ix1 l) + cw (ix2 0 l) * q (ix3 b ⟨t.val, by omega⟩ l) + cw (ix2 1 l) * q (ix3 b ⟨1 + t.val, by omega⟩ l)
      + cw (ix2 2 l) * q (ix3 b ⟨2 + t.val, by omega⟩ l) + cw (ix2 3 l) * q (ix3 b ⟨3 + t.val, by omega⟩ l) := by
  pointwise [convS, alongS]

theorem blockS_apply (wt : FVec Ideal S8x64x64 .f32) (u : FVec Ideal S16x4096x512 .f32) :
    blockS wt u (ix3 b t l) = ∑ k : Fin 64, wt (ix3 ⟨l.val / 64, by omega⟩ k ⟨l.val % 64, by omega⟩) *
      u (ix3 b t ⟨l.val / 64 * 64 + k.val, by omega⟩) := by
  pointwise [blockS]

theorem gateS_apply (z : FVec Ideal S16x4096x512 .f32) :
    gateS z (ix3 b t l) = Ideal.div 1 (1 + Ideal.exp (-(z (ix3 b t l)))) := by
  pointwise [gateS]

theorem softS_apply (lam : FVec Ideal S512 .f32) : softS (Host.negf lam) (ix1 l) = RgSpec.soft (lam (ix1 l)) := by
  pointwise [softS]
  rw [if_neg (fun h => h rfl)]
  rfl

theorem logS_apply (z : FVec Ideal S16x4096x512 .f32) (lam : FVec Ideal S512 .f32) :
    logS (gateS z) lam (ix3 b t l) = RgSpec.decay (z (ix3 b t l)) (lam (ix1 l)) := by
  pointwise [logS]
  rw [gateS_apply, alongS_apply, softS_apply]
  rfl

theorem inS_apply (r z u : FVec Ideal S16x4096x512 .f32) (h : r (ix3 b t l) ≤ 0) :
    inS r (gateS z) u (ix3 b t l) = RgSpec.inp (r (ix3 b t l)) (z (ix3 b t l)) (u (ix3 b t l)) := by
  pointwise [inS]
  rw [RgSpec.one_sub_sq h, gateS_apply]
  rfl

theorem geluS_apply (r : FVec Ideal S16x4096x512 .f32) : geluS r (ix3 b t l) = RgSpec.act (r (ix3 b t l)) := by
  pointwise [geluS]
  rfl

theorem timeS_apply (r : FVec Ideal S16x4096x512 .f32)  : timeS r (ix3 t b l) = r (ix3 b t l) := by
  pointwise [timeS]

end Reads

end Cert.RgRefIdeal.RefValue

end
-- ==== Proof.RgRefLoop.lean ====
/- The recurrent call's reference: what its loop leaves, and its result. -/
module

public import proofs.«01_k».proof.Proof.RgRef

@[expose] public section

set_option maxRecDepth 16384

noncomputable section

namespace Cert.RgRefIdeal.RefValue

open Cert.RgRefIdeal Cert.RgRefIdeal.Gen Idealize.ShloMosaic Idealize.ShloMosaic.TcCoe Idealize.SL.Sem Idealize.ShloMosaic.StableHlo

/-- Where a row's slice starts: at the counter along time. -/
theorem start_eq (n : IVec S_ 32) (k : Fin 4096) (hn : n (Shape.Idx.first h_S_) = BitVec.ofNat 32 k.val)
    (hr : S1x16x512.rank = S4096x16x512.rank) (a : Fin 3) :
    Host.clampedStart S4096x16x512 S1x16x512 hr (fun k => (((![n, constantI S_ 32 0#32, constantI S_ 32 0#32] :
      Fin 3 → IVec S_ 32)) k (Shape.Idx.first h_S_)).toInt) a = (![k.val, 0, 0] : Fin 3 → ℕ) a := by
  have hk : k.val < 2 ^ 31 := by have := k.isLt; omega
  refine Host.clampedStart_of_le hr _ a _ ?_ ?_
  · match a with
    | 0 =>
      show (n (Shape.Idx.first h_S_)).toInt = ((k.val : ℕ) : ℤ)
      rw [hn, BitVec.toInt_eq_toNat_of_lt (by rw [BitVec.toNat_ofNat]; omega), BitVec.toNat_ofNat, Nat.mod_eq_of_lt (by omega)]
    | 1 => rfl
    | 2 => rfl
  · match a with
    | 0 => show k.val + 1 ≤ 4096; omega
    | 1 => show 0 + 16 ≤ 16; omega
    | 2 => show 0 + 512 ≤ 512; omega

/-- Row `k` of a time-first array, taken at a counter that holds `k`. -/
theorem row_apply (A : FVec Ideal S4096x16x512 .f32) (n : IVec S_ 32) (k : Fin 4096) (hn : n (Shape.Idx.first h_S_) = BitVec.ofNat 32 k.val)
    (b : Fin 16) (l : Fin 512) :
    shapeCast S16x512 (Host.dynamicSlice S1x16x512 A (fun k => (((![n, constantI S_ 32 0#32, constantI S_ 32 0#32] :
      Fin 3 → (⟨S_, .i32⟩ : BufTy).Contents (Elt Ideal))) k (Shape.Idx.first h_S_)).toInt) sliceFits_S4096x16x512_S1x16x512)
      shapeCasts_S1x16x512_S16x512 (ix2 b l) = A (ix3 k b l) := by
  have e := start_eq n k hn rfl
  pointwise
  have e0 := e 0
  have e1 := e 1
  have e2 := e 2
  refine congrArg A ?_
  refine congr (congr (congrArg ix3 ?_) ?_) ?_
  · exact Fin.ext e0
  · exact Fin.ext (by show _ + b.val = b.val; rw [e1]; exact Nat.zero_add _)
  · exact Fin.ext (by show _ + l.val = l.val; rw [e2]; exact Nat.zero_add _)

/-- The output array after row `k` is put in. -/
theorem put_apply (A : FVec Ideal S4096x16x512 .f32) (n : IVec S_ 32) (k : Fin 4096) (hn : n (Shape.Idx.first h_S_) = BitVec.ofNat 32 k.val)
    (p : FVec Ideal S16x512 .f32) (t : Fin 4096) (b : Fin 16) (l : Fin 512) :
    Host.dynamicUpdateSlice A (broadcastInDim S1x16x512 ![1, 2] bcast_S16x512_S1x16x512_1_2 p)
      (fun k => (((![n, constantI S_ 32 0#32, constantI S_ 32 0#32] :
        Fin 3 → (⟨S_, .i32⟩ : BufTy).Contents (Elt Ideal))) k (Shape.Idx.first h_S_)).toInt) updateFits_S4096x16x512_S1x16x512 (ix3 t b l)
      = if t = k then p (ix2 b l) else A (ix3 t b l) := by
  have e := start_eq n k hn rfl
  pointwise
  have e0 : Host.clampedStart S4096x16x512 S1x16x512 _ _ 0 = k.val := e 0
  have e1 : Host.clampedStart S4096x16x512 S1x16x512 _ _ 1 = 0 := e 1
  have e2 : Host.clampedStart S4096x16x512 S1x16x512 _ _ 2 = 0 := e 2
  by_cases h : t = k
  · rw [if_pos h, dif_pos (by rw [e0, e1, e2, h]; omega)]
    refine congrArg p (congr (congrArg ix2 ?_) ?_)
    · exact Fin.ext (by show b.val - _ = b.val; rw [e1]; exact Nat.sub_zero _)
    · exact Fin.ext (by show l.val - _ = l.val; rw [e2]; exact Nat.sub_zero _)
  · rw [if_neg h, dif_neg]
    rw [e0]
    intro h'
    exact h (Fin.ext (by omega))

/-- A time-first array's entries of one channel, along time (1 after the end, where nothing is read). -/
def chan (A : FVec Ideal S4096x16x512 .f32) (b : Fin 16) (l : Fin 512) (t : ℕ) : EReal :=
  if h : t < 4096 then A (ix3 ⟨t, h⟩ b l) else 1

/-- What the loop's carried buffers hold before trip `k`. -/
structure Inv (A B G : FVec Ideal S4096x16x512 .f32) (k : ℕ) (V : Valuation τ sig (Elt Ideal)) : Prop where
  a : V (Proc.devRef .tc main_v94_0) = A
  b : V (Proc.devRef .tc main_v94_1) = B
  g : V (Proc.devRef .tc main_v94_2) = G
  n : (V (Proc.devRef .tc main_v94_3) : IVec S_ 32) (Shape.Idx.first h_S_) = BitVec.ofNat 32 k
  h : ∀ (b : Fin 16) (l : Fin 512), (V (Proc.devRef .tc main_v94_4) : FVec Ideal S16x512 .f32) (ix2 b l)
    = RgSpec.recur (chan A b l) (chan B b l) 0 k
  o : ∀ (t : Fin 4096) (b : Fin 16) (l : Fin 512), t.val < k →
    (V (Proc.devRef .tc main_v94_5) : FVec Ideal S4096x16x512 .f32) (ix3 t b l)
    = RgSpec.recur (chan A b l) (chan B b l) 0 (t.val + 1) * G (ix3 t b l)

/-- The state one trip makes. -/
theorem next_apply (A B G : FVec Ideal S4096x16x512 .f32) (k : Fin 4096) (V : Valuation τ sig (Elt Ideal)) (I : Inv A B G k.val V)
    (b : Fin 16) (l : Fin 512) : (Value.res_main_while0b_v101 V : FVec Ideal S16x512 .f32) (ix2 b l)
    = RgSpec.recur (chan A b l) (chan B b l) 0 (k.val + 1) := by
  refine (congrArg₂ (fun p q : EReal => p + q) (congrArg₂ (fun p q : EReal => p * q)
    (row_apply (V (Proc.devRef .tc main_v94_0)) (V (Proc.devRef .tc main_v94_3)) k I.n b l) (I.h b l))
    (row_apply (V (Proc.devRef .tc main_v94_1)) (V (Proc.devRef .tc main_v94_3)) k I.n b l)).trans ?_
  rw [I.a, I.b]
  show _ = chan A b l k.val * _ + chan B b l k.val
  unfold chan
  rw [dif_pos k.isLt, dif_pos k.isLt]

/-- One trip keeps the invariant. -/
theorem inv_step (A B G : FVec Ideal S4096x16x512 .f32) (k : Fin 4096) (V : Valuation τ sig (Elt Ideal)) (I : Inv A B G k.val V) :
    Inv A B G (k.val + 1) (Value.STEP V) where
  a := (Value.STEP_main_v94_0 V).trans I.a
  b := (Value.STEP_main_v94_1 V).trans I.b
  g := (Value.STEP_main_v94_2 V).trans I.g
  n := by
    rw [Value.STEP_main_v94_3]
    exact (congrArg (fun q : BitVec 32 => q + 1#32) I.n).trans (BitVec.ofNat_add _ _).symm
  h := fun b l => by
    rw [Value.STEP_main_v94_4]
    exact next_apply A B G k V I b l
  o := fun t b l ht => by
    rw [Value.STEP_main_v94_5]
    refine (put_apply (V (Proc.devRef .tc main_v94_5)) (V (Proc.devRef .tc main_v94_3)) k I.n _ t b l).trans ?_
    by_cases h : t = k
    · rw [if_pos h, h]
      refine (congrArg₂ (fun p q : EReal => p * q) (next_apply A B G k V I b l)
        (row_apply (V (Proc.devRef .tc main_v94_2)) (V (Proc.devRef .tc main_v94_3)) k I.n b l)).trans ?_
      rw [I.g]
    · rw [if_neg h]
      exact I.o t b l (by have : t.val ≠ k.val := fun e => h (Fin.ext e); omega)

/-- The invariant at the loop's end. -/
theorem inv_iter (A B G : FVec Ideal S4096x16x512 .f32) (V : Valuation τ sig (Elt Ideal)) (I : Inv A B G 0 V) :
    ∀ k ≤ 4096, Inv A B G k (Value.STEP^[k] V)
  | 0, _ => I
  | k + 1, h => by
    rw [Function.iterate_succ_apply']
    exact inv_step A B G ⟨k, by omega⟩ _ (inv_iter A B G V I k (by omega))

variable (m : (ℓ : Loc nD τ sig) → Buf (Elt Ideal) ℓ) (c : Dev nD)

/-- The weights by their indices. -/
def par : RgSpec.Par where
  cw := fun j l => (m ((c.tc : Thread nD τ).loc main_arg2) : FVec Ideal S4x512 .f32) (ix2 j l)
  cb := fun l => (m ((c.tc : Thread nD τ).loc main_arg3) : FVec Ideal S512 .f32) (ix1 l)
  wa := fun h i j => (m ((c.tc : Thread nD τ).loc main_arg4) : FVec Ideal S8x64x64 .f32) (ix3 h i j)
  wx := fun h i j => (m ((c.tc : Thread nD τ).loc main_arg5) : FVec Ideal S8x64x64 .f32) (ix3 h i j)
  ba := fun l => (m ((c.tc : Thread nD τ).loc main_arg6) : FVec Ideal S512 .f32) (ix1 l)
  bx := fun l => (m ((c.tc : Thread nD τ).loc main_arg7) : FVec Ideal S512 .f32) (ix1 l)
  lam := fun l => (m ((c.tc : Thread nD τ).loc main_arg8) : FVec Ideal S512 .f32) (ix1 l)

/-- Column `l` of an input product at time `t`. -/
def colOf (x : FVec Ideal S16x4096x1024 .f32) (w : FVec Ideal S1024x3080 .f32) (b : Fin 16) (t : ℕ) (l : Fin 3080) : EReal :=
  if h : t < 4096 then ∑ k : Fin 1024, x (ix3 b ⟨t, h⟩ k) * w (ix2 k l) else 0

/-- Column `l` of the call's input product at time `t`. -/
def col (b : Fin 16) (t : ℕ) (l : Fin 3080) : EReal :=
  colOf (m ((c.tc : Thread nD τ).loc main_arg0)) (m ((c.tc : Thread nD τ).loc main_arg1)) b t l

/-- The recurrent branch's columns. -/
def X (b : Fin 16) (t : ℕ) (l : Fin 512) : EReal := col m c b t ⟨l.val, by omega⟩

/-- The reference's result by index: the recurrence's state after step `t`, gated. -/
def res (b : Fin 16) (t : Fin 4096) (l : Fin 512) : EReal :=
  (par m c).H (X m c b) l (t.val + 1) * RgSpec.act (col m c b t.val ⟨512 + l.val, by omega⟩)

theorem uS_apply (b : Fin 16) (t : Fin 4096) (l : Fin 512) : uS m c (ix3 b t l) = (par m c).U (X m c b) t.val l := by
  unfold uS
  rw [convS_apply, padS_apply, padS_apply, padS_apply, padS_apply]
  unfold RgSpec.Par.U RgSpec.back
  congr 1
  · congr 1
    · congr 1
      · congr 1
        congr 1
        by_cases h : 3 ≤ t.val
        · rw [dif_pos h, if_pos h, xrS_apply]
          unfold X col colOf
          rw [dif_pos (by omega)]
        · rw [dif_neg h, if_neg h]
      · congr 1
        by_cases h : 2 ≤ t.val
        · rw [dif_pos (by show 3 ≤ 1 + t.val; omega), if_pos h, xrS_apply]
          unfold X col colOf
          rw [dif_pos (by omega)]
          simp only [show 1 + t.val - 3 = t.val - 2 by omega]
        · rw [dif_neg (by show ¬ 3 ≤ 1 + t.val; omega), if_neg h]
    · congr 1
      by_cases h : 1 ≤ t.val
      · rw [dif_pos (by show 3 ≤ 2 + t.val; omega), if_pos h, xrS_apply]
        unfold X col colOf
        rw [dif_pos (by omega)]
        simp only [show 2 + t.val - 3 = t.val - 1 by omega]
      · rw [dif_neg (by show ¬ 3 ≤ 2 + t.val; omega), if_neg h]
  · congr 1
    rw [dif_pos (by show 3 ≤ 3 + t.val; omega), xrS_apply]
    unfold X col colOf
    rw [dif_pos t.isLt]
    simp only [show 3 + t.val - 3 = t.val by omega]

/-- A gate's block-diagonal product. -/
theorem blockU_apply (wt : FVec Ideal S8x64x64 .f32) (b : Fin 16) (t : Fin 4096) (l : Fin 512) :
    blockS wt (uS m c) (ix3 b t l) = RgSpec.block (fun h i j => wt (ix3 h i j)) ((par m c).U (X m c b) t.val) l := by
  rw [blockS_apply]
  unfold RgSpec.block
  exact Finset.sum_congr rfl fun k _ => by rw [uS_apply]

theorem logaS_apply (b : Fin 16) (t : Fin 4096) (l : Fin 512) : logaS m c (ix3 b t l) = (par m c).la (X m c b) t.val l := by
  unfold logaS
  rw [logS_apply, addf_apply, blockU_apply, alongS_apply]
  rfl

theorem a_apply (b : Fin 16) (l : Fin 512) (t : ℕ) (ht : t < 4096) :
    chan (timeS (Host.exp (logaS m c))) b l t = (par m c).A (X m c b) l t := by
  unfold chan
  rw [dif_pos ht, timeS_apply]
  show Ideal.exp (logaS m c (ix3 b ⟨t, ht⟩ l)) = _
  rw [logaS_apply]
  rfl

theorem b_apply (b : Fin 16) (l : Fin 512) (t : ℕ) (ht : t < 4096) :
    chan (timeS (inS (logaS m c)
      (gateS (addf (blockS (m ((c.tc : Thread nD τ).loc main_arg5)) (uS m c)) (alongS (m ((c.tc : Thread nD τ).loc main_arg7)))))
      (uS m c))) b l t = (par m c).B (X m c b) l t := by
  unfold chan
  rw [dif_pos ht, timeS_apply, inS_apply _ _ _ _ _ _ (by rw [logaS_apply]; exact RgSpec.decay_nonpos _ _), logaS_apply, addf_apply,
    blockU_apply, alongS_apply, uS_apply]
  rfl

/-- At the loop's entry the invariant holds. -/
theorem inv_entry : Inv (timeS (Host.exp (logaS m c))) (timeS (inS (logaS m c)
    (gateS (addf (blockS (m ((c.tc : Thread nD τ).loc main_arg5)) (uS m c)) (alongS (m ((c.tc : Thread nD τ).loc main_arg7)))))
    (uS m c))) (timeS (geluS (xgS (m ((c.tc : Thread nD τ).loc main_arg0)) (m ((c.tc : Thread nD τ).loc main_arg1))))) 0
    (entryContents Value.preI m c) where
  a := entry_a m c
  b := entry_b m c
  g := entry_g m c
  n := by rw [entry_n]; rfl
  h := fun b l => by rw [entry_h]; pointwise; rfl
  o := fun t b l h => absurd h (by omega)

/-- The reference's result, by index. -/
theorem out_apply (b : Fin 16) (t : Fin 4096) (l : Fin 512) :
    (Value.out_main_v96 (Value.STEP^[4096] (entryContents Value.preI m c)) : FVec Ideal S16x4096x512 .bf16) (ix3 b t l) = res m c b t l := by
  have I := inv_iter _ _ _ _ (inv_entry m c) 4096 le_rfl
  have e : (Value.out_main_v96 (Value.STEP^[4096] (entryContents Value.preI m c)) : FVec Ideal S16x4096x512 .bf16) (ix3 b t l)
      = (Value.STEP^[4096] (entryContents Value.preI m c) (Proc.devRef .tc main_v94_5) : FVec Ideal S4096x16x512 .f32) (ix3 t b l) := by
    unfold Value.out_main_v96
    pointwise
  rw [e, I.o t b l t.isLt, timeS_apply, geluS_apply, xgS_apply]
  unfold res col colOf RgSpec.Par.H
  rw [dif_pos t.isLt]
  exact congrArg (fun p : EReal => p * _) (RgSpec.recur_congr 0 _ fun k hk =>
    ⟨a_apply m c b l k (by have := t.isLt; omega), b_apply m c b l k (by have := t.isLt; omega)⟩)

end Cert.RgRefIdeal.RefValue

end
-- ==== Proof.RgClaim.lean ====
/- The value claim of the recurrent call: the kernel and its reference leave the same result. -/
module

public import proofs.«01_k».proof.Defs
public import proofs.«01_k».proof.Proof.RgKer
public import proofs.«01_k».proof.Proof.RgRefLoop

@[expose] public section

set_option maxRecDepth 16384

noncomputable section

namespace Cert.Proof

open Idealize.ShloMosaic Idealize.ShloMosaic.TcCoe Idealize.SL.Sem

/-- The recurrent kernel and its reference leave the same result at the extended reals. -/
theorem rg : Cert.algebraic_RgIdeal_RgRefIdeal := by
  intro m g m' g' _ hagree
  refine ⟨fun c => Cert.RgIdeal.Value.G10 m c, ?_, ?_⟩
  · exact Cert.RgIdeal.Value.run m g
  · refine (θ_run _ _ _).mono (fun r h c => ⟨(h c).1.trans ?_, (h c).2⟩) (Cert.RgRefIdeal.Value.run m' g')
    obtain ⟨h0, h1, h2, h3, h4, h5, h6, h7, h8⟩ := hagree c
    funext j
    rw [eq_ix3 j]
    refine (Cert.RgRefIdeal.RefValue.out_apply m' c (j 0) (j 1) (j 2)).trans (Eq.trans ?_ (Cert.RgIdeal.KerValue.out_apply m c (j 0) (j 1) (j 2)).symm)
    unfold Cert.RgRefIdeal.RefValue.res Cert.RgIdeal.KerValue.res Cert.RgRefIdeal.RefValue.par Cert.RgIdeal.KerValue.par
      Cert.RgRefIdeal.RefValue.X Cert.RgIdeal.KerValue.X Cert.RgRefIdeal.RefValue.col Cert.RgIdeal.KerValue.col
    rw [h0, h1, h2, h3, h4, h5, h6, h7, h8]
    rfl

end Cert.Proof

end
-- ==== Proof.OddKer.lean ====
/- The output-projection kernel of the layers whose first mixer leaves its heads padded to the lane count: its result
   array, read at an index, is the layer-normalised projection of the row's real lanes. -/
module

public import proofs.«01_k».proof.Proof.Rows
public import proofs.«01_k».proof.Proof.Gen.OddIdeal.Value
public import Idealize.ShloMosaic.Lib.Pipeline.ValueKit
public import Idealize.ShloMosaic.Lib.Claim

@[expose] public section

set_option maxRecDepth 16384

noncomputable section

namespace Cert.OddIdeal.KerValue

open Cert.OddIdeal Cert.OddIdeal.Gen Idealize.ShloMosaic Idealize.ShloMosaic.TcCoe Idealize.SL.Sem Rows

/-- The padded place of the mixer's place `k`: 64 real lanes at the start of each 128. -/
abbrev place (k : Fin 512) : Fin 1024 := ⟨k.val / 64 * 128 + k.val % 64, by omega⟩

/-- The padded matrix's entry: the matrix's row on a real lane, zero on the others. -/
def padded (w : FVec Ideal S1024x1024 .f32) (n l : Fin 1024) : EReal :=
  if n.val % 128 < 64 then w (ix2 ⟨n.val / 128 * 64 + n.val % 64, by omega⟩ l) else 0

/-- A row times the padded matrix is its real lanes times the matrix. -/
theorem dot_padded (w : FVec Ideal S1024x1024 .f32) (a : Fin 1024 → EReal) (l : Fin 1024) :
    ∑ n : Fin 1024, a n * padded w n l = ∑ k : Fin 512, a (place k) * w (ix2 ⟨k.val, by omega⟩ l) := by
  refine (Finset.sum_of_injOn place (fun x _ y _ h => ?_) (fun _ _ => Finset.mem_coe.mpr (Finset.mem_univ _)) (fun n _ hn => ?_) (fun k _ => ?_)).symm
  · have := congrArg Fin.val h
    simp only at this
    exact Fin.ext (by omega)
  · unfold padded
    rw [if_neg, mul_zero]
    intro h
    refine hn ⟨⟨n.val / 128 * 64 + n.val % 64, by omega⟩, Finset.mem_coe.mpr (Finset.mem_univ _), Fin.ext ?_⟩
    simp only
    omega
  · unfold padded
    rw [if_pos (by simp only; omega)]
    refine congrArg (fun q => a (place k) * w (ix2 q l)) (Fin.ext ?_)
    simp only
    omega

/-- The padded matrix, as the host builds it. -/
def paddedS (w : FVec Ideal S1024x1024 .f32) : FVec Ideal S1024x1024 .bf16 :=
  truncf .bf16 (transpose S1024x1024 [1, 0] (shapeCast S1024x1024 (pad S1024x8x128 ![0, 0, 0] ![0, 0, 64] ![0, 0, 0]
    (shapeCast S1024x8x64 (transpose S1024x512 [1, 0] (extractStridedSlice S512x1024 ![0, 0] w slices_S1024x1024_S512x1024_0_0)
      transposes_S512x1024_S1024x512_1_0) shapeCasts_S1024x512_S1024x8x64) (sitofp .f32 (constantI S_ 32 0#32) : FVec Ideal S_ .f32)
    pads_S1024x8x64_S1024x8x128_000_000_0640 h_S_) shapeCasts_S1024x8x128_S1024x1024) transposes_S1024x1024_S1024x1024_1_0) bitsLt_bf16_f32

/-- The host's padded matrix at an entry. -/
theorem paddedS_apply (w : FVec Ideal S1024x1024 .f32) (n l : Fin 1024) : paddedS w (ix2 n l) = padded w n l := by
  pointwise [paddedS]
  unfold padded
  by_cases h : n.val % 128 < 64
  · refine (dif_pos ⟨by omega, h⟩).trans (Eq.trans ?_ (if_pos h).symm)
    refine congrArg (fun q => w (ix2 q l)) (Fin.ext ?_)
    simp only
    omega
  · refine (dif_neg fun hh => h hh.2).trans (Eq.trans ?_ (if_neg h).symm)
    simp [FloatOps.sitofp]

/-- The residual row of block row `r`, before the padding is dropped. -/
abbrev rowOf (A : Vec Ideal S256x1024 .bf16) (WA : Vec Ideal S1024x1024 .bf16) (B : Vec Ideal S256x512 .bf16)
    (WB : Vec Ideal S512x1024 .bf16) (X : Vec Ideal S256x1024 .f32) (r : Fin 256) (l : Fin 1024) : EReal :=
  Ideal.ofBits .f32 0x3FD744FD#32 * X (ix2 r l) + ((∑ k, A (ix2 r k) * WA (ix2 k l)) + ∑ k, B (ix2 r k) * WB (ix2 k l))

/-- The payload at an index is the normalised projection of the block's row. -/
theorem pay_apply (A : Vec Ideal S256x1024 .bf16) (WA : Vec Ideal S1024x1024 .bf16) (B : Vec Ideal S256x512 .bf16)
    (WB : Vec Ideal S512x1024 .bf16) (X : Vec Ideal S256x1024 .f32) (P4 P5 : Vec Ideal S1x1024 .f32) (r : Fin 256) (l : Fin 1024) :
    k0_pay1 A WA B WB X P4 P5 (ix2 r l) = lnRow (rowOf A WA B WB X r) (fun k => P4 (ix2 0 k)) (fun k => P5 (ix2 0 k)) l := by
  pointwise [k0_pay1]
  rfl

variable (m : (ℓ : Loc nD τ sig) → Buf (Elt Ideal) ℓ)

/-- The result as one function of the argument arrays. -/
def G (c : Dev nD) (j : S65536x1024.Idx) : EReal :=
  lnRow (outRow (fun k => (m ((c : Thread nD τ).loc main_arg0) : FVec Ideal S65536x1024 .bf16) (ix2 (j 0) (place k)))
        (fun k => (m ((c : Thread nD τ).loc main_arg1) : FVec Ideal S65536x512 .bf16) (ix2 (j 0) k))
        (fun k => (m ((c : Thread nD τ).loc main_arg2) : FVec Ideal S65536x1024 .f32) (ix2 (j 0) k))
        (fun k l => (m ((c : Thread nD τ).loc main_arg3) : FVec Ideal S1024x1024 .f32) (ix2 ⟨k.val, by omega⟩ l))
        (fun k l => (m ((c : Thread nD τ).loc main_arg3) : FVec Ideal S1024x1024 .f32) (ix2 ⟨512 + k.val, by omega⟩ l)))
        (fun k => (m ((c : Thread nD τ).loc main_arg4) : FVec Ideal S1024 .f32) (ix1 k))
        (fun k => (m ((c : Thread nD τ).loc main_arg5) : FVec Ideal S1024 .f32) (ix1 k)) (j 1)

/-- The row windows' block index is the point; the other windows stay at the origin. -/
theorem idx : ∀ t : Fin cfg0.N, (win0_0.index t = ![t.val, 0] ∧ win0_1.index t = ![t.val, 0] ∧ win0_2.index t = ![t.val, 0])
    ∧ (win0_3.index t = ![0, 0] ∧ win0_4.index t = ![0, 0] ∧ win0_5.index t = ![0, 0]) ∧ win0_6.index t = ![0, 0]
    ∧ win0_7.index t = ![t.val, 0] :=
  (by decide +kernel : ∀ t : Fin grid0.N, (win0_0.index t = ![t.val, 0] ∧ win0_1.index t = ![t.val, 0] ∧ win0_2.index t = ![t.val, 0])
    ∧ (win0_3.index t = ![0, 0] ∧ win0_4.index t = ![0, 0] ∧ win0_5.index t = ![0, 0]) ∧ win0_6.index t = ![0, 0]
    ∧ win0_7.index t = ![t.val, 0])

theorem hz : (![0, 0] : Fin 2 → Nat) = fun _ => 0 := funext fun a => by fin_cases a <;> rfl

variable (c : Dev nD) (t : Fin cfg0.N)

/-- The array row of block row `r` at point `t`. -/
abbrev rowIx (r : Fin 256) : Fin 65536 := ⟨t.val * 256 + r.val, by have := t.isLt; have : cfg0.N = 256 := N_0; omega⟩

/-- The first mixer's rows of the point's block, padding and all. -/
theorem blk0 (r : Fin 256) (k : Fin 1024) : iblk m c 0 t (ix2 r k)
    = (m ((c : Thread nD τ).loc main_arg0) : FVec Ideal S65536x1024 .bf16) (ix2 (rowIx t r) k) := by
  blk_ext! [iblk, V_main_arg0, idx t]

/-- The second mixer's rows. -/
theorem blk1 (r : Fin 256) (k : Fin 512) : iblk m c 1 t (ix2 r k)
    = (m ((c : Thread nD τ).loc main_arg1) : FVec Ideal S65536x512 .bf16) (ix2 (rowIx t r) k) := by
  blk_ext! [iblk, V_main_arg1, idx t]

/-- The input rows. -/
theorem blk2 (r : Fin 256) (k : Fin 1024) : iblk m c 2 t (ix2 r k)
    = (m ((c : Thread nD τ).loc main_arg2) : FVec Ideal S65536x1024 .f32) (ix2 (rowIx t r) k) := by
  blk_ext! [iblk, V_main_arg2, idx t]

/-- The padded matrix. -/
theorem blk3 (n l : Fin 1024) : iblk m c 3 t (ix2 n l) = padded (m ((c : Thread nD τ).loc main_arg3)) n l := by
  have e : (win0_3.blk t).view.emb (ix2 n l : S1024x1024.Idx) = (ix2 n l : S1024x1024.Idx) := by blk_ext [idx t]
  have e' : iblk m c 3 t (ix2 n l) = V m c main_v6 (ix2 n l) := congrArg (V m c main_v6) e
  rw [e']
  exact paddedS_apply _ n l

/-- The matrix's lower half. -/
theorem blk4 (n : Fin 512) (l : Fin 1024) : iblk m c 4 t (ix2 n l)
    = (m ((c : Thread nD τ).loc main_arg3) : FVec Ideal S1024x1024 .f32) (ix2 ⟨512 + n.val, by omega⟩ l) := by
  have e : (win0_4.blk t).view.emb (ix2 n l : S512x1024.Idx) = (ix2 n l : S512x1024.Idx) := by blk_ext [idx t]
  have e' : iblk m c 4 t (ix2 n l : S512x1024.Idx) = V m c main_v8 (ix2 n l : S512x1024.Idx) := congrArg (V m c main_v8) e
  rw [e']
  show (truncf .bf16 (extractStridedSlice S512x1024 ![512, 0] (m ((c : Thread nD τ).loc main_arg3) : FVec Ideal S1024x1024 .f32) slices_S1024x1024_S512x1024_512_0) bitsLt_bf16_f32 : FVec Ideal S512x1024 .bf16) (ix2 n l) = _
  pointwise []

/-- The scale. -/
theorem blk5 (l : Fin 1024) : iblk m c 5 t (ix2 0 l) = (m ((c : Thread nD τ).loc main_arg4) : FVec Ideal S1024 .f32) (ix1 l) := by
  have e : (win0_5.blk t).view.emb (ix2 0 l : S1x1024.Idx) = (ix2 0 l : S1x1024.Idx) := by blk_ext [idx t]
  have e' : iblk m c 5 t (ix2 0 l : S1x1024.Idx) = V m c main_v9 (ix2 0 l : S1x1024.Idx) := congrArg (V m c main_v9) e
  rw [e']
  show (shapeCast S1x1024 (m ((c : Thread nD τ).loc main_arg4) : FVec Ideal S1024 .f32) shapeCasts_S1024_S1x1024 : FVec Ideal S1x1024 .f32) (ix2 0 l) = _
  pointwise []

/-- The shift. -/
theorem blk6 (l : Fin 1024) : iblk m c 6 t (ix2 0 l) = (m ((c : Thread nD τ).loc main_arg5) : FVec Ideal S1024 .f32) (ix1 l) := by
  have e : (win0_6.blk t).view.emb (ix2 0 l : S1x1024.Idx) = (ix2 0 l : S1x1024.Idx) := by blk_ext [idx t]
  have e' : iblk m c 6 t (ix2 0 l : S1x1024.Idx) = V m c main_v10 (ix2 0 l : S1x1024.Idx) := congrArg (V m c main_v10) e
  rw [e']
  show (shapeCast S1x1024 (m ((c : Thread nD τ).loc main_arg5) : FVec Ideal S1024 .f32) shapeCasts_S1024_S1x1024 : FVec Ideal S1x1024 .f32) (ix2 0 l) = _
  pointwise []

/-- A block row's residual is the array row's, over its real lanes. -/
theorem row (r : Fin 256) (l : Fin 1024) :
    rowOf (iblk m c 0 t) (iblk m c 3 t) (iblk m c 1 t) (iblk m c 4 t) (iblk m c 2 t) r l
      = outRow (fun k => (m ((c : Thread nD τ).loc main_arg0) : FVec Ideal S65536x1024 .bf16) (ix2 (rowIx t r) (place k)))
        (fun k => (m ((c : Thread nD τ).loc main_arg1) : FVec Ideal S65536x512 .bf16) (ix2 (rowIx t r) k))
        (fun k => (m ((c : Thread nD τ).loc main_arg2) : FVec Ideal S65536x1024 .f32) (ix2 (rowIx t r) k))
        (fun k l => (m ((c : Thread nD τ).loc main_arg3) : FVec Ideal S1024x1024 .f32) (ix2 ⟨k.val, by omega⟩ l))
        (fun k l => (m ((c : Thread nD τ).loc main_arg3) : FVec Ideal S1024x1024 .f32) (ix2 ⟨512 + k.val, by omega⟩ l)) l := by
  unfold rowOf outRow
  refine congrArg₂ (fun p q : EReal => p + q) (congrArg (fun q : EReal => _ * q) (blk2 m c t r l))
    (congrArg₂ (fun p q : EReal => p + q) ?_ ?_)
  · exact (Finset.sum_congr rfl fun k _ => congrArg₂ (fun p q : EReal => p * q) (blk0 m c t r k) (blk3 m c t k l)).trans
      (dot_padded _ _ l)
  · exact Finset.sum_congr rfl fun k _ => congrArg₂ (fun p q : EReal => p * q) (blk1 m c t r k) (blk4 m c t k l)

/-- What point `t` stores at block index `(r, l)` is `G` at the array's index. -/
theorem point (r : Fin 256) (l : Fin 1024) :
    k0_pay1 (iblk m c 0 t) (iblk m c 3 t) (iblk m c 1 t) (iblk m c 4 t) (iblk m c 2 t) (iblk m c 5 t) (iblk m c 6 t) (ix2 r l)
      = G m c (ix2 (rowIx t r) l) := by
  refine (pay_apply _ _ _ _ _ _ _ r l).trans ?_
  rw [show rowOf (iblk m c 0 t) (iblk m c 3 t) (iblk m c 1 t) (iblk m c 4 t) (iblk m c 2 t) r = _ from funext (row m c t r),
    show (fun k => (iblk m c 5 t : Vec Ideal S1x1024 .f32) (ix2 0 k)) = _ from funext (blk5 m c t),
    show (fun k => (iblk m c 6 t : Vec Ideal S1x1024 .f32) (ix2 0 k)) = _ from funext (blk6 m c t)]
  rfl

/-- Where the output window's block lies in its array. -/
theorem emb7 (r : Fin 256) (l : Fin 1024) :
    (win0_7.blk t).view.emb (ix2 r l : S256x1024.Idx) = (ix2 (rowIx t r) l : S65536x1024.Idx) := by
  blk_ext [idx t]

omit c t in
/-- The result array after the run is `G` of the argument arrays. -/
theorem final7 (c : Dev nD) : (dats m 0 c).arrAt 7 cfg0.N = G m c := by
  refine (dats m 0 c).arrAt_eq_of_covers 7 _ (by decide +kernel) fun t hf y => ?_
  blk_simp
  rw [after0_7]
  unfold out0_7
  rw [View.canon_unit_zero hz]
  simp only [View.ld_unit_zero (S := S256x1024) hz, View.ld_unit_zero (S := S256x512) hz, View.ld_unit_zero (S := S1024x1024) hz,
    View.ld_unit_zero (S := S512x1024) hz, View.ld_unit_zero (S := S1x1024) hz]
  have ey : y = (ix2 (y 0) (y 1) : S256x1024.Idx) := by blk_ext
  rw [ey]
  exact (point m c t (y 0) (y 1)).trans (congrArg (G m c) (emb7 t (y 0) (y 1)).symm)

end Cert.OddIdeal.KerValue

end
-- ==== Proof.OddRef.lean ====
/- The reference of the projection from padded heads: its result is the projection reference's, of the real lanes. -/
module

public import proofs.«01_k».proof.Defs
public import proofs.«01_k».proof.Proof.OutpRef
public import proofs.«01_k».proof.Proof.OddKer
public import proofs.«01_k».proof.Proof.Gen.OddRefIdeal.Run

@[expose] public section

set_option maxRecDepth 16384

noncomputable section

namespace Cert.OddRefIdeal.RefValue

open Cert.OddRefIdeal Cert.OddRefIdeal.Gen Idealize.ShloMosaic Idealize.ShloMosaic.TcCoe Idealize.SL.Sem Idealize.ShloMosaic.StableHlo Rows

/-- The real lanes of each head, side by side. -/
def real (a : FVec Ideal S65536x1024 .bf16) : FVec Ideal S65536x512 .bf16 :=
  shapeCast _ (extractStridedSlice S65536x8x64 ![0, 0, 0] (shapeCast S65536x8x128 a shapeCasts_S65536x1024_S65536x8x128)
    slices_S65536x8x128_S65536x8x64_0_0_0) shapeCasts_S65536x8x64_S65536x512

/-- A real lane is the padded array's entry at that lane's place. -/
theorem real_apply (a : FVec Ideal S65536x1024 .bf16) (i : Fin 65536) (k : Fin 512) :
    real a (ix2 i k) = a (ix2 i (Cert.OddIdeal.KerValue.place k)) := by
  pointwise [real]

/-- The printed result is the projection's stages over the real lanes. -/
theorem res_eq (m : (ℓ : Loc nD τ sig) → Buf (Elt Ideal) ℓ) (c : Dev nD) :
    Value.res_out0 m c = Cert.FfnRefIdeal.RefValue.ln (Cert.OutpRefIdeal.RefValue.resid (real (m ((c : Thread nD τ).loc main_arg0)))
      (m ((c : Thread nD τ).loc main_arg1)) (m ((c : Thread nD τ).loc main_arg2)) (m ((c : Thread nD τ).loc main_arg3)))
      (m ((c : Thread nD τ).loc main_arg4)) (m ((c : Thread nD τ).loc main_arg5)) := rfl

/-- The reference's result at an index. -/
theorem res_apply (m : (ℓ : Loc nD τ sig) → Buf (Elt Ideal) ℓ) (c : Dev nD) (i : Fin 65536) (l : Fin 1024) :
    (Value.res_out0 m c : FVec Ideal S65536x1024 .f32) (ix2 i l) =
      lnRow (outRow (fun k => (m ((c : Thread nD τ).loc main_arg0) : FVec Ideal S65536x1024 .bf16) (ix2 i (Cert.OddIdeal.KerValue.place k)))
        (fun k => (m ((c : Thread nD τ).loc main_arg1) : FVec Ideal S65536x512 .bf16) (ix2 i k))
        (fun k => (m ((c : Thread nD τ).loc main_arg2) : FVec Ideal S65536x1024 .f32) (ix2 i k))
        (fun k l => (m ((c : Thread nD τ).loc main_arg3) : FVec Ideal S1024x1024 .f32) (ix2 ⟨k.val, by omega⟩ l))
        (fun k l => (m ((c : Thread nD τ).loc main_arg3) : FVec Ideal S1024x1024 .f32) (ix2 ⟨512 + k.val, by omega⟩ l)))
        (fun k => (m ((c : Thread nD τ).loc main_arg4) : FVec Ideal S1024 .f32) (ix1 k))
        (fun k => (m ((c : Thread nD τ).loc main_arg5) : FVec Ideal S1024 .f32) (ix1 k)) l := by
  rw [res_eq]
  refine (Cert.FfnRefIdeal.RefValue.ln_apply _ _ _ i l).trans ?_
  refine congrArg (fun r => lnRow r _ _ l) (funext fun k => ?_)
  refine (Cert.OutpRefIdeal.RefValue.resid_apply _ _ _ _ i k).trans ?_
  simp only [real_apply]

/-- The projection from padded heads and its reference leave the same result at the extended reals. -/
theorem _root_.Cert.Proof.odd : Cert.algebraic_OddIdeal_OddRefIdeal := by
  intro m g m' g' _ hagree
  refine ⟨fun c => Cert.OddIdeal.KerValue.G m c, ?_, ?_⟩
  · refine (θ_run _ _ _).mono (fun r h c => ⟨(h c).1.trans (Cert.OddIdeal.KerValue.final7 m c), (h c).2⟩)
      (Cert.OddIdeal.Value.run_blocks m g)
  · refine (θ_run _ _ _).mono (fun r h c => ⟨(h c).1.trans ?_, (h c).2⟩) (Cert.OddRefIdeal.Value.run m' g')
    obtain ⟨h0, h1, h2, h3, h4, h5⟩ := hagree c
    funext j
    rw [eq_ix2 j]
    refine (res_apply m' c (j 0) (j 1)).trans ?_
    rw [h0, h1, h2, h3, h4, h5]
    rfl

end Cert.OddRefIdeal.RefValue

end
-- ==== Proof.GlaIdealTrip.lean ====
module

public import proofs.«01_k».proof.Proof.Gen.GlaIdeal.Frame.Runs

@[expose] public section

set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty)

set_option maxHeartbeats 4000000 in
/-- What one trip of the chunk loop stores does not depend on what the output's buffer held before it. -/
theorem tripL_out (k : Fin k0_t1_loop.trips) (g g' : BufTy.Contents (Elt F) arg11.view.ty) (f : BufTy.Contents (Elt F) arg17.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 k g f = tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 k g' f := by
  unfold tripL_k0_t1 trip_k0_t1
  rfl

/-- Nor does what all the trips before the `n`-th store. -/
theorem pb_out (g g' : BufTy.Contents (Elt F) arg11.view.ty) (f : BufTy.Contents (Elt F) arg17.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f n = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g' f n := by
  induction n with
  | zero => rfl
  | succ n ih =>
    rw [pb_k0_t1.eq_2, pb_k0_t1.eq_2, ih]
    unfold pb_k0_t1Step
    split
    · rw [tripL_out 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 _ _ (arg11.view.writes (Elt F) g' (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g' f n).1)]
    · rfl

end Cert.GlaIdeal.Gen

end
-- ==== Proof.GlaIdealRunA.lean ====
module

public import proofs.«01_k».proof.Proof.GlaIdealTrip

@[expose] public section

set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores in its output and in the carried state at the first block of a sequence, with the proof that the body, run on whole
    buffers, leaves them: the pieces are stated at arbitrary old contents of the output, since they do not depend on them (`pb_out`). -/
noncomputable def kernelRun0_A (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) :
    Σ' (L9 : List (View.Piece (Elt F) S1x256x512 .bf16)), { LS5 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS5)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_gla_eq_skeleton]; unfold cc0_gla_skel
    simp only [k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    rw [pb_out _ _ _ _ _ _ _ _ _ _ _ _ _ _ _ _ _ _ _ _ _ _ _ _ _ _ _ _ _ _ _ _ _ _ _ _ _ _ _ _ _ _ f9 arg11.view.junk]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _; iexact HS5

end Cert.GlaIdeal.Gen

end
-- ==== Proof.GlaIdealRunB.lean ====
module

public import proofs.«01_k».proof.Proof.GlaIdealRunA

@[expose] public section

set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body stores in its output and in the carried state at a later block of a sequence, with the proof that the body, run on whole
    buffers, leaves them: the pieces are stated at arbitrary old contents of the output, since they do not depend on them (`pb_out`). -/
noncomputable def kernelRun0_B (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : ¬cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) (xs5 : Vec F S4x128x128 .f32) :
    Σ' (L9 : List (View.Piece (Elt F) S1x256x512 .bf16)), { LS5 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS5)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_gla_eq_skeleton]; unfold cc0_gla_skel
    simp only [k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg17.eq_unread hfs5
    sl_exec (disch := first | sl_exact hc0)
    rw [pb_out _ _ _ _ _ _ _ _ _ _ _ _ _ _ _ _ _ _ _ _ _ _ _ _ _ _ _ _ _ _ _ _ _ _ _ _ _ _ _ _ _ _ f9 arg11.view.junk]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _; iexact HS5

end Cert.GlaIdeal.Gen

end
-- ==== Proof.GlaIdealFrame.lean ====
module

public import proofs.«01_k».proof.Proof.GlaIdealRunB
public import Idealize.ShloMosaic.Lib.Claim

@[expose] public section

-- membership in a rectangle of production extents (`View.cover_of_tiled`): the elaborator's structural look
-- recurses once per coordinate of the long axes
set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 9 tile its block (16 stores of `S1x64x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) (y : S1x256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1 S1x64x128.size (by sl_kernel_rfl) y

/-- What case A leaves in output 9's staging buffer: its pieces read back over junk. -/
def out0_A_9 (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) : Vec F S1x256x512 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1)

/-- Case A's pieces for scratch `arg17`, which the kernel carries between points, cover it: one of them a store of the WHOLE buffer (Lib/Ring.lean `sl_whole_mem`). -/
theorem scover0_A_5 (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) (y : S4x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1 (by sl_whole_mem) y

/-- What case A leaves in scratch `arg17`: its pieces read back over junk. -/
def sout0_A_5 (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) : Vec F S4x128x128 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1)

/-- Case B's pieces for output 9 tile its block (16 stores of `S1x64x128`, checked by the kernel's evaluation: Lib/Ring.lean `Piece.tiledL`, linear in the pieces, through a loop's `@[irreducible]` trip theorem too), so they cover it. -/
theorem cover0_B_9 (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : ¬cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) (xs5 : Vec F S4x128x128 .f32) (y : S1x256x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs5).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs5).1 S1x64x128.size (by sl_kernel_rfl) y

/-- What case B leaves in output 9's staging buffer: its pieces read back over junk. -/
def out0_B_9 (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : ¬cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) (xs5 : Vec F S4x128x128 .f32) : Vec F S1x256x512 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs5).1)

/-- Case B's pieces for scratch `arg17`, which the kernel carries between points, cover it: 16 pieces of `S1x128x128` tiling it (Lib/Ring.lean `Piece.tiledL`). -/
theorem scover0_B_5 (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : ¬cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) (xs5 : Vec F S4x128x128 .f32) (y : S4x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs5).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs5).2.1 S1x128x128.size (by sl_kernel_rfl) y

/-- What case B leaves in scratch `arg17`: its pieces read back over junk. -/
def sout0_B_5 (c : Dev nD) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (hc0 : ¬cond0_0 i)
    (x0 : Vec F S1x256x1024 .f32) (x1 : Vec F S1024x512 .bf16) (x2 : Vec F S1024x512 .bf16) (x3 : Vec F S1024x512 .bf16) (x4 : Vec F S1024x128 .bf16) (x5 : Vec F S1024x512 .bf16) (x6 : Vec F S128x512 .bf16) (x7 : Vec F S1x512 .f32) (x8 : Vec F S1x512 .f32) (xs5 : Vec F S4x128x128 .f32) : Vec F S4x128x128 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs5).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x512 .bf16 × Vec F S4x128x128 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 16 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)

/-- `outsAt0` at a point of case A: that case's contents. -/
theorem outsAt0_A (c : Dev nD) (t : Fin cfg0.N) (h0 : t.val % 16 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases hz : t.val = 0
    · rw [PhiS_castSucc m c t, PhiS_zero m c _ _ hz, PhiA0_eq]
      rw [outsAt0_A m c t h0]
      unfold out0_A_9 sout0_A_5; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, ⟨%e9, H9⟩, HS0, HS1, HS2, HS3, HS4, ⟨%es5, HS5⟩⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          unfold owns; iexists _; isplitr
          swap; · iexact HS5
          ipureintro; exact View.read_writes_of_cover _ _ _ _ _ (scover0_A_5 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_9 sout0_A_5; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexists _; iexact HS5
      iintro ⟨H0, H1, H2, H3, H4, H5, H6, H7, H8, ⟨%e9, H9⟩, HS0, HS1, HS2, HS3, HS4, ⟨%es5, HS5⟩⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          unfold owns; iexists _; isplitr
          swap; · iexact HS5
          ipureintro; exact View.read_writes_of_cover _ _ _ _ _ (scover0_A_5 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _ _ _ _ _ _)
  · by_cases hz : t.val = 0
    · exfalso; have hN : t.val < 256 := lt_of_lt_of_eq t.isLt (show cfg0.N = 256 from N_0); omega
    · rw [PhiS_castSucc m c t, PhiS_pos m c _ _ hz]
      rw [outsAt0_B m c t h0]
      unfold out0_B_9 sout0_B_5; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, ⟨%e9, H9⟩, HS0, HS1, HS2, HS3, HS4, ⟨%es5, HS5⟩⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          unfold owns; iexists _; isplitr
          swap; · iexact HS5
          ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexact HS1
    isplitl [HS2]
    · iexact HS2
    isplitl [HS3]
    · iexact HS3
    isplitl [HS4]
    · iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_GlaIdeal`'s statement (Defs.lean) at any `F` — Proof.lean cites it at `Bits`:
    `theorem Cert.Proof.claim : Cert.Claim := ⟨Cert.GlaIdeal.Gen.facts, fun m ρ _ => Cert.GlaIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.GlaIdeal.Gen

end
-- ==== Proof.GlaSpec.lean ====
/- The mathematics of the gated linear attention call over the extended reals: the decay, one chunk's products, the state from chunk to
   chunk and the normalised, gated output. -/
module

public import proofs.«01_k».proof.Proof.RgSpec

@[expose] public section

set_option maxRecDepth 16384

noncomputable section

namespace GlaSpec

open Idealize.ShloMosaic

/-- The logarithm of the decay, from the gate's argument. -/
def logA (z : EReal) : EReal := Ideal.div (-(RgSpec.soft z)) (Ideal.ofBits .f32 0x41800000#32)

/-- A value times its logistic function. -/
def silu (z : EReal) : EReal := z * Ideal.logistic z

/-- The sum of a column's entries up to and including row `i`. -/
def cum {D : ℕ} (la : Fin 64 → Fin D → EReal) (i : Fin 64) (d : Fin D) : EReal := ∑ j : Fin 64, if j ≤ i then la j d else 0

section Chunk

variable {D : ℕ} (q k c : Fin 64 → Fin D → EReal) (v : Fin 64 → Fin 128 → EReal) (st : Fin D → Fin 128 → EReal)

/-- The causal products of a chunk's decayed queries and keys. -/
def att (i j : Fin 64) : EReal := if j ≤ i then ∑ d : Fin D, q i d * Ideal.exp (c i d) * (k j d * Ideal.exp (-(c j d))) else 0

/-- A chunk's output before normalisation: what it makes of its own values and of the state. -/
def out (i : Fin 64) (e : Fin 128) : EReal :=
  ∑ j : Fin 64, att q k c i j * v j e + ∑ d : Fin D, q i d * Ideal.exp (c i d) * st d e

/-- The state after a chunk. -/
def next (d : Fin D) (e : Fin 128) : EReal :=
  Ideal.exp (c 63 d) * st d e + ∑ j : Fin 64, k j d * Ideal.exp (c 63 d - c j d) * v j e

end Chunk

/-- The mean of a row. -/
def mean (o : Fin 128 → EReal) : EReal := Ideal.div (∑ e : Fin 128, o e) (Ideal.ofBits .f32 0x43000000#32)

/-- A row less its mean, over its deviation. -/
def norm (o : Fin 128 → EReal) (e : Fin 128) : EReal :=
  (o e - mean o) * Ideal.rsqrt (mean (fun e => (o e - mean o) * (o e - mean o)) + Ideal.ofBits .f32 0x3727C5AC#32)

/-- A sum over 128 lanes whose upper half vanishes. -/
theorem sum_half (f : Fin 128 → EReal) (h : ∀ d : Fin 128, 64 ≤ d.val → f d = 0) : ∑ d : Fin 128, f d = ∑ d : Fin 64, f ⟨d.val, by omega⟩ := by
  refine (Fin.sum_univ_add (a := 64) (b := 64) f).trans ?_
  rw [Finset.sum_eq_zero (s := Finset.univ) (f := fun i : Fin 64 => f (Fin.natAdd 64 i)) fun i _ => h _ (by show 64 ≤ 64 + i.val; omega), add_zero]
  rfl

section Half

variable {q k c : Fin 64 → Fin 128 → EReal} {q' k' c' : Fin 64 → Fin 64 → EReal} {v : Fin 64 → Fin 128 → EReal}
  {st : Fin 128 → Fin 128 → EReal} {st' : Fin 64 → Fin 128 → EReal}

/-- Heads of 128 lanes whose upper half is zero agree with heads of 64 lanes on what a chunk puts out. -/
theorem out_half (hq : ∀ i d, q i d = if h : d.val < 64 then q' i ⟨d.val, h⟩ else 0) (hk : ∀ i d, k i d = if h : d.val < 64 then k' i ⟨d.val, h⟩ else 0)
    (hc : ∀ (i : Fin 64) (d : Fin 64), c i ⟨d.val, by omega⟩ = c' i d) (hs : ∀ (d : Fin 64) e, st ⟨d.val, by omega⟩ e = st' d e) (i : Fin 64) (e : Fin 128) :
    out q k c v st i e = out q' k' c' v st' i e := by
  unfold out
  refine congrArg₂ (fun p r : EReal => p + r) (Finset.sum_congr rfl fun j _ => congrArg (fun p : EReal => p * v j e) ?_) ?_
  · unfold att
    split
    · rw [sum_half]
      · refine Finset.sum_congr rfl fun d _ => ?_
        rw [hq, hk, dif_pos d.isLt, dif_pos d.isLt, hc, hc]
      · intro d hd
        rw [hq, dif_neg (by omega), zero_mul, zero_mul]
    · rfl
  · rw [sum_half]
    · refine Finset.sum_congr rfl fun d _ => ?_
      rw [hq, dif_pos d.isLt, hc, hs]
    · intro d hd
      rw [hq, dif_neg (by omega), zero_mul, zero_mul]

/-- Such heads' states keep a zero upper half. -/
theorem next_half (hk : ∀ i d, k i d = if h : d.val < 64 then k' i ⟨d.val, h⟩ else 0)
    (hc : ∀ (i : Fin 64) (d : Fin 64), c i ⟨d.val, by omega⟩ = c' i d) (hs : ∀ d e, st d e = if h : d.val < 64 then st' ⟨d.val, h⟩ e else 0)
    (d e : Fin 128) : next k c v st d e = if h : d.val < 64 then next k' c' v st' ⟨d.val, h⟩ e else 0 := by
  unfold next
  by_cases h : d.val < 64
  · rw [dif_pos h, hs, dif_pos h]
    refine congrArg₂ (fun p r : EReal => p + r) ?_ (Finset.sum_congr rfl fun j _ => ?_)
    · rw [← hc 63 ⟨d.val, h⟩]
    · rw [hk, dif_pos h, ← hc 63 ⟨d.val, h⟩, ← hc j ⟨d.val, h⟩]
  · rw [dif_neg h, hs, dif_neg h, mul_zero, zero_add]
    refine Finset.sum_eq_zero fun j _ => ?_
    rw [hk, dif_neg h, zero_mul, zero_mul]

end Half

/-- What one batch row's call reads: the columns of the input product along time, and the weights by their indices. -/
structure Par where
  /-- the input product's columns at a time -/
  col : ℕ → Fin 3216 → EReal
  /-- the decay gate's second matrix -/
  gB : Fin 16 → Fin 256 → EReal
  /-- the decay gate's bias -/
  gb : Fin 256 → EReal
  /-- the normalisation's weight -/
  ng : Fin 512 → EReal

namespace Par

variable (p : Par) (h : Fin 4)

/-- A head's queries. -/
def q (n : ℕ) (i d : Fin 64) : EReal := p.col (n * 64 + i.val) ⟨1664 + (h.val * 64 + d.val), by omega⟩ * Ideal.ofBits .f32 0x3E000000#32

/-- A head's keys. -/
def k (n : ℕ) (i d : Fin 64) : EReal := p.col (n * 64 + i.val) ⟨1920 + (h.val * 64 + d.val), by omega⟩

/-- A head's values. -/
def v (n : ℕ) (i : Fin 64) (e : Fin 128) : EReal := p.col (n * 64 + i.val) ⟨2176 + (h.val * 128 + e.val), by omega⟩

/-- The logarithm of the decay at a time, in one of the 256 lanes. -/
def la (t : ℕ) (l : Fin 256) : EReal := logA (∑ j : Fin 16, p.col t ⟨2688 + j.val, by omega⟩ * p.gB j l + p.gb l)

/-- The decay's logarithm summed within the chunk. -/
def c (n : ℕ) (i d : Fin 64) : EReal := cum (fun j d => p.la (n * 64 + j.val) ⟨h.val * 64 + d.val, by omega⟩) i d

/-- The output gate at a time, in one of the 512 lanes. -/
def gate (t : ℕ) (l : Fin 512) : EReal := silu (p.col t ⟨2704 + l.val, by omega⟩) * p.ng l

/-- The state before chunk `n`. -/
def st : ℕ → Fin 64 → Fin 128 → EReal
  | 0 => fun _ _ => 0
  | n + 1 => next (p.k h n) (p.c h n) (p.v h n) (st n)

/-- The output before normalisation. -/
def o (n : ℕ) (i : Fin 64) (e : Fin 128) : EReal := out (p.q h n) (p.k h n) (p.c h n) (p.v h n) (p.st h n) i e

/-- The call's output. -/
def y (n : ℕ) (i : Fin 64) (e : Fin 128) : EReal := norm (p.o h n i) e * p.gate (n * 64 + i.val) ⟨h.val * 128 + e.val, by omega⟩

end Par

end GlaSpec

end
-- ==== Proof.GlaHead.lean ====
/- The gated linear attention kernel: what it computes of a chunk in one head, and of a block's rows before the chunks, by index. -/
module

public import Idealize.ShloMosaic.Lib.Pointwise
public import Idealize.ShloMosaic.Lib.WordArith
public import proofs.«01_k».proof.Proof.Gen.GlaIdeal.Skeleton
public import proofs.«01_k».proof.Proof.GlaSpec

@[expose] public section

set_option maxRecDepth 16384

noncomputable section

namespace Cert.GlaIdeal.KerValue

open Cert.GlaIdeal Cert.GlaIdeal.Gen Idealize.ShloMosaic

section Head

variable (bc q k v : FVec Ideal S64x128 .f32) (st : FVec Ideal S1x128x128 .f32) (ng : FVec Ideal S1x128 .f32) (og : FVec Ideal S64x128 .f32)

/-- A chunk's output before normalisation, in one head. -/
def oH : FVec Ideal S64x128 .f32 := k0_pay6 k0_pay2 bc q k v st

/-- A chunk's output in one head. -/
def outH : FVec Ideal S1x64x128 .bf16 := k0_pay9 (oH bc q k v st) ng og

/-- One head's state after a chunk. -/
def nextH : FVec Ideal S1x128x128 .f32 := k0_pay8 (k0_pay7 bc k v st)

theorem out1_eq : k0_pay16 (k0_pay14 k0_pay2 (k0_pay10 bc q) (k0_pay11 bc k) v st) (k0_pay15 k0_pay2 (k0_pay10 bc q) (k0_pay11 bc k) v st) ng og
    = outH bc q k v st ng og := rfl

theorem out2_eq : k0_pay23 (k0_pay22 (k0_pay18 st) (k0_pay19 k0_pay2 bc q k v) (k0_pay20 bc q) ng og) = outH bc q k v st ng og := rfl

theorem out3_eq : k0_pay4 (k0_pay25 k0_pay2 bc q k v st) ng og = outH bc q k v st ng og := rfl

theorem next1_eq : k0_pay13 bc k v st = nextH bc k v st := rfl

theorem next2_eq : k0_pay21 bc k v (k0_pay18 st) = nextH bc k v st := rfl

theorem next3_eq : k0_pay3 (k0_pay26 bc k v st) = nextH bc k v st := rfl

/-- The kernel's causal mask. -/
theorem mask_eq : ∀ i j : Fin 64, IntOp.cmpi CmpIPredicate.sle (BitVec.ofNat 32 j.val) (BitVec.ofNat 32 i.val)
    = if j ≤ i then 1#1 else 0#1 := by decide +kernel

/-- A chunk's output before normalisation at an index. -/
theorem oH_apply (i : Fin 64) (e : Fin 128) : oH bc q k v st (ix2 i e)
    = GlaSpec.out (fun i d => q (ix2 i d)) (fun i d => k (ix2 i d)) (fun i d => bc (ix2 i d)) (fun i e => v (ix2 i e)) (fun d e => st (ix3 0 e d)) i e := by
  pointwise [oH, k0_pay6, k0_pay2, k0_pay5]
  unfold GlaSpec.out
  refine congrArg₂ (fun p r : EReal => p + r) (Finset.sum_congr rfl fun j _ => ?_) rfl
  rw [mask_eq]
  unfold GlaSpec.att
  by_cases hj : j ≤ i
  · rw [if_pos hj, if_pos hj]
    simp only [zero_sub]
    rfl
  · rw [if_neg hj, if_neg hj, zero_mul]
    rfl

/-- A chunk's output at an index. -/
theorem outH_apply (i : Fin 64) (e : Fin 128) : outH bc q k v st ng og (ix3 0 i e)
    = GlaSpec.norm (fun e => oH bc q k v st (ix2 i e)) e * ng (ix2 0 e) * og (ix2 i e) := by
  unfold outH
  generalize oH bc q k v st = o
  pointwise [k0_pay9]
  rfl

/-- The state after a chunk at an index. -/
theorem nextH_apply (e d : Fin 128) : nextH bc k v st (ix3 0 e d)
    = GlaSpec.next (fun i d => k (ix2 i d)) (fun i d => bc (ix2 i d)) (fun i e => v (ix2 i e)) (fun d e => st (ix3 0 e d)) d e := by
  pointwise [nextH, k0_pay8, k0_pay7, k0_pay5]
  unfold GlaSpec.next
  exact congrArg₂ (fun p r : EReal => p + r) (mul_comm _ _) (Finset.sum_congr rfl fun j _ => mul_comm _ _)

end Head

section Block

variable (x : FVec Ideal S1x256x1024 .f32) (w : FVec Ideal S1024x512 .bf16) (wd : FVec Ideal S1024x128 .bf16) (gB : FVec Ideal S128x512 .bf16)
  (gb : FVec Ideal S1x512 .f32) (r : Fin 256) (l : Fin 512)

/-- The queries. -/
theorem pay29_apply : k0_pay29 x w (ix2 r l) = (∑ k : Fin 1024, x (ix3 0 r k) * w (ix2 k l)) * Ideal.ofBits .f32 0x3E000000#32 := by
  pointwise [k0_pay29, k0_pay28]

/-- The keys. -/
theorem pay30_apply : k0_pay30 x w (ix2 r l) = ∑ k : Fin 1024, x (ix3 0 r k) * w (ix2 k l) := by
  pointwise [k0_pay30, k0_pay28]

/-- The values. -/
theorem pay31_apply : k0_pay31 x w (ix2 r l) = ∑ k : Fin 1024, x (ix3 0 r k) * w (ix2 k l) := by
  pointwise [k0_pay31, k0_pay28]

/-- The output gate's product. -/
theorem pay32_apply : k0_pay32 x w (ix2 r l) = ∑ k : Fin 1024, x (ix3 0 r k) * w (ix2 k l) := by
  pointwise [k0_pay32, k0_pay28]

/-- The output gate. -/
theorem pay34_apply : k0_pay34 (k0_pay32 (F := Ideal) x w) (k0_pay33 x w) (ix2 r l) = GlaSpec.silu (∑ k : Fin 1024, x (ix3 0 r k) * w (ix2 k l)) := by
  have e : k0_pay34 (k0_pay32 (F := Ideal) x w) (k0_pay33 x w) (ix2 r l) = GlaSpec.silu (k0_pay32 (F := Ideal) x w (ix2 r l)) := by
    unfold k0_pay33
    generalize k0_pay32 (F := Ideal) x w = g
    pointwise [k0_pay34]
    rfl
  rw [e, pay32_apply]

/-- The decay's logarithm. -/
theorem pay35_apply : k0_pay35 (k0_pay28 (F := Ideal) x) wd gB gb (ix2 r l)
    = GlaSpec.logA (∑ j : Fin 128, (∑ k : Fin 1024, x (ix3 0 r k) * wd (ix2 k j)) * gB (ix2 j l) + gb (ix2 0 l)) := by
  pointwise [k0_pay35, k0_pay28]
  unfold GlaSpec.logA RgSpec.soft
  simp only [zero_sub]

/-- A row's chunk, as the kernel's bit mask gives it. -/
theorem low_eq : ∀ r : Fin 256, IntOp.andi (BitVec.ofNat 32 r.val) 4294967232#32 = BitVec.ofNat 32 (r.val / 64 * 64) := by decide +kernel

/-- The mask of a block's rows: a row and the rows before it in its chunk. -/
theorem chunk_eq (r s : Fin 256) : IntOp.andi (IntOp.cmpi CmpIPredicate.sle (BitVec.ofNat 32 s.val) (BitVec.ofNat 32 r.val))
      (IntOp.cmpi CmpIPredicate.eq (IntOp.andi (BitVec.ofNat 32 r.val) 4294967232#32) (IntOp.andi (BitVec.ofNat 32 s.val) 4294967232#32))
    = if s.val ≤ r.val ∧ s.val / 64 = r.val / 64 then 1#1 else 0#1 := by
  have hr := r.isLt
  have hs := s.isLt
  rw [low_eq, low_eq]
  unfold IntOp.cmpi
  dsimp only
  rw [WordArith.andi_ofBool]
  have e1 : (BitVec.ofNat 32 s.val).sle (BitVec.ofNat 32 r.val) = decide (s.val ≤ r.val) := by
    rw [BitVec.sle, WordArith.toInt_ofNat_small _ (by omega), WordArith.toInt_ofNat_small _ (by omega)]
    simp only [Nat.cast_le]
  have e2 : (BitVec.ofNat 32 (r.val / 64 * 64) == BitVec.ofNat 32 (s.val / 64 * 64)) = decide (s.val / 64 = r.val / 64) := by
    refine Bool.eq_iff_iff.mpr ?_
    rw [beq_iff_eq, decide_eq_true_iff]
    constructor
    · intro h
      have := congrArg BitVec.toNat h
      rw [WordArith.toNat_ofNat_of_lt _ (by omega), WordArith.toNat_ofNat_of_lt _ (by omega)] at this
      omega
    · intro h
      rw [h]
  rw [e1, e2]
  by_cases h1 : s.val ≤ r.val <;> by_cases h2 : s.val / 64 = r.val / 64 <;> simp [h1, h2]

/-- What the three parts of a value give back, a value below infinity. -/
theorem parts_eq (x : EReal) (hx : x ≠ ⊤) : x + (x - x) + (x - x - (x - x)) = x := by
  induction x with
  | bot => rfl
  | top => exact absurd rfl hx
  | coe x =>
    rw [← EReal.coe_sub, ← EReal.coe_sub, ← EReal.coe_add, ← EReal.coe_add]
    simp

/-- The running sums within the chunks. -/
theorem pay1_apply (f : FVec Ideal S256x512 .f32) (hf : ∀ s : Fin 256, f (ix2 s l) ≠ ⊤) : k0_pay1 f k0_pay36 k0_pay37 k0_pay38 (ix2 r l)
    = ∑ s : Fin 256, if s.val ≤ r.val ∧ s.val / 64 = r.val / 64 then f (ix2 s l) else 0 := by
  pointwise [k0_pay1, k0_pay36, k0_pay37, k0_pay38]
  rw [← Finset.sum_add_distrib, ← Finset.sum_add_distrib]
  refine Finset.sum_congr rfl fun s _ => ?_
  rw [chunk_eq]
  by_cases h : s.val ≤ r.val ∧ s.val / 64 = r.val / 64
  · rw [if_pos h, if_pos h]
    exact parts_eq _ (hf s)
  · rw [if_neg h, if_neg h]
    exact (congrArg (fun p : EReal => p + 0) (add_zero (0 : EReal))).trans (add_zero _)

/-- Running sums within a chunk, over a block's rows, are running sums over the chunk's. -/
theorem sum_chunk (g : ℕ → EReal) : (∑ s : Fin 256, if s.val ≤ r.val ∧ s.val / 64 = r.val / 64 then g s.val else 0)
    = ∑ j : Fin 64, if j.val ≤ r.val % 64 then g (r.val / 64 * 64 + j.val) else 0 := by
  have hr := r.isLt
  refine (Equiv.sum_comp (finProdFinEquiv (m := 4) (n := 64)) (fun s : Fin 256 => if s.val ≤ r.val ∧ s.val / 64 = r.val / 64 then g s.val else 0)).symm.trans ?_
  rw [Fintype.sum_prod_type, Finset.sum_eq_single (⟨r.val / 64, by omega⟩ : Fin 4)]
  · refine Finset.sum_congr rfl fun j _ => ?_
    have hj := j.isLt
    show (if j.val + 64 * (r.val / 64) ≤ r.val ∧ (j.val + 64 * (r.val / 64)) / 64 = r.val / 64 then g (j.val + 64 * (r.val / 64)) else 0) = _
    have e : j.val + 64 * (r.val / 64) = r.val / 64 * 64 + j.val := by omega
    rw [e]
    by_cases h : j.val ≤ r.val % 64
    · rw [if_pos h, if_pos (by omega)]
    · rw [if_neg h, if_neg (by omega)]
  · intro b _ hb
    refine Finset.sum_eq_zero fun j _ => ?_
    have hj := j.isLt
    show (if j.val + 64 * b.val ≤ r.val ∧ (j.val + 64 * b.val) / 64 = r.val / 64 then g (j.val + 64 * b.val) else 0) = 0
    rw [if_neg]
    intro hh
    refine hb (Fin.ext ?_)
    show b.val = r.val / 64
    omega
  · intro h
    exact absurd (Finset.mem_univ _) h

end Block

end Cert.GlaIdeal.KerValue

end
-- ==== Proof.GlaTripRead.lean ====
/- The gated linear attention kernel's loop over the chunks: what a trip stores, and what all of them leave. -/
module

public import Idealize.ShloMosaic.Lib.WritesUnit
public import proofs.«01_k».proof.Proof.GlaIdealTrip
public import proofs.«01_k».proof.Proof.GlaHead

@[expose] public section

set_option maxRecDepth 16384

noncomputable section

namespace Cert.GlaIdeal.KerValue

open Cert.GlaIdeal Cert.GlaIdeal.Gen Idealize.ShloMosaic Idealize.ShloMosaic.TcCoe Idealize.ShloMosaic.Tactic Idealize.SL.Sem

/-- A block's 64 rows of chunk `n` and 128 lanes of head `h`. -/
def tile (x : FVec Ideal S256x512 .f32) (n h : ℕ) : FVec Ideal S64x128 .f32 := fun j =>
  if p : n < 4 ∧ h < 4 then x (ix2 ⟨64 * n + (j 0).val, by have := (j 0).isLt; change _ < 64 at this; omega⟩
    ⟨128 * h + (j 1).val, by have := (j 1).isLt; change _ < 128 at this; omega⟩) else 0

/-- The 128 lanes of head `h` of a row. -/
def lane (x : FVec Ideal S1x512 .f32) (h : ℕ) : FVec Ideal S1x128 .f32 := fun j =>
  if p : h < 4 then x (ix2 0 ⟨128 * h + (j 1).val, by have := (j 1).isLt; change _ < 128 at this; omega⟩) else 0

/-- Head `h` of the state. -/
def slab (x : FVec Ideal S4x128x128 .f32) (h : ℕ) : FVec Ideal S1x128x128 .f32 := fun j =>
  if p : h < 4 then x (ix3 ⟨h, p⟩ (j 1) (j 2)) else 0

theorem ld_tile (x : Vec Ideal S256x512 .f32) (off : Fin 2 → ℕ) (inb : ∀ a, off a + S64x128.size a ≤ S256x512.size a) (n h : ℕ) (hn : n < 4) (hh : h < 4)
    (e : off = ![64 * n, 128 * h]) : View.ld (Val := Elt Ideal) (e' := .f32) x (Rect.unit (s := S256x512) off S64x128.size inb) = tile x n h := by
  subst e
  funext j
  unfold tile
  rw [dif_pos ⟨hn, hh⟩]
  refine congrArg x ?_
  funext a
  refine Fin.ext ?_
  fin_cases a
  · show 64 * n + 1 * (j 0).val = 64 * n + (j 0).val
    omega
  · show 128 * h + 1 * (j 1).val = 128 * h + (j 1).val
    omega

theorem ld_lane (x : Vec Ideal S1x512 .f32) (off : Fin 2 → ℕ) (inb : ∀ a, off a + (![1, 128] : Fin 2 → ℕ) a ≤ S1x512.size a) (h : ℕ) (hh : h < 4)
    (e : off = ![0, 128 * h]) : View.ld (Val := Elt Ideal) (e' := .f32) x (Rect.unit (s := S1x512) off ![1, 128] inb) = lane x h := by
  subst e
  funext j
  have h0 : (j 0).val < 1 := (j 0).isLt
  unfold lane
  rw [dif_pos hh]
  refine congrArg x ?_
  funext a
  refine Fin.ext ?_
  fin_cases a
  · show 0 + 1 * (j 0).val = 0
    omega
  · show 128 * h + 1 * (j 1).val = 128 * h + (j 1).val
    omega

theorem ld_slab (x : Vec Ideal S4x128x128 .f32) (off : Fin 3 → ℕ) (inb : ∀ a, off a + S1x128x128.size a ≤ S4x128x128.size a) (h : ℕ) (hh : h < 4)
    (e : off = ![h, 0, 0]) : View.ld (Val := Elt Ideal) (e' := .f32) x (Rect.unit (s := S4x128x128) off S1x128x128.size inb) = slab x h := by
  subst e
  funext j
  have h0 : (j 0).val < 1 := (j 0).isLt
  unfold slab
  rw [dif_pos hh]
  refine congrArg x ?_
  funext a
  refine Fin.ext ?_
  fin_cases a
  · show h + 1 * (j 0).val = h
    omega
  · show 0 + 1 * (j 1).val = (j 1).val
    omega
  · show 0 + 1 * (j 2).val = (j 2).val
    omega

section Pieces

variable {κ : Kind} {sp : Space}

/-- An entry of the result's buffer under a chunk's store, or outside it. -/
theorem out_piece (v : View sig κ sp S1x256x512 .bf16) (f : v.ty.Contents (Elt Ideal)) (off : Fin 3 → ℕ)
    (inb : ∀ a, off a + (![1, 64, 128] : Fin 3 → ℕ) a ≤ S1x256x512.size a) (x : Vec Ideal S1x64x128 .bf16) (L : List (View.Piece (Elt Ideal) S1x256x512 .bf16))
    (n h : ℕ) (e : off = ![0, 64 * n, 128 * h]) (r : Fin 256) (l : Fin 512) :
    v.read (Elt Ideal) (v.writes (Elt Ideal) f ((⟨Rect.unit (s := S1x256x512) off ![1, 64, 128] inb, x⟩ : View.Piece (Elt Ideal) S1x256x512 .bf16) :: L)) (ix3 0 r l)
      = if r.val / 64 = n ∧ l.val / 128 = h then x (ix3 0 ⟨r.val % 64, by omega⟩ ⟨l.val % 128, by omega⟩)
        else v.read (Elt Ideal) (v.writes (Elt Ideal) f L) (ix3 0 r l) := by
  by_cases hp : r.val / 64 = n ∧ l.val / 128 = h
  · rw [if_pos hp]
    refine View.read_writes_cons_unit_of_mem (off' := ![0, 64 * n, 128 * h]) v f inb x L _ (ix3 0 ⟨r.val % 64, by omega⟩ ⟨l.val % 128, by omega⟩ : S1x64x128.Idx) e ?_
    intro a
    fin_cases a
    · rfl
    · show r.val = 64 * n + r.val % 64
      omega
    · show l.val = 128 * h + l.val % 128
      omega
  · rw [if_neg hp]
    by_cases h1 : r.val / 64 = n
    · refine View.read_writes_cons_unit_of_not_mem (off' := ![0, 64 * n, 128 * h]) v f inb x L _ e 2 ?_
      show l.val < 128 * h ∨ 128 * h + 128 ≤ l.val
      omega
    · refine View.read_writes_cons_unit_of_not_mem (off' := ![0, 64 * n, 128 * h]) v f inb x L _ e 1 ?_
      show r.val < 64 * n ∨ 64 * n + 64 ≤ r.val
      omega

/-- An entry of the state under a head's store, or outside it. -/
theorem st_piece (v : View sig κ sp S4x128x128 .f32) (f : v.ty.Contents (Elt Ideal)) (n : ℕ)
    (inb : ∀ a, (![n, 0, 0] : Fin 3 → ℕ) a + (![1, 128, 128] : Fin 3 → ℕ) a ≤ S4x128x128.size a) (x : Vec Ideal S1x128x128 .f32) (L : List (View.Piece (Elt Ideal) S4x128x128 .f32))
    (h : Fin 4) (p q : Fin 128) :
    v.read (Elt Ideal) (v.writes (Elt Ideal) f ((⟨Rect.unit (s := S4x128x128) ![n, 0, 0] ![1, 128, 128] inb, x⟩ : View.Piece (Elt Ideal) S4x128x128 .f32) :: L)) (ix3 h p q)
      = if h.val = n then x (ix3 0 p q) else v.read (Elt Ideal) (v.writes (Elt Ideal) f L) (ix3 h p q) := by
  by_cases hp : h.val = n
  · rw [if_pos hp]
    refine View.read_writes_cons_unit_of_mem (off' := ![n, 0, 0]) v f inb x L _ (ix3 0 p q : S1x128x128.Idx) rfl ?_
    intro a
    fin_cases a
    · exact hp
    · exact (Nat.zero_add _).symm
    · exact (Nat.zero_add _).symm
  · rw [if_neg hp]
    refine View.read_writes_cons_unit_of_not_mem (off' := ![n, 0, 0]) v f inb x L _ rfl 0 ?_
    show h.val < n ∨ n + 1 ≤ h.val
    omega

end Pieces

/-- What a chunk leaves in its rows of the result, head by head. -/
def chunkO (bc q k v og : FVec Ideal S256x512 .f32) (ng : FVec Ideal S1x512 .f32) (S : FVec Ideal S4x128x128 .f32) (n h : ℕ) : FVec Ideal S1x64x128 .bf16 :=
  outH (tile bc n h) (tile q n h) (tile k n h) (tile v n h) (slab S h) (lane ng h) (tile og n h)

/-- What a chunk leaves in the state. -/
def stepS (bc k v : FVec Ideal S256x512 .f32) (S : FVec Ideal S4x128x128 .f32) (n : ℕ) : FVec Ideal S4x128x128 .f32 := fun j =>
  nextH (tile bc n (j 0).val) (tile k n (j 0).val) (tile v n (j 0).val) (slab S (j 0).val) (ix3 0 (j 1) (j 2))

/-- The state before chunk `n` of a block. -/
def runS (bc k v : FVec Ideal S256x512 .f32) (S : FVec Ideal S4x128x128 .f32) : ℕ → FVec Ideal S4x128x128 .f32
  | 0 => S
  | n + 1 => stepS bc k v (runS bc k v S n) n

section Trip

variable (𝒱 : Variants) (c : Dev nD) (bd : Option 𝒱.V) (i : grid0.Coords) (arg2 : Memref sig .tc .vmem S1x256x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S4x128x128 .f32) (harg17 : arg17.IsWhole) (X_arg10 : BufTy.Contents (Elt Ideal) arg10.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty)

set_option maxHeartbeats 4000000 in
/-- An entry of the state after a trip. -/
theorem trip_state (k : Fin k0_t1_loop.trips) (g : BufTy.Contents (Elt Ideal) arg11.view.ty) (f : BufTy.Contents (Elt Ideal) arg17.view.ty)
    (G : BufTy.Contents (Elt Ideal) arg17.view.ty) (L : List (View.Piece (Elt Ideal) S4x128x128 .f32)) (h : Fin 4) (p q : Fin 128) :
    arg17.view.read (Elt Ideal) (arg17.view.writes (Elt Ideal) G ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 k g f).2 ++ L)) (ix3 h p q)
      = stepS (arg16.view.read (Elt Ideal) X_arg16) (arg13.view.read (Elt Ideal) X_arg13) (arg14.view.read (Elt Ideal) X_arg14) (arg17.view.read (Elt Ideal) f) k.val (ix3 h p q) := by
  have hk : k.val < 4 := k.isLt
  unfold tripL_k0_t1 trip_k0_t1
  sl_unfold_run_names
  dsimp only [List.cons_append, List.nil_append]
  simp only [View.readAt_eq_ld]
  unfold stepS
  obtain ⟨h, hh⟩ := h
  rw [st_piece, st_piece, st_piece, st_piece]
  have h0 := ld_tile (n := k.val) (h := 0) (hn := hk) (hh := by omega) (e := k0_off1_eq k)
  have h1 := ld_tile (n := k.val) (h := 1) (hn := hk) (hh := by omega) (e := k0_off3_eq k)
  have h2 := ld_tile (n := k.val) (h := 2) (hn := hk) (hh := by omega) (e := k0_off5_eq k)
  have h3 := ld_tile (n := k.val) (h := 3) (hn := hk) (hh := by omega) (e := k0_off7_eq k)
  have s0 := ld_slab (off := ![0, 0, 0]) (h := 0) (hh := by omega) (e := rfl)
  have s1 := ld_slab (off := ![1, 0, 0]) (h := 1) (hh := by omega) (e := rfl)
  have s2 := ld_slab (off := ![2, 0, 0]) (h := 2) (hh := by omega) (e := rfl)
  have s3 := ld_slab (off := ![3, 0, 0]) (h := 3) (hh := by omega) (e := rfl)
  simp only [h0, h1, h2, h3, s0, s1, s2, s3, next1_eq, next2_eq, next3_eq]
  have e0 : k0_pay8 (k0_pay7 (tile (arg16.view.read (Elt Ideal) X_arg16) k.val 0) (tile (arg13.view.read (Elt Ideal) X_arg13) k.val 0) (tile (arg14.view.read (Elt Ideal) X_arg14) k.val 0) (slab (arg17.view.read (Elt Ideal) f) 0)) = nextH (tile (arg16.view.read (Elt Ideal) X_arg16) k.val 0) (tile (arg13.view.read (Elt Ideal) X_arg13) k.val 0) (tile (arg14.view.read (Elt Ideal) X_arg14) k.val 0) (slab (arg17.view.read (Elt Ideal) f) 0) := rfl
  rw [e0]
  show _ = nextH (tile (arg16.view.read (Elt Ideal) X_arg16) k.val h) (tile (arg13.view.read (Elt Ideal) X_arg13) k.val h) (tile (arg14.view.read (Elt Ideal) X_arg14) k.val h) (slab (arg17.view.read (Elt Ideal) f) h) (ix3 0 p q)
  interval_cases h <;> simp only [Nat.reduceEqDiff, reduceIte]

set_option maxHeartbeats 4000000 in
/-- An entry of the result's buffer after a trip. -/
theorem trip_out {κ : Kind} {sp : Space} (V : View sig κ sp S1x256x512 .bf16) (k : Fin k0_t1_loop.trips) (g : BufTy.Contents (Elt Ideal) arg11.view.ty) (f : BufTy.Contents (Elt Ideal) arg17.view.ty)
    (G : V.ty.Contents (Elt Ideal)) (L : List (View.Piece (Elt Ideal) S1x256x512 .bf16)) (r : Fin 256) (l : Fin 512) :
    V.read (Elt Ideal) (V.writes (Elt Ideal) G ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 k g f).1 ++ L)) (ix3 0 r l)
      = if r.val / 64 = k.val then chunkO (arg16.view.read (Elt Ideal) X_arg16) (arg12.view.read (Elt Ideal) X_arg12) (arg13.view.read (Elt Ideal) X_arg13) (arg14.view.read (Elt Ideal) X_arg14) (arg15.view.read (Elt Ideal) X_arg15) (arg10.view.read (Elt Ideal) X_arg10) (arg17.view.read (Elt Ideal) f) k.val (l.val / 128) (ix3 0 ⟨r.val % 64, by omega⟩ ⟨l.val % 128, by omega⟩)
        else V.read (Elt Ideal) (V.writes (Elt Ideal) G L) (ix3 0 r l) := by
  have hk : k.val < 4 := k.isLt
  unfold tripL_k0_t1 trip_k0_t1
  sl_unfold_run_names
  dsimp only [List.cons_append, List.nil_append]
  simp only [View.readAt_eq_ld]
  rw [out_piece (n := k.val) (h := 3) (e := k0_off8_eq k), out_piece (n := k.val) (h := 2) (e := k0_off6_eq k),
    out_piece (n := k.val) (h := 1) (e := k0_off4_eq k), out_piece (n := k.val) (h := 0) (e := k0_off2_eq k)]
  have h0 := ld_tile (n := k.val) (h := 0) (hn := hk) (hh := by omega) (e := k0_off1_eq k)
  have h1 := ld_tile (n := k.val) (h := 1) (hn := hk) (hh := by omega) (e := k0_off3_eq k)
  have h2 := ld_tile (n := k.val) (h := 2) (hn := hk) (hh := by omega) (e := k0_off5_eq k)
  have h3 := ld_tile (n := k.val) (h := 3) (hn := hk) (hh := by omega) (e := k0_off7_eq k)
  have s0 := ld_slab (off := ![0, 0, 0]) (h := 0) (hh := by omega) (e := rfl)
  have s1 := ld_slab (off := ![1, 0, 0]) (h := 1) (hh := by omega) (e := rfl)
  have s2 := ld_slab (off := ![2, 0, 0]) (h := 2) (hh := by omega) (e := rfl)
  have s3 := ld_slab (off := ![3, 0, 0]) (h := 3) (hh := by omega) (e := rfl)
  have g0 := ld_lane (off := ![0, 0]) (h := 0) (hh := by omega) (e := rfl)
  have g1 := ld_lane (off := ![0, 128]) (h := 1) (hh := by omega) (e := rfl)
  have g2 := ld_lane (off := ![0, 256]) (h := 2) (hh := by omega) (e := rfl)
  have g3 := ld_lane (off := ![0, 384]) (h := 3) (hh := by omega) (e := rfl)
  simp only [h0, h1, h2, h3, s0, s1, s2, s3, g0, g1, g2, g3, out1_eq, out2_eq, out3_eq]
  have e0 : k0_pay9 (k0_pay6 k0_pay2 (tile (arg16.view.read (Elt Ideal) X_arg16) k.val 0) (tile (arg12.view.read (Elt Ideal) X_arg12) k.val 0) (tile (arg13.view.read (Elt Ideal) X_arg13) k.val 0) (tile (arg14.view.read (Elt Ideal) X_arg14) k.val 0) (slab (arg17.view.read (Elt Ideal) f) 0)) (lane (arg10.view.read (Elt Ideal) X_arg10) 0) (tile (arg15.view.read (Elt Ideal) X_arg15) k.val 0)
      = outH (tile (arg16.view.read (Elt Ideal) X_arg16) k.val 0) (tile (arg12.view.read (Elt Ideal) X_arg12) k.val 0) (tile (arg13.view.read (Elt Ideal) X_arg13) k.val 0) (tile (arg14.view.read (Elt Ideal) X_arg14) k.val 0) (slab (arg17.view.read (Elt Ideal) f) 0) (lane (arg10.view.read (Elt Ideal) X_arg10) 0) (tile (arg15.view.read (Elt Ideal) X_arg15) k.val 0) := rfl
  rw [e0]
  unfold chunkO
  by_cases hr : r.val / 64 = k.val
  · have hl : l.val / 128 < 4 := by have := l.isLt; omega
    rw [if_pos hr]
    simp only [hr, true_and]
    generalize l.val / 128 = h at hl
    interval_cases h <;> simp only [Nat.reduceEqDiff, reduceIte]
  · rw [if_neg hr, if_neg (fun h => hr h.1), if_neg (fun h => hr h.1), if_neg (fun h => hr h.1), if_neg (fun h => hr h.1)]

/-- The state after the first trips. -/
theorem pb_state (g : BufTy.Contents (Elt Ideal) arg11.view.ty) (f : BufTy.Contents (Elt Ideal) arg17.view.ty) (n : ℕ) (hn : n ≤ 4) :
    arg17.view.read (Elt Ideal) (arg17.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f n).2) = runS (arg16.view.read (Elt Ideal) X_arg16) (arg13.view.read (Elt Ideal) X_arg13) (arg14.view.read (Elt Ideal) X_arg14) (arg17.view.read (Elt Ideal) f) n := by
  induction n with
  | zero => rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f ⟨n, by show n < 4; omega⟩
    rw [e]
    funext j
    rw [eq_ix3 (n0 := 4) (n1 := 128) (n2 := 128) j]
    refine (trip_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 ⟨n, by show n < 4; omega⟩ _ _ f _ (j 0) (j 1) (j 2)).trans ?_
    rw [ih (by omega)]
    rfl

/-- The result's rows after the first trips. -/
theorem pb_rows {κ : Kind} {sp : Space} (V : View sig κ sp S1x256x512 .bf16) (G : V.ty.Contents (Elt Ideal)) (g : BufTy.Contents (Elt Ideal) arg11.view.ty) (f : BufTy.Contents (Elt Ideal) arg17.view.ty) (n : ℕ) (hn : n ≤ 4) (r : Fin 256) (hr : r.val < 64 * n) (l : Fin 512) :
    V.read (Elt Ideal) (V.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f n).1) (ix3 0 r l)
      = chunkO (arg16.view.read (Elt Ideal) X_arg16) (arg12.view.read (Elt Ideal) X_arg12) (arg13.view.read (Elt Ideal) X_arg13) (arg14.view.read (Elt Ideal) X_arg14) (arg15.view.read (Elt Ideal) X_arg15) (arg10.view.read (Elt Ideal) X_arg10) (runS (arg16.view.read (Elt Ideal) X_arg16) (arg13.view.read (Elt Ideal) X_arg13) (arg14.view.read (Elt Ideal) X_arg14) (arg17.view.read (Elt Ideal) f) (r.val / 64)) (r.val / 64) (l.val / 128) (ix3 0 ⟨r.val % 64, by omega⟩ ⟨l.val % 128, by omega⟩) := by
  induction n with
  | zero => omega
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f ⟨n, by show n < 4; omega⟩
    rw [e]
    refine (trip_out 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 V ⟨n, by show n < 4; omega⟩ _ _ G _ r l).trans ?_
    by_cases h : r.val / 64 = n
    · rw [if_pos h, pb_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f n (by omega)]
      subst h
      rfl
    · rw [if_neg h]
      exact ih (by omega) (by omega)

end Trip

section Of

variable {𝒱 : Variants} {c : Dev nD} {bd : Option 𝒱.V} {i : grid0.Coords} {arg2 : Memref sig .tc .vmem S1x256x1024 .f32} {harg2 : arg2.IsWhole} {arg3 : Memref sig .tc .vmem S1024x512 .bf16} {harg3 : arg3.IsWhole} {arg4 : Memref sig .tc .vmem S1024x512 .bf16} {harg4 : arg4.IsWhole} {arg5 : Memref sig .tc .vmem S1024x512 .bf16} {harg5 : arg5.IsWhole} {arg6 : Memref sig .tc .vmem S1024x128 .bf16} {harg6 : arg6.IsWhole} {arg7 : Memref sig .tc .vmem S1024x512 .bf16} {harg7 : arg7.IsWhole} {arg8 : Memref sig .tc .vmem S128x512 .bf16} {harg8 : arg8.IsWhole} {arg9 : Memref sig .tc .vmem S1x512 .f32} {harg9 : arg9.IsWhole} {arg10 : Memref sig .tc .vmem S1x512 .f32} {harg10 : arg10.IsWhole} {arg11 : Memref sig .tc .vmem S1x256x512 .bf16} {harg11 : arg11.IsWhole} {arg12 : Memref sig .tc .vmem S256x512 .f32} {harg12 : arg12.IsWhole} {arg13 : Memref sig .tc .vmem S256x512 .f32} {harg13 : arg13.IsWhole} {arg14 : Memref sig .tc .vmem S256x512 .f32} {harg14 : arg14.IsWhole} {arg15 : Memref sig .tc .vmem S256x512 .f32} {harg15 : arg15.IsWhole} {arg16 : Memref sig .tc .vmem S256x512 .f32} {harg16 : arg16.IsWhole} {arg17 : Memref sig .tc .vmem S4x128x128 .f32} {harg17 : arg17.IsWhole} {X_arg10 : BufTy.Contents (Elt Ideal) arg10.view.ty} {X_arg12 : BufTy.Contents (Elt Ideal) arg12.view.ty} {X_arg13 : BufTy.Contents (Elt Ideal) arg13.view.ty} {X_arg14 : BufTy.Contents (Elt Ideal) arg14.view.ty} {X_arg15 : BufTy.Contents (Elt Ideal) arg15.view.ty} {X_arg16 : BufTy.Contents (Elt Ideal) arg16.view.ty}

/-- The state after all trips, from what the scratch buffers hold, over any earlier contents. -/
theorem pb_state_of {bc k v : FVec Ideal S256x512 .f32} {S : FVec Ideal S4x128x128 .f32} {g : BufTy.Contents (Elt Ideal) arg11.view.ty} {f : BufTy.Contents (Elt Ideal) arg17.view.ty}
    (hbc : (arg16.view.read (Elt Ideal) X_arg16) = bc) (hk : (arg13.view.read (Elt Ideal) X_arg13) = k) (hv : (arg14.view.read (Elt Ideal) X_arg14) = v) (hS : arg17.view.read (Elt Ideal) f = S) (G : BufTy.Contents (Elt Ideal) arg17.view.ty) :
    arg17.view.read (Elt Ideal) (arg17.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f 4).2) = runS bc k v S 4 := by
  subst hbc hk hv hS
  have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f ⟨3, by show 3 < 4; omega⟩
  rw [e]
  funext j
  rw [eq_ix3 (n0 := 4) (n1 := 128) (n2 := 128) j]
  refine (trip_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 ⟨3, by show 3 < 4; omega⟩ _ _ G _ (j 0) (j 1) (j 2)).trans ?_
  rw [pb_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f 3 (by omega)]
  rfl

/-- The result's rows after all trips, from what the scratch buffers hold. -/
theorem pb_rows_of {bc q k v og : FVec Ideal S256x512 .f32} {ng : FVec Ideal S1x512 .f32} {S : FVec Ideal S4x128x128 .f32} {g : BufTy.Contents (Elt Ideal) arg11.view.ty} {f : BufTy.Contents (Elt Ideal) arg17.view.ty}
    (hbc : (arg16.view.read (Elt Ideal) X_arg16) = bc) (hq : (arg12.view.read (Elt Ideal) X_arg12) = q) (hk : (arg13.view.read (Elt Ideal) X_arg13) = k) (hv : (arg14.view.read (Elt Ideal) X_arg14) = v) (hog : (arg15.view.read (Elt Ideal) X_arg15) = og) (hng : (arg10.view.read (Elt Ideal) X_arg10) = ng) (hS : arg17.view.read (Elt Ideal) f = S)
    {κ : Kind} {sp : Space} (V : View sig κ sp S1x256x512 .bf16) (G : V.ty.Contents (Elt Ideal)) (r : Fin 256) (l : Fin 512) :
    V.read (Elt Ideal) (V.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 g f 4).1) (ix3 0 r l)
      = chunkO bc q k v og ng (runS bc k v S (r.val / 64)) (r.val / 64) (l.val / 128) (ix3 0 ⟨r.val % 64, by omega⟩ ⟨l.val % 128, by omega⟩) := by
  subst hbc hq hk hv hog hng hS
  exact pb_rows 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg10 X_arg12 X_arg13 X_arg14 X_arg15 X_arg16 V G g f 4 le_rfl r (by have := r.isLt; omega) l

end Of

end Cert.GlaIdeal.KerValue

end
-- ==== Proof.GlaIdealValue.lean ====
module

public import proofs.«01_k».proof.Proof.GlaIdealFrame
public import Idealize.ShloMosaic.Lib.Pipeline.Value

@[expose] public section

noncomputable section

namespace Cert.GlaIdeal.Value

open Cert.GlaIdeal Cert.GlaIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the run's contents for that window after the body (`Gen.outsAt0`: its component 0), read through the window's block. -/
theorem flushed9 (c : Dev nD) (t : Fin cfg0.N) :
    (dats m 0 c).flushed 9 t = (cfg0.win 9).cut (grid0.coords t) ((outsAt0 m c t.val t.isLt).1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 16 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 16 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  simp only [flushed9, outsAt0_B m c t h0]

-- no `blocks9`: window 9's index map is injective over its 256 points, but past 200 points that is decided here only for a window whose block index on one axis is the point's position;
-- the final array is still the frame's `arrAt`, to read with Lib/Pipeline/Value.lean's lemmas by hand

/-- An index that no flushing point's block covers keeps output window 9's array contents at region entry. -/
theorem entry9 (c : Dev nD) (i : S16x4096x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v28) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v28) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post9 m r h c,
      kept_main_arg0 m r h c,
      kept_main_arg1 m r h c,
      kept_main_arg2 m r h c,
      kept_main_arg3 m r h c,
      kept_main_arg4 m r h c⟩)
    (run_main m ρ)

/-! ## Carried scratch 5: what each point leaves in it, and its fold -/

/-- What point `n` leaves in carried scratch 5, over what the point before left in it (`acc`): the case the conditions'
    closed forms select at `n`, the frame's own term for it (`Gen.sout0_κ_5`; anything else the case takes of the point
    before, another carried scratch or an output it reads back, stays `Gen.outsAt0`'s at `n - 1`); a case at the points ≡ 0 (mod 16)
    stores the scratch whole without reading what it held, and `acc` does not enter there (nor where no point meets the
    conditions: `acc`, never read). -/
def scAt0_5 (c : Dev nD) (n : ℕ) (hb : n < cfg0.N) (acc : Vec F S4x128x128 .f32) : Vec F S4x128x128 .f32 :=
  if h0 : n % 16 = 0 then
    sout0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N))
  else
    sout0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc

/-- WHAT CARRIED SCRATCH 5 HOLDS after point `t`: the fold of its run up to `t`, from the reset at the run's first point
    `16·(t / 16)` (Lib/Pipeline/Value.lean `Pipeline.eq_accAt_of_mod`, by the frame's `outsAt0_κ`; without enumerating the points). -/
theorem soutsAt0_5_eq (c : Dev nD) (t : Fin cfg0.N) :
    (outsAt0 m c t.val t.isLt).2 = Pipeline.accAt (fun n h => scAt0_5 m c n h (VS0_5.read (Elt F) VS0_5.junk)) (scAt0_5 m c) (16 * (t.val / 16)) (t.val % 16)
      (by have h1 := t.isLt; have h2 := Nat.div_add_mod t.val 16; omega) :=
  Pipeline.eq_accAt_of_mod (fun n h => (outsAt0 m c n h).2) 16 (fun n h => scAt0_5 m c n h (VS0_5.read (Elt F) VS0_5.junk)) (scAt0_5 m c)
    (fun n h hn => by
      have hN := lt_of_lt_of_eq h (show cfg0.N = 256 from N_0)
      by_cases h0 : n % 16 = 0
      all_goals first | (exfalso; omega) | (rw [outsAt0_A m c ⟨n, h⟩ h0]; dsimp only; unfold scAt0_5; rw [dif_pos h0] <;> try rfl) | (rw [outsAt0_B m c ⟨n, h⟩ h0]; dsimp only; unfold scAt0_5; rw [dif_neg h0] <;> try rfl))
    (fun n h hn => by
      have hN := lt_of_lt_of_eq h (show cfg0.N = 256 from N_0)
      by_cases h0 : (n + 1) % 16 = 0
      all_goals first | (exfalso; omega) | (rw [outsAt0_A m c ⟨n + 1, h⟩ h0]; dsimp only; unfold scAt0_5; rw [dif_pos h0] <;> try rfl) | (rw [outsAt0_B m c ⟨n + 1, h⟩ h0]; dsimp only; unfold scAt0_5; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x256x512 .bf16 × Vec F S4x128x128 .f32 :=
  ((VO0_9.read (Elt F) VO0_9.junk, VS0_5.read (Elt F) VS0_5.junk) : Vec F S1x256x512 .bf16 × Vec F S4x128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x256x512 .bf16 × Vec F S4x128x128 .f32) : Vec F S1x256x512 .bf16 × Vec F S4x128x128 .f32 :=
  if h0 : n % 16 = 0 then
    (out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)), sout0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)))
  else
    (out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2, sout0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2)

/-- `stAt0` at a point of case A: that case's contents. -/
theorem stAt0_A (c : Dev nD) (t : Fin cfg0.N) (acc : Vec F S1x256x512 .bf16 × Vec F S4x128x128 .f32) (h0 : t.val % 16 = 0) :
    stAt0 m c t.val t.isLt acc = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) :=
  (dif_pos h0).trans rfl

/-- `stAt0` at a point of case B: that case's contents, over `acc`. -/
theorem stAt0_B (c : Dev nD) (t : Fin cfg0.N) (acc : Vec F S1x256x512 .bf16 × Vec F S4x128x128 .f32) (h0 : ¬t.val % 16 = 0) :
    stAt0 m c t.val t.isLt acc = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) acc.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 256 from N_0)
  have e := Pipeline.eq_accAt_of_mod (fun n h => outsAt0 m c n h) 256 (fun n h => stAt0 m c n h junk0) (stAt0 m c)
    (fun n h _ => by
      have hN := lt_of_lt_of_eq h (show cfg0.N = 256 from N_0)
      obtain rfl : n = 0 := by omega
      exact outsAt0_zero m c h)
    (fun n h _ => outsAt0_succ m c n h)
    (by decide) n hn (by have := Nat.div_add_mod n 256; omega)
  have hd : n / 256 = 0 := Nat.div_eq_of_lt hN
  have hm : n % 256 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 9 -/

/-- The block of the array that holds index `i`, numbered in the order the points write the blocks back (one per point),
    `i`'s place in it, and the point that writes it back. -/
abbrev run9Of (i : S16x4096x512.Idx) : ℕ := 16 * ((i 0).val / 1 - 0) + 1 * ((i 1).val / 256 - 0) + 1 * ((i 2).val / 512 - 0)
set_option backward.proofsInPublic true in
abbrev loc9Of (i : S16x4096x512.Idx) : S1x256x512.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 512, Nat.mod_lt _ (by decide)⟩
abbrev pt9Of (i : S16x4096x512.Idx) : ℕ := run9Of i

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v28) := fun i =>
  if h : pt9Of i < cfg0.N then
    (Pipeline.accAt (fun n h => stAt0 m c n h junk0) (stAt0 m c) 0 (pt9Of i) (by omega)).1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 3) ∧ win0_9.index t (0 : Fin 3) ≤ 15
    ∧ 0 ≤ win0_9.index t (1 : Fin 3) ∧ win0_9.index t (1 : Fin 3) ≤ 15
    ∧ 0 ≤ win0_9.index t (2 : Fin 3) ∧ win0_9.index t (2 : Fin 3) ≤ 0
    ∧ 16 * (win0_9.index t (0 : Fin 3) - 0) + 1 * (win0_9.index t (1 : Fin 3) - 0) + 1 * (win0_9.index t (2 : Fin 3) - 0) = t.val :=
  (by decide +kernel : ∀ t : Fin grid0.N, _)

/-- Every block of the box is SOME flushing point's: `onto9Pt`, the point that writes back the block at place `q` of the box. -/
abbrev onto9Pt (q0 : Fin 16) (q1 : Fin 16) (q2 : Fin 1) : Fin grid0.N :=
  ⟨16 * q0.val + 1 * q1.val + 1 * q2.val, lt_of_lt_of_eq (by omega) N_0.symm⟩
theorem idx_onto9 : ∀ (q0 : Fin 16) (q1 : Fin 16) (q2 : Fin 1), ∃ t : Fin cfg0.N, (cfg0.win 9).flush t = true ∧ win0_9.index t = ![q0.val + 0, q1.val + 0, q2.val + 0] :=
  fun q0 q1 q2 => ⟨onto9Pt q0 q1 q2, (by decide +kernel : ∀ (q0 : Fin 16) (q1 : Fin 16) (q2 : Fin 1), win0_9.flush (onto9Pt q0 q1 q2) = true ∧ win0_9.index (onto9Pt q0 q1 q2) = ![q0.val + 0, q1.val + 0, q2.val + 0]) q0 q1 q2⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2, e3⟩ := idx_facts9 t
  funext y
  have hy0 : (y 0).val < 1 := (y 0).isLt
  have hy1 : (y 1).val < 256 := (y 1).isLt
  have hy2 : (y 2).val < 512 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 256 + 1 * (y 1).val := rfl
  have hb2 : (((cfg0.win 9).blk t).view.emb y 2).val = win0_9.index t (2 : Fin 3) * 512 + 1 * (y 2).val := rfl
  have hr : run9Of (((cfg0.win 9).blk t).view.emb y) = t.val := by
    show 16 * ((((cfg0.win 9).blk t).view.emb y 0).val / 1 - 0) + 1 * ((((cfg0.win 9).blk t).view.emb y 1).val / 256 - 0) + 1 * ((((cfg0.win 9).blk t).view.emb y 2).val / 512 - 0) = _
    rw [hb0, hb1, hb2]
    rw [show (win0_9.index t (0 : Fin 3) * 1 + 1 * (y 0).val) / 1 = win0_9.index t (0 : Fin 3) from by omega]; rw [show (win0_9.index t (1 : Fin 3) * 256 + 1 * (y 1).val) / 256 = win0_9.index t (1 : Fin 3) from by omega]; rw [show (win0_9.index t (2 : Fin 3) * 512 + 1 * (y 2).val) / 512 = win0_9.index t (2 : Fin 3) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 1 = (y 0).val; rw [hb0]; omega
    | ⟨1, _⟩ => show (((cfg0.win 9).blk t).view.emb y 1).val % 256 = (y 1).val; rw [hb1]; omega
    | ⟨2, _⟩ => show (((cfg0.win 9).blk t).view.emb y 2).val % 512 = (y 2).val; rw [hb2]; omega
  have hp : pt9Of (((cfg0.win 9).blk t).view.emb y) = t.val := by
    exact hr
  show (Pipeline.accAt (fun n h => stAt0 m c n h junk0) (stAt0 m c) 0 t.val _).1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S16x4096x512.Idx) :
    i ∈ ((cfg0.win 9).blk t).view.set ↔ ∀ a : Fin 3, win0_9.index t a * S1x256x512.size a ≤ (i a).val ∧ (i a).val < win0_9.index t a * S1x256x512.size a + S1x256x512.size a := by
  show i ∈ ((View.whole main_v28).slice (win0_9.rect t)).set ↔ _
  rw [View.set_slice_whole, Rect.mem_set_unit]
  exact Iff.rfl

/-- THE COVERED INDICES: in some flushing point's block iff inside the box those blocks fill. -/
theorem covered_iff9 (i : S16x4096x512.Idx) :
    (∃ t : Fin cfg0.N, (cfg0.win 9).flush t = true ∧ i ∈ ((cfg0.win 9).blk t).view.set) ↔ 0 ≤ (i 0).val ∧ (i 0).val < 16 ∧ 0 ≤ (i 1).val ∧ (i 1).val < 4096 ∧ 0 ≤ (i 2).val ∧ (i 2).val < 512 := by
  constructor
  · rintro ⟨t, -, hi⟩
    rw [mem_blk9] at hi
    have b0 : win0_9.index t (0 : Fin 3) * 1 ≤ (i 0).val ∧ (i 0).val < win0_9.index t (0 : Fin 3) * 1 + 1 := hi 0
    have b1 : win0_9.index t (1 : Fin 3) * 256 ≤ (i 1).val ∧ (i 1).val < win0_9.index t (1 : Fin 3) * 256 + 256 := hi 1
    have b2 : win0_9.index t (2 : Fin 3) * 512 ≤ (i 2).val ∧ (i 2).val < win0_9.index t (2 : Fin 3) * 512 + 512 := hi 2
    obtain ⟨e0, e1, e2, e3⟩ := idx_facts9 t
    omega
  · intro h
    have hi0 : (i 0).val < 16 := (i 0).isLt
    have hi1 : (i 1).val < 4096 := (i 1).isLt
    have hi2 : (i 2).val < 512 := (i 2).isLt
    obtain ⟨t, hft, ht⟩ := idx_onto9 ⟨(i 0).val / 1 - 0, by omega⟩ ⟨(i 1).val / 256 - 0, by omega⟩ ⟨(i 2).val / 512 - 0, by omega⟩
    have q0 : win0_9.index t (0 : Fin 3) = (i 0).val / 1 - 0 + 0 := congrFun ht 0
    have q1 : win0_9.index t (1 : Fin 3) = (i 1).val / 256 - 0 + 0 := congrFun ht 1
    have q2 : win0_9.index t (2 : Fin 3) = (i 2).val / 512 - 0 + 0 := congrFun ht 2
    refine ⟨t, hft, ?_⟩
    rw [mem_blk9]
    intro a
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 256 ≤ (i 1).val ∧ (i 1).val < win0_9.index t (1 : Fin 3) * 256 + 256; omega
    | ⟨2, _⟩ => show win0_9.index t (2 : Fin 3) * 512 ≤ (i 2).val ∧ (i 2).val < win0_9.index t (2 : Fin 3) * 512 + 512; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 16 := (i 0).isLt; have h1 : (i 1).val < 4096 := (i 1).isLt; have h2 : (i 2).val < 512 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v28) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post9 m r h c).trans (final9 m c),
      kept_main_arg0 m r h c,
      kept_main_arg1 m r h c,
      kept_main_arg2 m r h c,
      kept_main_arg3 m r h c,
      kept_main_arg4 m r h c⟩)
    (run_main m ρ)

end Cert.GlaIdeal.Value

end
-- ==== Proof.GlaPoint.lean ====
/- The gated linear attention kernel, one grid point at a time: what a point writes back and what it leaves for the next. -/
module

public import proofs.«01_k».proof.Proof.GlaTripRead
public import proofs.«01_k».proof.Proof.GlaIdealValue

@[expose] public section

set_option maxRecDepth 16384

noncomputable section

namespace Cert.GlaIdeal.KerValue

open Cert.GlaIdeal Cert.GlaIdeal.Gen Cert.GlaIdeal.Value Idealize.ShloMosaic Idealize.ShloMosaic.TcCoe Idealize.ShloMosaic.Tactic Idealize.SL.Sem

variable (m : (ℓ : Loc nD τ sig) → Buf (Elt Ideal) ℓ) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

section Whole

variable {κ : Kind} {sp : Space}

/-- A scratch block right after it was stored whole. -/
theorem read_block (v : View sig κ sp S256x512 .f32) (f : v.ty.Contents (Elt Ideal)) (inb : ∀ a, (![0, 0] : Fin 2 → ℕ) a + (![256, 512] : Fin 2 → ℕ) a ≤ S256x512.size a)
    (x : Vec Ideal S256x512 .f32) : v.read (Elt Ideal) (v.writes (Elt Ideal) f [(⟨Rect.unit (s := S256x512) ![0, 0] ![256, 512] inb, x⟩ : View.Piece (Elt Ideal) S256x512 .f32)]) = x := by
  funext j
  refine View.read_writes_cons_unit_of_mem (off' := ![0, 0]) v f inb x [] j j rfl ?_
  intro a
  fin_cases a
  · exact (Nat.zero_add _).symm
  · exact (Nat.zero_add _).symm

/-- The state right after it was stored whole. -/
theorem read_state (v : View sig κ sp S4x128x128 .f32) (f : v.ty.Contents (Elt Ideal)) (inb : ∀ a, (![0, 0, 0] : Fin 3 → ℕ) a + (![4, 128, 128] : Fin 3 → ℕ) a ≤ S4x128x128.size a)
    (x : Vec Ideal S4x128x128 .f32) : v.read (Elt Ideal) (v.writes (Elt Ideal) f [(⟨Rect.unit (s := S4x128x128) ![0, 0, 0] ![4, 128, 128] inb, x⟩ : View.Piece (Elt Ideal) S4x128x128 .f32)]) = x := by
  funext j
  refine View.read_writes_cons_unit_of_mem (off' := ![0, 0, 0]) v f inb x [] j j rfl ?_
  intro a
  fin_cases a
  · exact (Nat.zero_add _).symm
  · exact (Nat.zero_add _).symm
  · exact (Nat.zero_add _).symm

end Whole

variable (t : Fin cfg0.N)

/-- The point's queries, keys, values, output gate and summed decays. -/
def qB : FVec Ideal S256x512 .f32 := k0_pay29 (iblk m c 0 t) (iblk m c 1 t)
@[inherit_doc qB] def kB : FVec Ideal S256x512 .f32 := k0_pay30 (iblk m c 0 t) (iblk m c 2 t)
@[inherit_doc qB] def vB : FVec Ideal S256x512 .f32 := k0_pay31 (iblk m c 0 t) (iblk m c 3 t)
@[inherit_doc qB] def oB : FVec Ideal S256x512 .f32 := k0_pay34 (k0_pay32 (iblk m c 0 t) (iblk m c 5 t)) (k0_pay33 (iblk m c 0 t) (iblk m c 5 t))
@[inherit_doc qB] def cB : FVec Ideal S256x512 .f32 := k0_pay1 (k0_pay35 (k0_pay28 (iblk m c 0 t)) (iblk m c 4 t) (iblk m c 6 t) (iblk m c 7 t)) k0_pay36 k0_pay37 k0_pay38

/-- The state a point leaves. -/
def endS (S : FVec Ideal S4x128x128 .f32) : FVec Ideal S4x128x128 .f32 := runS (cB m c t) (kB m c t) (vB m c t) S 4

/-- A row and lane of what a point writes back. -/
def rowO (S : FVec Ideal S4x128x128 .f32) (r : Fin 256) (l : Fin 512) : EReal :=
  chunkO (cB m c t) (qB m c t) (kB m c t) (vB m c t) (oB m c t) (iblk m c 8 t) (runS (cB m c t) (kB m c t) (vB m c t) S (r.val / 64)) (r.val / 64) (l.val / 128)
    (ix3 0 ⟨r.val % 64, by omega⟩ ⟨l.val % 128, by omega⟩)

set_option maxHeartbeats 4000000

theorem trips4 : Scf.trips (0#32) (Scalar.addi 0#32 4#32) 1#32 = 4 := by decide +kernel

/-- The state a point leaves, first of its batch row. -/
theorem pointA_s (h0 : t.val % 16 = 0) (acc : Vec Ideal S1x256x512 .bf16 × Vec Ideal S4x128x128 .f32) :
    (stAt0 m c t.val t.isLt acc).2 = endS m c t k0_pay27 := by
  rw [stAt0_A m c t acc h0]
  dsimp only
  unfold sout0_A_5 kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, View.ld_unit_zero (S := S1x256x1024) hz3, View.ld_unit_zero (S := S1024x512) hz,
    View.ld_unit_zero (S := S1024x128) hz, View.ld_unit_zero (S := S128x512) hz, View.ld_unit_zero (S := S1x512) hz]
  rw [trips4]
  rw [View.writes_append]
  exact pb_state_of (read_block _ _ _ _) (read_block _ _ _ _) (read_block _ _ _ _) (read_state _ _ _ _) _

/-- What a point writes back, first of its batch row. -/
theorem pointA_o (h0 : t.val % 16 = 0) (acc : Vec Ideal S1x256x512 .bf16 × Vec Ideal S4x128x128 .f32) (r : Fin 256) (l : Fin 512) :
    (stAt0 m c t.val t.isLt acc).1 (ix3 0 r l) = rowO m c t k0_pay27 r l := by
  rw [stAt0_A m c t acc h0]
  dsimp only
  unfold out0_A_9 kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, View.ld_unit_zero (S := S1x256x1024) hz3, View.ld_unit_zero (S := S1024x512) hz,
    View.ld_unit_zero (S := S1024x128) hz, View.ld_unit_zero (S := S128x512) hz, View.ld_unit_zero (S := S1x512) hz]
  rw [trips4]
  exact pb_rows_of (read_block _ _ _ _) (read_block _ _ _ _) (read_block _ _ _ _) (read_block _ _ _ _) (read_block _ _ _ _) ((hs0_8 t).read_unread _) (read_state _ _ _ _) _ _ r l

/-- The state a point leaves, not first of its batch row. -/
theorem pointB_s (h0 : ¬ t.val % 16 = 0) (acc : Vec Ideal S1x256x512 .bf16 × Vec Ideal S4x128x128 .f32) :
    (stAt0 m c t.val t.isLt acc).2 = endS m c t acc.2 := by
  rw [stAt0_B m c t acc h0]
  dsimp only
  unfold sout0_B_5 kernelRun0_B
  dsimp only
  sl_unfold_run_names
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, View.ld_unit_zero (S := S1x256x1024) hz3, View.ld_unit_zero (S := S1024x512) hz,
    View.ld_unit_zero (S := S1024x128) hz, View.ld_unit_zero (S := S128x512) hz, View.ld_unit_zero (S := S1x512) hz]
  rw [trips4]
  exact pb_state_of (read_block _ _ _ _) (read_block _ _ _ _) (read_block _ _ _ _) ((Memref.isWhole_whole cc0_scratch5).read_unread _) _

/-- What a point writes back, not first of its batch row. -/
theorem pointB_o (h0 : ¬ t.val % 16 = 0) (acc : Vec Ideal S1x256x512 .bf16 × Vec Ideal S4x128x128 .f32) (r : Fin 256) (l : Fin 512) :
    (stAt0 m c t.val t.isLt acc).1 (ix3 0 r l) = rowO m c t acc.2 r l := by
  rw [stAt0_B m c t acc h0]
  dsimp only
  unfold out0_B_9 kernelRun0_B
  dsimp only
  sl_unfold_run_names
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, View.ld_unit_zero (S := S1x256x1024) hz3, View.ld_unit_zero (S := S1024x512) hz,
    View.ld_unit_zero (S := S1024x128) hz, View.ld_unit_zero (S := S128x512) hz, View.ld_unit_zero (S := S1x512) hz]
  rw [trips4]
  exact pb_rows_of (read_block _ _ _ _) (read_block _ _ _ _) (read_block _ _ _ _) (read_block _ _ _ _) (read_block _ _ _ _) ((hs0_8 t).read_unread _) ((Memref.isWhole_whole cc0_scratch5).read_unread _) _ _ r l

end Cert.GlaIdeal.KerValue

end
-- ==== Proof.GlaRead.lean ====
/- The gated linear attention kernel: the blocks a grid point reads, as entries of the argument arrays. -/
module

public import Idealize.ShloMosaic.Lib.Pointwise
public import Idealize.ShloMosaic.Lib.WordArith
public import Idealize.ShloMosaic.Lib.KernelVsHost
public import Idealize.ShloMosaic.Lib.Pipeline.ValueKit
public import Idealize.ShloMosaic.Lib.Claim
public import proofs.«01_k».proof.Proof.GlaPoint

@[expose] public section

set_option maxRecDepth 16384

noncomputable section

namespace Cert.GlaIdeal.KerValue

open Cert.GlaIdeal Cert.GlaIdeal.Gen Cert.GlaIdeal.Value Idealize.ShloMosaic Idealize.ShloMosaic.TcCoe Idealize.ShloMosaic.Tactic Idealize.SL.Sem

/-- The padding's value, as the host converts it. -/
def zS : FVec Ideal S_ .f32 := sitofp .f32 (constantI S_ 32 0#32)

theorem zS_apply (i : S_.Idx) : zS i = 0 := by
  unfold zS
  show FloatOps.sitofp (F := Ideal) FTy.f32 (0#32) = (0 : EReal)
  simp [FloatOps.sitofp]

/-- The columns of the input matrix that the call reads. -/
def partW (w : FVec Ideal S1024x3216 .f32) : FVec Ideal S1024x1552 .f32 := extractStridedSlice S1024x1552 ![0, 1664] w slices_S1024x3216_S1024x1552_0_1664

/-- A matrix whose heads of 64 lanes are padded to 128. -/
def headsW (x : FVec Ideal S1024x256 .f32) : FVec Ideal S1024x512 .f32 :=
  shapeCast S1024x512 (pad S1024x4x128 ![0, 0, 0] ![0, 0, 64] ![0, 0, 0] (shapeCast S1024x4x64 x shapeCasts_S1024x256_S1024x4x64) zS
    pads_S1024x4x64_S1024x4x128_000_000_0640 h_S_) shapeCasts_S1024x4x128_S1024x512

@[inherit_doc headsW] def headsG (x : FVec Ideal S16x256 .f32) : FVec Ideal S16x512 .f32 :=
  shapeCast S16x512 (pad S16x4x128 ![0, 0, 0] ![0, 0, 64] ![0, 0, 0] (shapeCast S16x4x64 x shapeCasts_S16x256_S16x4x64) zS
    pads_S16x4x64_S16x4x128_000_000_0640 h_S_) shapeCasts_S16x4x128_S16x512

/-- A row whose heads of 64 lanes are padded to 128. -/
def headsB (x : FVec Ideal S256 .f32) : FVec Ideal S512 .f32 :=
  shapeCast S512 (pad S4x128 ![0, 0] ![0, 64] ![0, 0] (shapeCast S4x64 x shapeCasts_S256_S4x64) zS pads_S4x64_S4x128_000_0640 h_S_) shapeCasts_S4x128_S512

/-- The decay gate's first matrix, its 16 columns padded to 128. -/
def colsW (x : FVec Ideal S1024x16 .f32) : FVec Ideal S1024x128 .f32 := pad S1024x128 ![0, 0] ![0, 112] ![0, 0] x zS pads_S1024x16_S1024x128_000_01120 h_S_

/-- The decay gate's second matrix, its 16 rows padded to 128. -/
def rowsG (x : FVec Ideal S16x512 .f32) : FVec Ideal S128x512 .f32 := pad S128x512 ![0, 0] ![112, 0] ![0, 0] x zS pads_S16x512_S128x512_01120_000 h_S_

theorem headsW_apply (x : FVec Ideal S1024x256 .f32) (k : Fin 1024) (l : Fin 512) :
    headsW x (ix2 k l) = if h : l.val % 128 < 64 then x (ix2 k ⟨l.val / 128 * 64 + l.val % 128, by omega⟩) else 0 := by
  have hl := l.isLt
  unfold headsW
  obtain ⟨y, hy⟩ : ∃ y, pad S1024x4x128 ![0, 0, 0] ![0, 0, 64] ![0, 0, 0] (shapeCast S1024x4x64 x shapeCasts_S1024x256_S1024x4x64) zS
    pads_S1024x4x64_S1024x4x128_000_000_0640 h_S_ = y := ⟨_, rfl⟩
  rw [hy]
  refine Eq.trans (b := y (ix3 k ⟨l.val / 128, by omega⟩ ⟨l.val % 128, by omega⟩)) (by pointwise) ?_
  subst hy
  by_cases h : l.val % 128 < 64
  · rw [dif_pos h]
    refine (pad_apply_of_inside _ _ _ _ _ _ _ _ (ix3 k ⟨l.val / 128, by omega⟩ ⟨l.val % 128, h⟩ : S1024x4x64.Idx) ?_).trans ?_
    · intro a
      fin_cases a
      · show k.val = 0 + k.val * 1
        omega
      · show l.val / 128 = 0 + l.val / 128 * 1
        omega
      · show l.val % 128 = 0 + l.val % 128 * 1
        omega
    · pointwise
  · rw [dif_neg h]
    refine (pad_apply_of_not_inside _ _ _ _ _ _ _ _ (2 : Fin 3) ?_).trans (zS_apply _)
    intro hh
    have h2 : (l.val % 128 - 0) / 1 < 64 := hh.2.2
    omega

theorem headsG_apply (x : FVec Ideal S16x256 .f32) (k : Fin 16) (l : Fin 512) (h : l.val % 128 < 64) :
    headsG x (ix2 k l) = x (ix2 k ⟨l.val / 128 * 64 + l.val % 128, by omega⟩) := by
  have hl := l.isLt
  unfold headsG
  obtain ⟨y, hy⟩ : ∃ y, pad S16x4x128 ![0, 0, 0] ![0, 0, 64] ![0, 0, 0] (shapeCast S16x4x64 x shapeCasts_S16x256_S16x4x64) zS
    pads_S16x4x64_S16x4x128_000_000_0640 h_S_ = y := ⟨_, rfl⟩
  rw [hy]
  refine Eq.trans (b := y (ix3 k ⟨l.val / 128, by omega⟩ ⟨l.val % 128, by omega⟩)) (by pointwise) ?_
  subst hy
  refine (pad_apply_of_inside _ _ _ _ _ _ _ _ (ix3 k ⟨l.val / 128, by omega⟩ ⟨l.val % 128, h⟩ : S16x4x64.Idx) ?_).trans ?_
  · intro a
    fin_cases a
    · show k.val = 0 + k.val * 1
      omega
    · show l.val / 128 = 0 + l.val / 128 * 1
      omega
    · show l.val % 128 = 0 + l.val % 128 * 1
      omega
  · pointwise

theorem headsB_apply (x : FVec Ideal S256 .f32) (l : Fin 512) (h : l.val % 128 < 64) :
    headsB x (ix1 l) = x (ix1 ⟨l.val / 128 * 64 + l.val % 128, by omega⟩) := by
  have hl := l.isLt
  unfold headsB
  obtain ⟨y, hy⟩ : ∃ y, pad S4x128 ![0, 0] ![0, 64] ![0, 0] (shapeCast S4x64 x shapeCasts_S256_S4x64) zS pads_S4x64_S4x128_000_0640 h_S_ = y := ⟨_, rfl⟩
  rw [hy]
  refine Eq.trans (b := y (ix2 ⟨l.val / 128, by omega⟩ ⟨l.val % 128, by omega⟩)) (by pointwise) ?_
  subst hy
  refine (pad_apply_of_inside _ _ _ _ _ _ _ _ (ix2 ⟨l.val / 128, by omega⟩ ⟨l.val % 128, h⟩ : S4x64.Idx) ?_).trans ?_
  · intro a
    fin_cases a
    · show l.val / 128 = 0 + l.val / 128 * 1
      omega
    · show l.val % 128 = 0 + l.val % 128 * 1
      omega
  · pointwise

theorem colsW_apply (x : FVec Ideal S1024x16 .f32) (k : Fin 1024) (l : Fin 128) :
    colsW x (ix2 k l) = if h : l.val < 16 then x (ix2 k ⟨l.val, h⟩) else 0 := by
  unfold colsW
  by_cases h : l.val < 16
  · rw [dif_pos h]
    refine pad_apply_of_inside _ _ _ _ _ _ _ _ (ix2 k ⟨l.val, h⟩ : S1024x16.Idx) ?_
    intro a
    fin_cases a
    · show k.val = 0 + k.val * 1
      omega
    · show l.val = 0 + l.val * 1
      omega
  · rw [dif_neg h]
    refine (pad_apply_of_not_inside _ _ _ _ _ _ _ _ (1 : Fin 2) ?_).trans (zS_apply _)
    intro hh
    have h2 : (l.val - 0) / 1 < 16 := hh.2.2
    omega

theorem rowsG_apply (x : FVec Ideal S16x512 .f32) (k : Fin 16) (l : Fin 512) : rowsG x (ix2 ⟨k.val, by omega⟩ l) = x (ix2 k l) := by
  unfold rowsG
  refine pad_apply_of_inside _ _ _ _ _ _ _ _ (ix2 k l : S16x512.Idx) ?_
  intro a
  fin_cases a
  · show k.val = 0 + k.val * 1
    omega
  · show l.val = 0 + l.val * 1
    omega

variable (m : (ℓ : Loc nD τ sig) → Buf (Elt Ideal) ℓ) (c : Dev nD) (t : Fin cfg0.N)

/-- The input and result windows' block indices are the point's batch row and step; the other windows stay at the origin. -/
theorem idx : ∀ t : Fin cfg0.N, (win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0]) :=
  (by decide +kernel : ∀ t : Fin grid0.N, (win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0]))

/-- The input's rows. -/
theorem blk0 (r : Fin 256) (k : Fin 1024) : iblk m c 0 t (ix3 0 r k)
    = (m ((c : Thread nD τ).loc main_arg0) : FVec Ideal S16x4096x1024 .f32) (ix3 ⟨t.val / 16, by have := t.isLt; have : cfg0.N = 256 := N_0; omega⟩ ⟨t.val % 16 * 256 + r.val, by omega⟩ k) := by
  blk_ext! [iblk, V_main_arg0, idx t]

theorem V9_eq : (V m c main_v9 : FVec Ideal S1024x512 .bf16) = truncf .bf16 (headsW (extractStridedSlice S1024x256 ![0, 0] (partW (m ((c : Thread nD τ).loc main_arg1))) slices_S1024x1552_S1024x256_0_0)) bitsLt_bf16_f32 := by
  conv_lhs =>
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

theorem V13_eq : (V m c main_v13 : FVec Ideal S1024x512 .bf16) = truncf .bf16 (headsW (extractStridedSlice S1024x256 ![0, 256] (partW (m ((c : Thread nD τ).loc main_arg1))) slices_S1024x1552_S1024x256_0_256)) bitsLt_bf16_f32 := by
  conv_lhs =>
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

theorem V14_eq : (V m c main_v14 : FVec Ideal S1024x512 .bf16) = truncf .bf16 (extractStridedSlice S1024x512 ![0, 512] (partW (m ((c : Thread nD τ).loc main_arg1))) slices_S1024x1552_S1024x512_0_512) bitsLt_bf16_f32 := by
  conv_lhs =>
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

theorem V16_eq : (V m c main_v16 : FVec Ideal S1024x128 .bf16) = truncf .bf16 (colsW (extractStridedSlice S1024x16 ![0, 1024] (partW (m ((c : Thread nD τ).loc main_arg1))) slices_S1024x1552_S1024x16_0_1024)) bitsLt_bf16_f32 := by
  conv_lhs =>
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

theorem V17_eq : (V m c main_v17 : FVec Ideal S1024x512 .bf16) = truncf .bf16 (extractStridedSlice S1024x512 ![0, 1040] (partW (m ((c : Thread nD τ).loc main_arg1))) slices_S1024x1552_S1024x512_0_1040) bitsLt_bf16_f32 := by
  conv_lhs =>
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

theorem V22_eq : (V m c main_v22 : FVec Ideal S128x512 .bf16) = truncf .bf16 (rowsG (headsG (m ((c : Thread nD τ).loc main_arg2)))) bitsLt_bf16_f32 := by
  conv_lhs =>
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

theorem V26_eq : (V m c main_v26 : FVec Ideal S1x512 .f32) = shapeCast S1x512 (headsB (m ((c : Thread nD τ).loc main_arg3))) shapeCasts_S512_S1x512 := by
  conv_lhs =>
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

theorem V27_eq : (V m c main_v27 : FVec Ideal S1x512 .f32) = shapeCast S1x512 (m ((c : Thread nD τ).loc main_arg4) : FVec Ideal S512 .f32) shapeCasts_S512_S1x512 := by
  conv_lhs =>
    unfold V
    simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

/-- The queries' matrix. -/
theorem blk1 (k : Fin 1024) (l : Fin 512) : iblk m c 1 t (ix2 k l) = (if h : l.val % 128 < 64 then (m ((c : Thread nD τ).loc main_arg1) : FVec Ideal S1024x3216 .f32) (ix2 k ⟨1664 + (l.val / 128 * 64 + l.val % 128), by omega⟩) else 0 : EReal) := by
  have e : (win0_1.blk t).view.emb (ix2 k l : S1024x512.Idx) = (ix2 k l : S1024x512.Idx) := by blk_ext [idx t]
  have e' : iblk m c 1 t (ix2 k l) = V m c main_v9 (ix2 k l) := congrArg (V m c main_v9) e
  rw [e', V9_eq]
  refine (show _ = headsW _ (ix2 k l) from rfl).trans ((headsW_apply _ k l).trans ?_)
  by_cases h : l.val % 128 < 64
  · rw [dif_pos h, dif_pos h]
    refine Eq.trans (b := partW (m ((c : Thread nD τ).loc main_arg1)) (ix2 k ⟨0 + (l.val / 128 * 64 + l.val % 128), by omega⟩)) (by pointwise) ?_
    refine Eq.trans (b := (m ((c : Thread nD τ).loc main_arg1) : FVec Ideal S1024x3216 .f32) (ix2 k ⟨1664 + (0 + (l.val / 128 * 64 + l.val % 128)), by omega⟩)) (by pointwise [partW]) (congrArg (m ((c : Thread nD τ).loc main_arg1) : FVec Ideal S1024x3216 .f32) ?_)
    exact congrArg (ix2 k) (Fin.ext (by show 1664 + (0 + (l.val / 128 * 64 + l.val % 128)) = 1664 + (l.val / 128 * 64 + l.val % 128); omega))
  · rw [dif_neg h, dif_neg h]

/-- The keys' matrix. -/
theorem blk2 (k : Fin 1024) (l : Fin 512) : iblk m c 2 t (ix2 k l) = (if h : l.val % 128 < 64 then (m ((c : Thread nD τ).loc main_arg1) : FVec Ideal S1024x3216 .f32) (ix2 k ⟨1920 + (l.val / 128 * 64 + l.val % 128), by omega⟩) else 0 : EReal) := by
  have e : (win0_2.blk t).view.emb (ix2 k l : S1024x512.Idx) = (ix2 k l : S1024x512.Idx) := by blk_ext [idx t]
  have e' : iblk m c 2 t (ix2 k l) = V m c main_v13 (ix2 k l) := congrArg (V m c main_v13) e
  rw [e', V13_eq]
  refine (show _ = headsW _ (ix2 k l) from rfl).trans ((headsW_apply _ k l).trans ?_)
  by_cases h : l.val % 128 < 64
  · rw [dif_pos h, dif_pos h]
    refine Eq.trans (b := partW (m ((c : Thread nD τ).loc main_arg1)) (ix2 k ⟨256 + (l.val / 128 * 64 + l.val % 128), by omega⟩)) (by pointwise) ?_
    refine Eq.trans (b := (m ((c : Thread nD τ).loc main_arg1) : FVec Ideal S1024x3216 .f32) (ix2 k ⟨1664 + (256 + (l.val / 128 * 64 + l.val % 128)), by omega⟩)) (by pointwise [partW]) (congrArg (m ((c : Thread nD τ).loc main_arg1) : FVec Ideal S1024x3216 .f32) ?_)
    exact congrArg (ix2 k) (Fin.ext (by show 1664 + (256 + (l.val / 128 * 64 + l.val % 128)) = 1920 + (l.val / 128 * 64 + l.val % 128); omega))
  · rw [dif_neg h, dif_neg h]

/-- The values' matrix. -/
theorem blk3 (k : Fin 1024) (l : Fin 512) : iblk m c 3 t (ix2 k l) = (m ((c : Thread nD τ).loc main_arg1) : FVec Ideal S1024x3216 .f32) (ix2 k ⟨2176 + l.val, by omega⟩) := by
  have e : (win0_3.blk t).view.emb (ix2 k l : S1024x512.Idx) = (ix2 k l : S1024x512.Idx) := by blk_ext [idx t]
  have e' : iblk m c 3 t (ix2 k l) = V m c main_v14 (ix2 k l) := congrArg (V m c main_v14) e
  rw [e', V14_eq]
  refine Eq.trans (b := partW (m ((c : Thread nD τ).loc main_arg1)) (ix2 k ⟨512 + l.val, by omega⟩)) (by pointwise) ?_
  refine Eq.trans (b := (m ((c : Thread nD τ).loc main_arg1) : FVec Ideal S1024x3216 .f32) (ix2 k ⟨1664 + (512 + l.val), by omega⟩)) (by pointwise [partW]) (congrArg (m ((c : Thread nD τ).loc main_arg1) : FVec Ideal S1024x3216 .f32) ?_)
  exact congrArg (ix2 k) (Fin.ext (by show 1664 + (512 + l.val) = 2176 + l.val; omega))

/-- The output gate's matrix. -/
theorem blk5 (k : Fin 1024) (l : Fin 512) : iblk m c 5 t (ix2 k l) = (m ((c : Thread nD τ).loc main_arg1) : FVec Ideal S1024x3216 .f32) (ix2 k ⟨2704 + l.val, by omega⟩) := by
  have e : (win0_5.blk t).view.emb (ix2 k l : S1024x512.Idx) = (ix2 k l : S1024x512.Idx) := by blk_ext [idx t]
  have e' : iblk m c 5 t (ix2 k l) = V m c main_v17 (ix2 k l) := congrArg (V m c main_v17) e
  rw [e', V17_eq]
  refine Eq.trans (b := partW (m ((c : Thread nD τ).loc main_arg1)) (ix2 k ⟨1040 + l.val, by omega⟩)) (by pointwise) ?_
  refine Eq.trans (b := (m ((c : Thread nD τ).loc main_arg1) : FVec Ideal S1024x3216 .f32) (ix2 k ⟨1664 + (1040 + l.val), by omega⟩)) (by pointwise [partW]) (congrArg (m ((c : Thread nD τ).loc main_arg1) : FVec Ideal S1024x3216 .f32) ?_)
  exact congrArg (ix2 k) (Fin.ext (by show 1664 + (1040 + l.val) = 2704 + l.val; omega))

/-- The decay gate's first matrix. -/
theorem blk4 (k : Fin 1024) (l : Fin 128) : iblk m c 4 t (ix2 k l) = (if h : l.val < 16 then (m ((c : Thread nD τ).loc main_arg1) : FVec Ideal S1024x3216 .f32) (ix2 k ⟨2688 + l.val, by omega⟩) else 0 : EReal) := by
  have e : (win0_4.blk t).view.emb (ix2 k l : S1024x128.Idx) = (ix2 k l : S1024x128.Idx) := by blk_ext [idx t]
  have e' : iblk m c 4 t (ix2 k l) = V m c main_v16 (ix2 k l) := congrArg (V m c main_v16) e
  rw [e', V16_eq]
  refine (show _ = colsW _ (ix2 k l) from rfl).trans ((colsW_apply _ k l).trans ?_)
  by_cases h : l.val < 16
  · rw [dif_pos h, dif_pos h]
    refine Eq.trans (b := partW (m ((c : Thread nD τ).loc main_arg1)) (ix2 k ⟨1024 + l.val, by omega⟩)) (by pointwise) ?_
    refine Eq.trans (b := (m ((c : Thread nD τ).loc main_arg1) : FVec Ideal S1024x3216 .f32) (ix2 k ⟨1664 + (1024 + l.val), by omega⟩)) (by pointwise [partW]) (congrArg (m ((c : Thread nD τ).loc main_arg1) : FVec Ideal S1024x3216 .f32) ?_)
    exact congrArg (ix2 k) (Fin.ext (by show 1664 + (1024 + l.val) = 2688 + l.val; omega))
  · rw [dif_neg h, dif_neg h]

/-- The decay gate's second matrix, where its lanes are a head's. -/
theorem blk6 (k : Fin 16) (l : Fin 512) (h : l.val % 128 < 64) : iblk m c 6 t (ix2 ⟨k.val, by omega⟩ l)
    = (m ((c : Thread nD τ).loc main_arg2) : FVec Ideal S16x256 .f32) (ix2 k ⟨l.val / 128 * 64 + l.val % 128, by omega⟩) := by
  have e : (win0_6.blk t).view.emb (ix2 ⟨k.val, by omega⟩ l : S128x512.Idx) = (ix2 ⟨k.val, by omega⟩ l : S128x512.Idx) := by blk_ext [idx t]
  have e' : iblk m c 6 t (ix2 ⟨k.val, by omega⟩ l) = V m c main_v22 (ix2 ⟨k.val, by omega⟩ l) := congrArg (V m c main_v22) e
  rw [e', V22_eq]
  exact (show _ = rowsG _ (ix2 ⟨k.val, by omega⟩ l) from rfl).trans ((rowsG_apply _ k l).trans (headsG_apply _ k l h))

/-- The decay gate's bias, where its lanes are a head's. -/
theorem blk7 (l : Fin 512) (h : l.val % 128 < 64) : iblk m c 7 t (ix2 0 l)
    = (m ((c : Thread nD τ).loc main_arg3) : FVec Ideal S256 .f32) (ix1 ⟨l.val / 128 * 64 + l.val % 128, by omega⟩) := by
  have e : (win0_7.blk t).view.emb (ix2 0 l : S1x512.Idx) = (ix2 0 l : S1x512.Idx) := by blk_ext [idx t]
  have e' : iblk m c 7 t (ix2 0 l) = V m c main_v26 (ix2 0 l) := congrArg (V m c main_v26) e
  rw [e', V26_eq]
  refine Eq.trans ?_ (headsB_apply _ l h)
  generalize headsB _ = y
  pointwise

/-- The normalisation's weight. -/
theorem blk8 (l : Fin 512) : iblk m c 8 t (ix2 0 l)
    = (m ((c : Thread nD τ).loc main_arg4) : FVec Ideal S512 .f32) (ix1 l) := by
  have e : (win0_8.blk t).view.emb (ix2 0 l : S1x512.Idx) = (ix2 0 l : S1x512.Idx) := by blk_ext [idx t]
  have e' : iblk m c 8 t (ix2 0 l) = V m c main_v27 (ix2 0 l) := congrArg (V m c main_v27) e
  rw [e', V27_eq]
  pointwise

end Cert.GlaIdeal.KerValue

end
-- ==== Proof.GlaKer.lean ====
/- The gated linear attention kernel: its result, by index, in terms of the mathematics. -/
module

public import proofs.«01_k».proof.Proof.GlaRead

@[expose] public section

set_option maxRecDepth 16384

noncomputable section

namespace Cert.GlaIdeal.KerValue

open Cert.GlaIdeal Cert.GlaIdeal.Gen Cert.GlaIdeal.Value Idealize.ShloMosaic Idealize.ShloMosaic.TcCoe Idealize.SL.Sem

theorem sixteen : Ideal.ofBits .f32 0x41800000#32 = ((16 : ℝ) : EReal) := by
  simp [Ideal.ofBits, Ideal.ieee]
  rw [← EReal.coe_mul]
  norm_num

/-- The decay's logarithm is below infinity. -/
theorem logA_ne_top (z : EReal) : GlaSpec.logA z ≠ ⊤ := by
  unfold GlaSpec.logA
  rw [sixteen, Ideal.div_coe (by norm_num), EReal.neg_mul]
  have h : (0 : EReal) ≤ RgSpec.soft z * ((1 / 16 : ℝ) : EReal) := mul_nonneg (RgSpec.soft_nonneg z) (EReal.coe_nonneg.mpr (by norm_num))
  intro e
  rw [EReal.neg_eq_top_iff] at e
  rw [e] at h
  exact absurd h (by simp)

/-- A sum over 128 terms of which all but the first sixteen vanish. -/
theorem sum_sixteen (f : Fin 128 → EReal) (h : ∀ j : Fin 128, 16 ≤ j.val → f j = 0) : ∑ j : Fin 128, f j = ∑ j : Fin 16, f ⟨j.val, by omega⟩ := by
  refine (Fin.sum_univ_add (a := 16) (b := 112) f).trans ?_
  rw [Finset.sum_eq_zero (s := Finset.univ) (f := fun i : Fin 112 => f (Fin.natAdd 16 i)) fun i _ => h _ (by show 16 ≤ 16 + i.val; omega), add_zero]
  rfl

variable (m : (ℓ : Loc nD τ sig) → Buf (Elt Ideal) ℓ) (c : Dev nD)

/-- A batch row's columns of the input product, along time. -/
def colOf (x : FVec Ideal S16x4096x1024 .f32) (w : FVec Ideal S1024x3216 .f32) (b : Fin 16) (t : ℕ) (l : Fin 3216) : EReal :=
  if h : t < 4096 then ∑ k : Fin 1024, x (ix3 b ⟨t, h⟩ k) * w (ix2 k l) else 0

/-- What one batch row's call reads, from the argument arrays. -/
def par (b : Fin 16) : GlaSpec.Par where
  col := colOf (m ((c : Thread nD τ).loc main_arg0)) (m ((c : Thread nD τ).loc main_arg1)) b
  gB := fun j l => (m ((c : Thread nD τ).loc main_arg2) : FVec Ideal S16x256 .f32) (ix2 j l)
  gb := fun l => (m ((c : Thread nD τ).loc main_arg3) : FVec Ideal S256 .f32) (ix1 l)
  ng := fun l => (m ((c : Thread nD τ).loc main_arg4) : FVec Ideal S512 .f32) (ix1 l)

section Point

variable (t : Fin cfg0.N)

/-- A point's batch row. -/
def bOf : Fin 16 := ⟨t.val / 16, by have := t.isLt; have : cfg0.N = 256 := N_0; omega⟩

/-- A point's first row. -/
def sOf : ℕ := t.val % 16 * 256

theorem col_congr (p : GlaSpec.Par) {T T' : ℕ} {L L' : Fin 3216} (hT : T = T') (hL : L.val = L'.val) : p.col T L = p.col T' L' := by
  rw [hT, Fin.ext hL]

section Products

variable (x : FVec Ideal S1x256x1024 .f32) (X : FVec Ideal S16x4096x1024 .f32) (W : FVec Ideal S1024x3216 .f32) (b : Fin 16) (T : ℕ) (hT : T < 4096) (r : Fin 256)
  (hx : ∀ k : Fin 1024, x (ix3 0 r k) = X (ix3 b ⟨T, hT⟩ k))

include hx

/-- The product of a row of the input with a matrix's column that is one of the input matrix's. -/
theorem dot_of (w : FVec Ideal S1024x512 .bf16) (l : Fin 512) (L : Fin 3216) (hw : ∀ k : Fin 1024, w (ix2 k l) = W (ix2 k L)) :
    ∑ k : Fin 1024, x (ix3 0 r k) * w (ix2 k l) = colOf X W b T L := by
  unfold colOf
  rw [dif_pos hT]
  refine Finset.sum_congr rfl fun k _ => ?_
  rw [hx, hw]

/-- The decay's logarithm, from the padded matrices. -/
theorem la_of (p : GlaSpec.Par) (hp : p.col = colOf X W b) (wd : FVec Ideal S1024x128 .bf16) (gB : FVec Ideal S128x512 .bf16) (gb : FVec Ideal S1x512 .f32) (l : Fin 512) (L : Fin 256)
    (hw : ∀ (k : Fin 1024) (j : Fin 128), wd (ix2 k j) = if h : j.val < 16 then W (ix2 k ⟨2688 + j.val, by omega⟩) else 0)
    (hB : ∀ j : Fin 16, gB (ix2 ⟨j.val, by omega⟩ l) = p.gB j L) (hb : gb (ix2 0 l) = p.gb L) :
    k0_pay35 (k0_pay28 (F := Ideal) x) wd gB gb (ix2 r l) = p.la T L := by
  rw [pay35_apply]
  unfold GlaSpec.Par.la
  rw [hb]
  refine congrArg GlaSpec.logA (congrArg (fun q : EReal => q + _) ?_)
  refine (sum_sixteen _ fun j hj => ?_).trans (Finset.sum_congr rfl fun j _ => ?_)
  · refine (congrArg (fun q : EReal => q * _) (Finset.sum_eq_zero fun k _ => ?_)).trans (zero_mul _)
    rw [hw, dif_neg (by omega), mul_zero]
  · rw [hB, hp]
    refine congrArg (fun q : EReal => q * _) ?_
    unfold colOf
    rw [dif_pos hT]
    refine Finset.sum_congr rfl fun k _ => ?_
    rw [hx, hw, dif_pos j.isLt]

end Products

/-- The product of a row with a column of zeros. -/
theorem dot_zero (x : FVec Ideal S1x256x1024 .f32) (w : FVec Ideal S1024x512 .bf16) (r : Fin 256) (l : Fin 512) (hw : ∀ k : Fin 1024, w (ix2 k l) = 0) :
    ∑ k : Fin 1024, x (ix3 0 r k) * w (ix2 k l) = 0 := by
  refine Finset.sum_eq_zero fun k _ => ?_
  rw [hw, mul_zero]

theorem row_lt (r : Fin 256) : sOf t + r.val < 4096 := by
  have hr := r.isLt
  unfold sOf
  omega

theorem qB_apply (r : Fin 256) (l : Fin 512) : qB m c t (ix2 r l)
    = if h : l.val % 128 < 64 then (par m c (bOf t)).col (sOf t + r.val) ⟨1664 + (l.val / 128 * 64 + l.val % 128), by omega⟩ * Ideal.ofBits .f32 0x3E000000#32 else 0 := by
  refine (pay29_apply (iblk m c 0 t) (iblk m c 1 t) r l).trans ?_
  by_cases h : l.val % 128 < 64
  · rw [dif_pos h]
    exact congrArg (fun q : EReal => q * _) (dot_of (iblk m c 0 t) _ _ (bOf t) _ (row_lt t r) r (blk0 m c t r) (iblk m c 1 t) l _ fun k => (blk1 m c t k l).trans (dif_pos h))
  · rw [dif_neg h]
    exact (congrArg (fun q : EReal => q * _) (dot_zero (iblk m c 0 t) (iblk m c 1 t) r l fun k => (blk1 m c t k l).trans (dif_neg h))).trans (zero_mul _)

theorem kB_apply (r : Fin 256) (l : Fin 512) : kB m c t (ix2 r l)
    = if h : l.val % 128 < 64 then (par m c (bOf t)).col (sOf t + r.val) ⟨1920 + (l.val / 128 * 64 + l.val % 128), by omega⟩ else 0 := by
  refine (pay30_apply (iblk m c 0 t) (iblk m c 2 t) r l).trans ?_
  by_cases h : l.val % 128 < 64
  · rw [dif_pos h]
    exact dot_of (iblk m c 0 t) _ _ (bOf t) _ (row_lt t r) r (blk0 m c t r) (iblk m c 2 t) l _ fun k => (blk2 m c t k l).trans (dif_pos h)
  · rw [dif_neg h]
    exact dot_zero (iblk m c 0 t) (iblk m c 2 t) r l fun k => (blk2 m c t k l).trans (dif_neg h)

theorem vB_apply (r : Fin 256) (l : Fin 512) : vB m c t (ix2 r l) = (par m c (bOf t)).col (sOf t + r.val) ⟨2176 + l.val, by omega⟩ :=
  (pay31_apply (iblk m c 0 t) (iblk m c 3 t) r l).trans
    (dot_of (iblk m c 0 t) _ _ (bOf t) _ (row_lt t r) r (blk0 m c t r) (iblk m c 3 t) l _ fun k => blk3 m c t k l)

theorem oB_apply (r : Fin 256) (l : Fin 512) : oB m c t (ix2 r l) = GlaSpec.silu ((par m c (bOf t)).col (sOf t + r.val) ⟨2704 + l.val, by omega⟩) :=
  (pay34_apply (iblk m c 0 t) (iblk m c 5 t) r l).trans (congrArg GlaSpec.silu
    (dot_of (iblk m c 0 t) _ _ (bOf t) _ (row_lt t r) r (blk0 m c t r) (iblk m c 5 t) l _ fun k => blk5 m c t k l))

/-- The decay's logarithm at a point's row. -/
theorem la_apply (r : Fin 256) (l : Fin 512) (h : l.val % 128 < 64) :
    k0_pay35 (k0_pay28 (F := Ideal) (iblk m c 0 t)) (iblk m c 4 t) (iblk m c 6 t) (iblk m c 7 t) (ix2 r l)
      = (par m c (bOf t)).la (sOf t + r.val) ⟨l.val / 128 * 64 + l.val % 128, by omega⟩ :=
  la_of (iblk m c 0 t) (m ((c : Thread nD τ).loc main_arg0)) (m ((c : Thread nD τ).loc main_arg1)) (bOf t) _ (row_lt t r) r (blk0 m c t r) (par m c (bOf t)) rfl
    (iblk m c 4 t) (iblk m c 6 t) (iblk m c 7 t) l _ (blk4 m c t) (fun j => blk6 m c t j l h) (blk7 m c t l h)

/-- The summed decay at a point's row. -/
theorem cB_apply (r : Fin 256) (l : Fin 512) (h : l.val % 128 < 64) : cB m c t (ix2 r l)
    = ∑ j : Fin 64, if j.val ≤ r.val % 64 then (par m c (bOf t)).la (sOf t + (r.val / 64 * 64 + j.val)) ⟨l.val / 128 * 64 + l.val % 128, by omega⟩ else 0 := by
  refine (pay1_apply r l _ fun s => ?_).trans ?_
  · rw [la_apply m c t s l h]
    exact logA_ne_top _
  · refine Eq.trans ?_ (sum_chunk r fun s => (par m c (bOf t)).la (sOf t + s) ⟨l.val / 128 * 64 + l.val % 128, by omega⟩)
    refine Finset.sum_congr rfl fun s _ => ?_
    rw [la_apply m c t s l h]

section Chunk

variable (n h : Fin 4)

/-- A chunk's number within its batch row. -/
def nOf : ℕ := t.val % 16 * 4 + n.val

theorem row_eq (i : Fin 64) : sOf t + (64 * n.val + i.val) = nOf t n * 64 + i.val := by
  unfold sOf nOf
  omega

theorem tile_at (x : FVec Ideal S256x512 .f32) (i : Fin 64) (e : Fin 128) :
    tile x n.val h.val (ix2 i e) = x (ix2 ⟨64 * n.val + i.val, by omega⟩ ⟨128 * h.val + e.val, by omega⟩) := by
  unfold tile
  rw [dif_pos ⟨n.isLt, h.isLt⟩]
  rfl

theorem tile_q (i : Fin 64) (d : Fin 128) : tile (qB m c t) n.val h.val (ix2 i d)
    = if hd : d.val < 64 then (par m c (bOf t)).q h (nOf t n) i ⟨d.val, hd⟩ else 0 := by
  rw [tile_at, qB_apply]
  have e : (128 * h.val + d.val) % 128 = d.val := by omega
  by_cases hd : d.val < 64
  · rw [dif_pos hd, dif_pos (by show (128 * h.val + d.val) % 128 < 64; omega)]
    refine congrArg (fun q : EReal => q * _) (col_congr _ (row_eq t n i) ?_)
    show 1664 + ((128 * h.val + d.val) / 128 * 64 + (128 * h.val + d.val) % 128) = 1664 + (h.val * 64 + d.val)
    omega
  · rw [dif_neg hd, dif_neg (by show ¬ (128 * h.val + d.val) % 128 < 64; omega)]

theorem tile_k (i : Fin 64) (d : Fin 128) : tile (kB m c t) n.val h.val (ix2 i d)
    = if hd : d.val < 64 then (par m c (bOf t)).k h (nOf t n) i ⟨d.val, hd⟩ else 0 := by
  rw [tile_at, kB_apply]
  have e : (128 * h.val + d.val) % 128 = d.val := by omega
  by_cases hd : d.val < 64
  · rw [dif_pos hd, dif_pos (by show (128 * h.val + d.val) % 128 < 64; omega)]
    refine col_congr _ (row_eq t n i) ?_
    show 1920 + ((128 * h.val + d.val) / 128 * 64 + (128 * h.val + d.val) % 128) = 1920 + (h.val * 64 + d.val)
    omega
  · rw [dif_neg hd, dif_neg (by show ¬ (128 * h.val + d.val) % 128 < 64; omega)]

theorem tile_v (i : Fin 64) (e : Fin 128) : tile (vB m c t) n.val h.val (ix2 i e) = (par m c (bOf t)).v h (nOf t n) i e := by
  rw [tile_at, vB_apply]
  refine col_congr _ (row_eq t n i) ?_
  show 2176 + (128 * h.val + e.val) = 2176 + (h.val * 128 + e.val)
  omega

theorem tile_o (i : Fin 64) (e : Fin 128) : tile (oB m c t) n.val h.val (ix2 i e)
    = GlaSpec.silu ((par m c (bOf t)).col (nOf t n * 64 + i.val) ⟨2704 + (h.val * 128 + e.val), by omega⟩) := by
  rw [tile_at, oB_apply]
  refine congrArg GlaSpec.silu (col_congr _ (row_eq t n i) ?_)
  show 2704 + (128 * h.val + e.val) = 2704 + (h.val * 128 + e.val)
  omega

theorem tile_c (i d : Fin 64) : tile (cB m c t) n.val h.val (ix2 i ⟨d.val, by omega⟩) = (par m c (bOf t)).c h (nOf t n) i d := by
  rw [tile_at, cB_apply _ _ _ _ _ (by show (128 * h.val + d.val) % 128 < 64; omega)]
  unfold GlaSpec.Par.c GlaSpec.cum
  refine Finset.sum_congr rfl fun j _ => ?_
  have hj := j.isLt
  have hi := i.isLt
  have e1 : (64 * n.val + i.val) % 64 = i.val := by omega
  have e2 : sOf t + ((64 * n.val + i.val) / 64 * 64 + j.val) = nOf t n * 64 + j.val := by
    unfold sOf nOf
    omega
  have e3 : (⟨(128 * h.val + d.val) / 128 * 64 + (128 * h.val + d.val) % 128, by omega⟩ : Fin 256) = ⟨h.val * 64 + d.val, by omega⟩ :=
    Fin.ext (by show (128 * h.val + d.val) / 128 * 64 + (128 * h.val + d.val) % 128 = h.val * 64 + d.val; omega)
  dsimp only
  rw [e1, e2, e3]
  rfl

theorem lane_apply (e : Fin 128) : lane (iblk m c 8 t) h.val (ix2 0 e) = (par m c (bOf t)).ng ⟨h.val * 128 + e.val, by omega⟩ := by
  unfold lane
  rw [dif_pos h.isLt]
  refine (blk8 m c t ⟨128 * h.val + e.val, by omega⟩).trans ?_
  unfold par
  dsimp only
  exact congrArg (fun q : Fin 512 => (m ((c : Thread nD τ).loc main_arg4) : FVec Ideal S512 .f32) (ix1 q)) (Fin.ext (by show 128 * h.val + e.val = h.val * 128 + e.val; omega))

/-- The kernel's state before a chunk: the mathematics' state, transposed, with a zero upper half. -/
def Holds (p : GlaSpec.Par) (N : ℕ) (S : FVec Ideal S4x128x128 .f32) : Prop :=
  ∀ (h : Fin 4) (e d : Fin 128), S (ix3 h e d) = if hd : d.val < 64 then p.st h N ⟨d.val, hd⟩ e else 0

variable {S : FVec Ideal S4x128x128 .f32}

theorem slab_apply (e d : Fin 128) : slab S h.val (ix3 0 e d) = S (ix3 h e d) := by
  unfold slab
  rw [dif_pos h.isLt]
  rfl

/-- A chunk keeps what is said of the state. -/
theorem step_holds (hS : Holds (par m c (bOf t)) (nOf t n) S) : Holds (par m c (bOf t)) (nOf t n + 1) (stepS (cB m c t) (kB m c t) (vB m c t) S n.val) := by
  intro h e d
  unfold stepS
  refine (nextH_apply _ _ _ _ e d).trans ?_
  have hv : (fun (i : Fin 64) (e : Fin 128) => tile (vB m c t) n.val h.val (ix2 i e)) = (par m c (bOf t)).v h (nOf t n) :=
    funext fun i => funext fun e => tile_v m c t n h i e
  refine (congrArg (fun v => GlaSpec.next _ _ v _ d e) hv).trans ?_
  exact GlaSpec.next_half (tile_k m c t n h) (fun i d => tile_c m c t n h i d) (fun d e => (slab_apply h e d).trans (hS h e d)) d e

/-- So do a block's first chunks. -/
theorem run_holds {N : ℕ} (hN : N = t.val % 16 * 4) (hS : Holds (par m c (bOf t)) N S) (k : ℕ) (hk : k ≤ 4) :
    Holds (par m c (bOf t)) (N + k) (runS (cB m c t) (kB m c t) (vB m c t) S k) := by
  induction k with
  | zero => exact hS
  | succ k ih =>
    have e : N + k = nOf t ⟨k, by omega⟩ := by
      rw [hN]
      rfl
    have H := ih (by omega)
    rw [e] at H
    have H' := step_holds m c t ⟨k, by omega⟩ H
    rw [← e] at H'
    exact H'

/-- What a chunk leaves in the result. -/
theorem chunk_apply (hS : Holds (par m c (bOf t)) (nOf t n) S) (i : Fin 64) (e : Fin 128) :
    chunkO (cB m c t) (qB m c t) (kB m c t) (vB m c t) (oB m c t) (iblk m c 8 t) S n.val h.val (ix3 0 i e) = (par m c (bOf t)).y h (nOf t n) i e := by
  unfold chunkO
  refine (outH_apply _ _ _ _ _ _ _ i e).trans ?_
  have ho : (fun e : Fin 128 => oH (tile (cB m c t) n.val h.val) (tile (qB m c t) n.val h.val) (tile (kB m c t) n.val h.val) (tile (vB m c t) n.val h.val) (slab S h.val) (ix2 i e))
      = (par m c (bOf t)).o h (nOf t n) i := by
    funext e
    refine (oH_apply _ _ _ _ _ i e).trans ?_
    have hv : (fun (i : Fin 64) (e : Fin 128) => tile (vB m c t) n.val h.val (ix2 i e)) = (par m c (bOf t)).v h (nOf t n) :=
      funext fun i => funext fun e => tile_v m c t n h i e
    refine (congrArg (fun v => GlaSpec.out _ _ _ v _ i e) hv).trans ?_
    exact GlaSpec.out_half (tile_q m c t n h) (tile_k m c t n h) (fun i d => tile_c m c t n h i d)
      (fun d e => ((slab_apply h e _).trans (hS h e _)).trans (dif_pos d.isLt)) i e
  rw [ho, tile_o, lane_apply]
  unfold GlaSpec.Par.y GlaSpec.Par.gate
  rw [mul_assoc]
  exact congrArg (fun q : EReal => _ * q) (mul_comm _ _)

end Chunk

/-- What a grid point leaves: its rows of the result, and the state. -/
structure Left (st : Vec Ideal S1x256x512 .bf16 × Vec Ideal S4x128x128 .f32) : Prop where
  out : ∀ (r : Fin 256) (l : Fin 512), st.1 (ix3 0 r l)
    = (par m c (bOf t)).y ⟨l.val / 128, by omega⟩ (t.val % 16 * 4 + r.val / 64) ⟨r.val % 64, by omega⟩ ⟨l.val % 128, by omega⟩
  state : Holds (par m c (bOf t)) (t.val % 16 * 4 + 4) st.2

theorem left_of (st : Vec Ideal S1x256x512 .bf16 × Vec Ideal S4x128x128 .f32) (S : FVec Ideal S4x128x128 .f32) (hS : Holds (par m c (bOf t)) (t.val % 16 * 4) S)
    (ho : ∀ r l, st.1 (ix3 0 r l) = rowO m c t S r l) (hs : st.2 = endS m c t S) : Left m c t st where
  out := fun r l => by
    have hr := r.isLt
    have hl := l.isLt
    rw [ho]
    exact chunk_apply m c t ⟨r.val / 64, by omega⟩ ⟨l.val / 128, by omega⟩ (run_holds m c t rfl hS (r.val / 64) (by omega)) _ _
  state := by
    rw [hs]
    exact run_holds m c t rfl hS 4 le_rfl

/-- A batch row's first point leaves its block of the result. -/
theorem left_first (h0 : t.val % 16 = 0) (acc : Vec Ideal S1x256x512 .bf16 × Vec Ideal S4x128x128 .f32) : Left m c t (stAt0 m c t.val t.isLt acc) := by
  refine left_of m c t _ k0_pay27 ?_ (fun r l => pointA_o m c t h0 acc r l) (pointA_s m c t h0 acc)
  intro h e d
  rw [h0]
  refine Eq.trans (b := (0 : EReal)) (by pointwise [k0_pay27]) ?_
  split
  · rfl
  · rfl

end Point

/-- Every point leaves its block of the result. -/
theorem left (n : ℕ) (hn : n < cfg0.N) : Left m c ⟨n, hn⟩ (outsAt0 m c n hn) := by
  induction n with
  | zero =>
    rw [outsAt0_zero]
    exact left_first m c ⟨0, hn⟩ rfl _
  | succ n ih =>
    rw [outsAt0_succ]
    have hn' : n < cfg0.N := Nat.lt_of_succ_lt hn
    by_cases h0 : (n + 1) % 16 = 0
    · exact left_first m c ⟨n + 1, hn⟩ h0 _
    · have hb : bOf ⟨n, hn'⟩ = bOf ⟨n + 1, hn⟩ := Fin.ext (by show n / 16 = (n + 1) / 16; omega)
      have hs : n % 16 * 4 + 4 = (n + 1) % 16 * 4 := by omega
      refine left_of m c ⟨n + 1, hn⟩ _ _ ?_ (fun r l => pointB_o m c ⟨n + 1, hn⟩ h0 _ r l) (pointB_s m c ⟨n + 1, hn⟩ h0 _)
      have H := (ih hn').state
      dsimp only at H
      rw [hb, hs] at H
      exact H

/-- The result array at an index. -/
theorem out_apply (b : Fin 16) (t : Fin 4096) (l : Fin 512) :
    (G9 m c : FVec Ideal S16x4096x512 .bf16) (ix3 b t l)
      = (par m c b).y ⟨l.val / 128, by omega⟩ (t.val / 64) ⟨t.val % 64, by omega⟩ ⟨l.val % 128, by omega⟩ := by
  have hl := l.isLt
  have ht := t.isLt
  have hb := b.isLt
  have e : pt9Of (ix3 b t l) = b.val * 16 + t.val / 256 := by
    show 16 * (b.val / 1 - 0) + 1 * (t.val / 256 - 0) + 1 * (l.val / 512 - 0) = _
    omega
  have h : pt9Of (ix3 b t l) < cfg0.N := by
    have : cfg0.N = 256 := N_0
    omega
  unfold G9
  rw [dif_pos h, ← outsAt0_sweep m c _ h]
  have L := (left m c _ h).out ⟨t.val % 256, by omega⟩ l
  have el : loc9Of (ix3 b t l) = (ix3 0 ⟨t.val % 256, by omega⟩ l : S1x256x512.Idx) := by
    funext a
    refine Fin.ext ?_
    fin_cases a
    · show b.val % 1 = 0
      omega
    · rfl
    · show l.val % 512 = l.val
      omega
  rw [el]
  refine L.trans ?_
  have e1 : bOf ⟨pt9Of (ix3 b t l), h⟩ = b := Fin.ext (by show pt9Of (ix3 b t l) / 16 = b.val; omega)
  have e2 : pt9Of (ix3 b t l) % 16 * 4 + t.val % 256 / 64 = t.val / 64 := by omega
  have e3 : (⟨t.val % 256 % 64, by omega⟩ : Fin 64) = ⟨t.val % 64, by omega⟩ := Fin.ext (by show t.val % 256 % 64 = t.val % 64; omega)
  rw [e1]
  dsimp only
  rw [e2, e3]

end Cert.GlaIdeal.KerValue

end
-- ==== Proof.GlaRef.lean ====
/- The gated linear attention call's reference before its loop, read at an index. -/
module

public import Idealize.ShloMosaic.Lib.Pointwise
public import Idealize.ShloMosaic.Lib.Pipeline.ValueKit
public import Idealize.ShloMosaic.Lib.Claim
public import Idealize.ShloMosaic.Lib.KernelVsHost
public import proofs.«01_k».proof.Proof.Gen.GlaRefIdeal.Run
public import proofs.«01_k».proof.Proof.GlaSpec

@[expose] public section

set_option maxRecDepth 16384

noncomputable section

namespace Cert.GlaRefIdeal.RefValue

open Cert.GlaRefIdeal Cert.GlaRefIdeal.Gen Idealize.ShloMosaic Idealize.ShloMosaic.TcCoe Idealize.SL.Sem Idealize.ShloMosaic.StableHlo

/-- The call's columns of the input product. -/
def partS (x : FVec Ideal S16x4096x1024 .f32) (w : FVec Ideal S1024x3216 .f32) : FVec Ideal S16x4096x1552 .f32 :=
  extractStridedSlice S16x4096x1552 ![0, 0, 1664]
    (Host.dotGeneral dot_S16x4096x1024_S1024x3216_S16x4096x3216_2_0_01_1_n_n none x w : FVec Ideal S16x4096x3216 .f32)
    slices_S16x4096x3216_S16x4096x1552_0_0_1664

/-- A decay or key array by head. -/
def headS (r : FVec Ideal S16x4096x256 .f32) : FVec Ideal S16x4096x4x64 .f32 := shapeCast S16x4096x4x64 r shapeCasts_S16x4096x256_S16x4096x4x64

/-- An array of four heads of 64 lanes, by chunk. -/
def chunkS (r : FVec Ideal S16x4096x4x64 .f32) : FVec Ideal S64x16x4x64x64 .f32 :=
  transpose S64x16x4x64x64 [0, 1, 3, 2, 4] (transpose S64x16x64x4x64 [1, 0, 2, 3, 4]
    (shapeCast S16x64x64x4x64 r shapeCasts_S16x4096x4x64_S16x64x64x4x64)
    transposes_S16x64x64x4x64_S64x16x64x4x64_1_0_2_3_4) transposes_S64x16x64x4x64_S64x16x4x64x64_0_1_3_2_4

/-- An array of four heads of 128 lanes, by chunk. -/
def chunkV (r : FVec Ideal S16x4096x512 .f32) : FVec Ideal S64x16x4x64x128 .f32 :=
  transpose S64x16x4x64x128 [0, 1, 3, 2, 4] (transpose S64x16x64x4x128 [1, 0, 2, 3, 4]
    (shapeCast S16x64x64x4x128 (shapeCast S16x4096x4x128 r shapeCasts_S16x4096x512_S16x4096x4x128) shapeCasts_S16x4096x4x128_S16x64x64x4x128)
    transposes_S16x64x64x4x128_S64x16x64x4x128_1_0_2_3_4) transposes_S64x16x64x4x128_S64x16x4x64x128_0_1_3_2_4

/-- The queries, scaled. -/
def scaleS (r : FVec Ideal S16x4096x4x64 .f32) : FVec Ideal S16x4096x4x64 .f32 :=
  mulf r (broadcastInDim S16x4096x4x64 ![] bcast_S_S16x4096x4x64 (constant S_ .f32 0x3E000000#32))

/-- The decay gate's argument. -/
def gateS (g : FVec Ideal S16x4096x16 .f32) (gB : FVec Ideal S16x256 .f32) (gb : FVec Ideal S256 .f32) : FVec Ideal S16x4096x256 .f32 :=
  addf (Host.dotGeneral dot_S16x4096x16_S16x256_S16x4096x256_2_0_01_1_n_n none g gB)
    (broadcastInDim S16x4096x256 ![0, 1, 2] bcast_S1x1x256_S16x4096x256_0_1_2 (broadcastInDim S1x1x256 ![2] bcast_S256_S1x1x256_2 gb))

/-- Softplus, as the host spells it. -/
def softS (v : FVec Ideal S16x4096x256 .f32) : FVec Ideal S16x4096x256 .f32 :=
  select (cmpf .une (subf v (broadcastInDim S16x4096x256 ![] bcast_S_S16x4096x256 (constant S_ .f32 0x00000000#32)))
      (subf v (broadcastInDim S16x4096x256 ![] bcast_S_S16x4096x256 (constant S_ .f32 0x00000000#32))))
    (addf v (broadcastInDim S16x4096x256 ![] bcast_S_S16x4096x256 (constant S_ .f32 0x00000000#32)))
    (addf (maximumf v (broadcastInDim S16x4096x256 ![] bcast_S_S16x4096x256 (constant S_ .f32 0x00000000#32)))
      (Host.log1p (Host.exp (Host.negf (Host.absf (subf v (broadcastInDim S16x4096x256 ![] bcast_S_S16x4096x256 (constant S_ .f32 0x00000000#32))))))))

/-- The logarithm of the decay. -/
def logS (z : FVec Ideal S16x4096x256 .f32) : FVec Ideal S16x4096x256 .f32 :=
  Host.divf (Host.negf (softS (Host.negf z))) (broadcastInDim S16x4096x256 ![] bcast_S_S16x4096x256 (constant S_ .f32 0x41800000#32))

/-- The output gate with the normalisation's weight. -/
def siluS (g : FVec Ideal S16x4096x512 .f32) (w : FVec Ideal S512 .f32) : FVec Ideal S16x4096x512 .f32 :=
  mulf (mulf g (Host.divf (broadcastInDim S16x4096x512 ![] bcast_S_S16x4096x512 (constant S_ .f32 0x3F800000#32))
      (addf (broadcastInDim S16x4096x512 ![] bcast_S_S16x4096x512 (constant S_ .f32 0x3F800000#32)) (Host.exp (Host.negf g)))))
    (broadcastInDim S16x4096x512 ![0, 1, 2] bcast_S1x1x512_S16x4096x512_0_1_2 (broadcastInDim S1x1x512 ![2] bcast_S512_S1x1x512_2 w))

variable (m : (ℓ : Loc nD τ sig) → Buf (Elt Ideal) ℓ) (c : Dev nD)

/-- The call's columns of its input product. -/
def pS : FVec Ideal S16x4096x1552 .f32 := partS (m ((c.tc : Thread nD τ).loc main_arg0)) (m ((c.tc : Thread nD τ).loc main_arg1))

set_option maxHeartbeats 2000000 in
set_option maxRecDepth 65536 in
/-- At the loop's entry: the queries by chunk. -/
theorem entry_q : entryContents Value.preI m c (Proc.devRef .tc main_v42_0) = chunkS (scaleS (headS
    (extractStridedSlice S16x4096x256 ![0, 0, 0] (pS m c) slices_S16x4096x1552_S16x4096x256_0_0_0))) := by
  simp only [entryContents, afterL_cons, afterL_nil]; after_reads_simp; rfl

set_option maxHeartbeats 2000000 in
set_option maxRecDepth 65536 in
/-- At the loop's entry: the keys by chunk. -/
theorem entry_k : entryContents Value.preI m c (Proc.devRef .tc main_v42_1) = chunkS (headS
    (extractStridedSlice S16x4096x256 ![0, 0, 256] (pS m c) slices_S16x4096x1552_S16x4096x256_0_0_256)) := by
  simp only [entryContents, afterL_cons, afterL_nil]; after_reads_simp; rfl

set_option maxHeartbeats 2000000 in
set_option maxRecDepth 65536 in
/-- At the loop's entry: the values by chunk. -/
theorem entry_v : entryContents Value.preI m c (Proc.devRef .tc main_v42_2) = chunkV
    (extractStridedSlice S16x4096x512 ![0, 0, 512] (pS m c) slices_S16x4096x1552_S16x4096x512_0_0_512) := by
  simp only [entryContents, afterL_cons, afterL_nil]; after_reads_simp; rfl

set_option maxHeartbeats 2000000 in
set_option maxRecDepth 65536 in
/-- At the loop's entry: the decay's logarithm by chunk. -/
theorem entry_a : entryContents Value.preI m c (Proc.devRef .tc main_v42_3) = chunkS (headS (logS (gateS
    (extractStridedSlice S16x4096x16 ![0, 0, 1024] (pS m c) slices_S16x4096x1552_S16x4096x16_0_0_1024)
    (m ((c.tc : Thread nD τ).loc main_arg2)) (m ((c.tc : Thread nD τ).loc main_arg3))))) := by
  simp only [entryContents, afterL_cons, afterL_nil]; after_reads_simp; rfl

set_option maxHeartbeats 2000000 in
set_option maxRecDepth 65536 in
/-- At the loop's entry: the output gate by chunk. -/
theorem entry_g : entryContents Value.preI m c (Proc.devRef .tc main_v42_4) = chunkV (siluS
    (extractStridedSlice S16x4096x512 ![0, 0, 1040] (pS m c) slices_S16x4096x1552_S16x4096x512_0_0_1040)
    (m ((c.tc : Thread nD τ).loc main_arg4))) := by
  simp only [entryContents, afterL_cons, afterL_nil]; after_reads_simp; rfl

/-- At the loop's entry: the counter is zero. -/
theorem entry_n : entryContents Value.preI m c (Proc.devRef .tc main_v42_5) = constantI S_ 32 0#32 := by
  simp only [entryContents, afterL_cons, afterL_nil]; after_reads_simp; rfl

/-- At the loop's entry: the state is zero. -/
theorem entry_s : entryContents Value.preI m c (Proc.devRef .tc main_v42_6) =
    broadcastInDim S16x4x64x128 ![] bcast_S_S16x4x64x128 (constant (F := Ideal) S_ .f32 0x00000000#32) := by
  simp only [entryContents, afterL_cons, afterL_nil]; after_reads_simp; rfl

section Reads

variable (x : FVec Ideal S16x4096x1024 .f32) (w : FVec Ideal S1024x3216 .f32) (b : Fin 16) (t : Fin 4096) (n : Fin 64) (h : Fin 4) (i : Fin 64)

theorem partS_apply (l : Fin 1552) : partS x w (ix3 b t l) = ∑ k : Fin 1024, x (ix3 b t k) * w (ix2 k ⟨1664 + l.val, by omega⟩) := by
  pointwise [partS]

theorem chunkS_apply (r : FVec Ideal S16x4096x4x64 .f32) (d : Fin 64) :
    chunkS r (ix5 n b h i d) = r (ix4 b ⟨n.val * 64 + i.val, by omega⟩ h d) := by
  pointwise [chunkS]

theorem headS_apply (r : FVec Ideal S16x4096x256 .f32) (d : Fin 64) : headS r (ix4 b t h d) = r (ix3 b t ⟨h.val * 64 + d.val, by omega⟩) := by
  pointwise [headS]

theorem chunkV_apply (r : FVec Ideal S16x4096x512 .f32) (e : Fin 128) :
    chunkV r (ix5 n b h i e) = r (ix3 b ⟨n.val * 64 + i.val, by omega⟩ ⟨h.val * 128 + e.val, by omega⟩) := by
  pointwise [chunkV]

theorem scaleS_apply (r : FVec Ideal S16x4096x4x64 .f32) (d : Fin 64) :
    scaleS r (ix4 b t h d) = r (ix4 b t h d) * Ideal.ofBits .f32 0x3E000000#32 := by
  pointwise [scaleS]

theorem gateS_apply (g : FVec Ideal S16x4096x16 .f32) (gB : FVec Ideal S16x256 .f32) (gb : FVec Ideal S256 .f32) (l : Fin 256) :
    gateS g gB gb (ix3 b t l) = ∑ j : Fin 16, g (ix3 b t j) * gB (ix2 j l) + gb (ix1 l) := by
  pointwise [gateS]

theorem logS_apply (z : FVec Ideal S16x4096x256 .f32) (l : Fin 256) : logS z (ix3 b t l) = GlaSpec.logA (z (ix3 b t l)) := by
  pointwise [logS, softS]
  rw [if_neg (fun h => h rfl)]
  rfl

theorem siluS_apply (g : FVec Ideal S16x4096x512 .f32) (w : FVec Ideal S512 .f32) (l : Fin 512) :
    siluS g w (ix3 b t l) = GlaSpec.silu (g (ix3 b t l)) * w (ix1 l) := by
  pointwise [siluS]
  rfl

end Reads

end Cert.GlaRefIdeal.RefValue

end
-- ==== Proof.GlaRefStep.lean ====
/- One trip of the gated linear attention reference's loop, read at an index. -/
module

public import proofs.«01_k».proof.Proof.GlaRef

@[expose] public section

set_option maxRecDepth 16384

noncomputable section

namespace Cert.GlaRefIdeal.RefValue

open Cert.GlaRefIdeal Cert.GlaRefIdeal.Gen Idealize.ShloMosaic Idealize.ShloMosaic.TcCoe Idealize.SL.Sem Idealize.ShloMosaic.StableHlo

/-- Position `n` of a window one wide but along the rows. -/
theorem win_symm (n : Fin (⟨4, ![1, 1, 64, 1]⟩ : Shape).numel) (a : Fin 4) :
    ((⟨4, ![1, 1, 64, 1]⟩ : Shape).rowMajor.symm n a).val = (![0, 0, n.val, 0] : Fin 4 → ℕ) a := by
  revert n a
  decide +kernel

/-- The position of a window that holds row `j`, for the running sum at row `i`, is `j + 63 - i`; the earlier ones are padding. -/
theorem sum_win (f : Fin 64 → EReal) (i : Fin 64) :
    ∑ n : Fin 64, (if h : 63 ≤ i.val + n.val then f ⟨i.val + n.val - 63, by omega⟩ else 0) = ∑ j : Fin 64, if j ≤ i then f j else 0 := by
  have hi := i.isLt
  rw [← Finset.sum_filter, ← Finset.sum_filter_add_sum_filter_not Finset.univ (fun n : Fin 64 => 63 ≤ i.val + n.val),
    Finset.sum_eq_zero (s := Finset.univ.filter fun n : Fin 64 => ¬ 63 ≤ i.val + n.val) (fun n hn => dif_neg (Finset.mem_filter.mp hn).2), add_zero]
  refine Finset.sum_bij' (fun n hn => ⟨i.val + n.val - 63, by omega⟩) (fun j hj => ⟨j.val + 63 - i.val, ?_⟩) ?_ ?_ ?_ ?_ ?_
  · have := Fin.le_def.mp (Finset.mem_filter.mp hj).2
    omega
  · intro n hn
    exact Finset.mem_filter.mpr ⟨Finset.mem_univ _, Fin.le_def.mpr (by show i.val + n.val - 63 ≤ i.val; omega)⟩
  · intro j hj
    have := Fin.le_def.mp (Finset.mem_filter.mp hj).2
    exact Finset.mem_filter.mpr ⟨Finset.mem_univ _, by show 63 ≤ i.val + (j.val + 63 - i.val); omega⟩
  · intro n hn
    have := (Finset.mem_filter.mp hn).2
    exact Fin.ext (by show i.val + n.val - 63 + 63 - i.val = n.val; omega)
  · intro j hj
    have := Fin.le_def.mp (Finset.mem_filter.mp hj).2
    exact Fin.ext (by show i.val + (j.val + 63 - i.val) - 63 = j.val; omega)
  · intro n hn
    exact dif_pos (Finset.mem_filter.mp hn).2

/-- A running sum from zero over a list of positions. -/
theorem foldl_sum {ι : Type} (g : ι → EReal) : ∀ (l : List ι) (a : EReal), l.foldl (fun r n => r + g n) a = a + (l.map g).sum
  | [], a => (add_zero a).symm
  | n :: l, a => by rw [List.foldl_cons, foldl_sum g l, List.map_cons, List.sum_cons, add_assoc]

/-- The running sum along a chunk's rows. -/
theorem cumsum_apply (x : FVec Ideal S16x4x64x64 .f32) (b : Fin 16) (h : Fin 4) (i d : Fin 64) :
    (Host.reduceWindowAdd ![1, 1, 64, 1] ![1, 1, 1, 1] ![0, 0, 63, 0] ![0, 0, 0, 0] x
      (broadcastInDim S_ ![] bcast_S_S_ (constant (F := Ideal) S_ .f32 0x00000000#32))
      reduceWindows_S16x4x64x64_S16x4x64x64_w1s1p0_0_w1s1p0_0_w64s1p63_0_w1s1p0_0 h_S_ : FVec Ideal S16x4x64x64 .f32) (ix4 b h i d)
      = GlaSpec.cum (fun j d => x (ix4 b h j d)) i d := by
  have hz : (broadcastInDim S_ ![] bcast_S_S_ (constant (F := Ideal) S_ .f32 0x00000000#32) : FVec Ideal S_ .f32) (Shape.Idx.first h_S_) = 0 :=
    Ideal.ofBits_zero_f32
  have hN : (⟨4, ![1, 1, 64, 1]⟩ : Shape).numel = 64 := by decide
  have hi := i.isLt
  unfold GlaSpec.cum
  rw [← sum_win (fun j => x (ix4 b h j d)) i]
  show Host.reduceWindow (· + ·) ![1, 1, 64, 1] ![1, 1, 1, 1] ![0, 0, 63, 0] ![0, 0, 0, 0] x
    (fun _ : (⟨0, ![]⟩ : Shape).Idx => (broadcastInDim S_ ![] bcast_S_S_ (constant (F := Ideal) S_ .f32 0x00000000#32) : FVec Ideal S_ .f32) (Shape.Idx.first h_S_))
    reduceWindows_S16x4x64x64_S16x4x64x64_w1s1p0_0_w1s1p0_0_w64s1p63_0_w1s1p0_0 (by decide) (ix4 b h i d) = _
  rw [hz]
  unfold Host.reduceWindow
  dsimp only
  refine (foldl_sum _ _ _).trans ?_
  rw [zero_add, ← Fin.sum_univ_def]
  refine (Fintype.sum_equiv (finCongr hN) _ _ fun n => ?_)
  have hn : n.val < 64 := (finCongr hN n).isLt
  have key : ∀ a : Fin 4, ((ix4 b h i d : S16x4x64x64.Idx) a).val * (![1, 1, 1, 1] : Fin 4 → ℕ) a
      + ((⟨4, ![1, 1, 64, 1]⟩ : Shape).rowMajor.symm n a).val = (![b.val, h.val, i.val + n.val, d.val] : Fin 4 → ℕ) a := by
    intro a
    rw [win_symm]
    fin_cases a
    · show b.val * 1 + 0 = b.val
      omega
    · show h.val * 1 + 0 = h.val
      omega
    · show i.val * 1 + n.val = i.val + n.val
      omega
    · show d.val * 1 + 0 = d.val
      omega
  by_cases hle : 63 ≤ i.val + n.val
  · rw [dif_pos (show 63 ≤ i.val + (finCongr hN n).val from hle)]
    refine (dif_pos ?_).trans (congrArg x (funext fun a => Fin.ext ?_))
    · intro a
      refine (congrArg (fun p : ℕ => (![0, 0, 63, 0] : Fin 4 → ℕ) a ≤ p ∧ p - (![0, 0, 63, 0] : Fin 4 → ℕ) a < S16x4x64x64.size a) (key a)).mpr ?_
      fin_cases a
      · exact ⟨Nat.zero_le _, b.isLt⟩
      · exact ⟨Nat.zero_le _, h.isLt⟩
      · exact ⟨hle, by show i.val + n.val - 63 < 64; omega⟩
      · exact ⟨Nat.zero_le _, d.isLt⟩
    · refine (congrArg (fun p : ℕ => p - (![0, 0, 63, 0] : Fin 4 → ℕ) a) (key a)).trans ?_
      fin_cases a
      · rfl
      · rfl
      · rfl
      · rfl
  · rw [dif_neg (show ¬ 63 ≤ i.val + (finCongr hN n).val from hle)]
    refine dif_neg fun hall => hle ?_
    have := (hall 2).1
    have k2 := key 2
    refine le_trans this (le_of_eq k2)

/-- Where a chunk's slice starts: at the counter along the chunks. -/
theorem start_k (n : IVec S_ 32) (k : Fin 64) (hn : n (Shape.Idx.first h_S_) = BitVec.ofNat 32 k.val)
    (hr : S1x16x4x64x64.rank = S64x16x4x64x64.rank) (a : Fin 5) :
    Host.clampedStart S64x16x4x64x64 S1x16x4x64x64 hr (fun k => (((![n, constantI S_ 32 0#32, constantI S_ 32 0#32, constantI S_ 32 0#32, constantI S_ 32 0#32] :
      Fin 5 → IVec S_ 32)) k (Shape.Idx.first h_S_)).toInt) a = (![k.val, 0, 0, 0, 0] : Fin 5 → ℕ) a := by
  have hk : k.val < 2 ^ 31 := by have := k.isLt; omega
  refine Host.clampedStart_of_le hr _ a _ ?_ ?_
  · match a with
    | 0 =>
      show (n (Shape.Idx.first h_S_)).toInt = ((k.val : ℕ) : ℤ)
      rw [hn, BitVec.toInt_eq_toNat_of_lt (by rw [BitVec.toNat_ofNat]; omega), BitVec.toNat_ofNat, Nat.mod_eq_of_lt (by omega)]
    | 1 => rfl
    | 2 => rfl
    | 3 => rfl
    | 4 => rfl
  · match a with
    | 0 => show k.val + 1 ≤ 64; omega
    | 1 => show 0 + 16 ≤ 16; omega
    | 2 => show 0 + 4 ≤ 4; omega
    | 3 => show 0 + 64 ≤ 64; omega
    | 4 => show 0 + 64 ≤ 64; omega

/-- The same for heads of 128 lanes. -/
theorem start_v (n : IVec S_ 32) (k : Fin 64) (hn : n (Shape.Idx.first h_S_) = BitVec.ofNat 32 k.val)
    (hr : S1x16x4x64x128.rank = S64x16x4x64x128.rank) (a : Fin 5) :
    Host.clampedStart S64x16x4x64x128 S1x16x4x64x128 hr (fun k => (((![n, constantI S_ 32 0#32, constantI S_ 32 0#32, constantI S_ 32 0#32, constantI S_ 32 0#32] :
      Fin 5 → IVec S_ 32)) k (Shape.Idx.first h_S_)).toInt) a = (![k.val, 0, 0, 0, 0] : Fin 5 → ℕ) a := by
  have hk : k.val < 2 ^ 31 := by have := k.isLt; omega
  refine Host.clampedStart_of_le hr _ a _ ?_ ?_
  · match a with
    | 0 =>
      show (n (Shape.Idx.first h_S_)).toInt = ((k.val : ℕ) : ℤ)
      rw [hn, BitVec.toInt_eq_toNat_of_lt (by rw [BitVec.toNat_ofNat]; omega), BitVec.toNat_ofNat, Nat.mod_eq_of_lt (by omega)]
    | 1 => rfl
    | 2 => rfl
    | 3 => rfl
    | 4 => rfl
  · match a with
    | 0 => show k.val + 1 ≤ 64; omega
    | 1 => show 0 + 16 ≤ 16; omega
    | 2 => show 0 + 4 ≤ 4; omega
    | 3 => show 0 + 64 ≤ 64; omega
    | 4 => show 0 + 128 ≤ 128; omega

/-- Chunk `k` of an array of heads of 64 lanes, taken at a counter that holds `k`. -/
theorem rowK_apply (A : FVec Ideal S64x16x4x64x64 .f32) (n : IVec S_ 32) (k : Fin 64) (hn : n (Shape.Idx.first h_S_) = BitVec.ofNat 32 k.val)
    (b : Fin 16) (h : Fin 4) (i d : Fin 64) :
    shapeCast S16x4x64x64 (Host.dynamicSlice S1x16x4x64x64 A (fun k => (((![n, constantI S_ 32 0#32, constantI S_ 32 0#32, constantI S_ 32 0#32, constantI S_ 32 0#32] :
      Fin 5 → (⟨S_, .i32⟩ : BufTy).Contents (Elt Ideal))) k (Shape.Idx.first h_S_)).toInt) sliceFits_S64x16x4x64x64_S1x16x4x64x64)
      shapeCasts_S1x16x4x64x64_S16x4x64x64 (ix4 b h i d) = A (ix5 k b h i d) := by
  have e := start_k n k hn rfl
  pointwise
  refine congrArg A ?_
  refine congr (congr (congr (congr (congrArg ix5 ?_) ?_) ?_) ?_) ?_
  · exact Fin.ext (e 0)
  · exact Fin.ext (by show _ + b.val = b.val; rw [e 1]; exact Nat.zero_add _)
  · exact Fin.ext (by show _ + h.val = h.val; rw [e 2]; exact Nat.zero_add _)
  · exact Fin.ext (by show _ + i.val = i.val; rw [e 3]; exact Nat.zero_add _)
  · exact Fin.ext (by show _ + d.val = d.val; rw [e 4]; exact Nat.zero_add _)

/-- Chunk `k` of an array of heads of 128 lanes, taken at a counter that holds `k`. -/
theorem rowV_apply (A : FVec Ideal S64x16x4x64x128 .f32) (n : IVec S_ 32) (k : Fin 64) (hn : n (Shape.Idx.first h_S_) = BitVec.ofNat 32 k.val)
    (b : Fin 16) (h : Fin 4) (i : Fin 64) (d : Fin 128) :
    shapeCast S16x4x64x128 (Host.dynamicSlice S1x16x4x64x128 A (fun k => (((![n, constantI S_ 32 0#32, constantI S_ 32 0#32, constantI S_ 32 0#32, constantI S_ 32 0#32] :
      Fin 5 → (⟨S_, .i32⟩ : BufTy).Contents (Elt Ideal))) k (Shape.Idx.first h_S_)).toInt) sliceFits_S64x16x4x64x128_S1x16x4x64x128)
      shapeCasts_S1x16x4x64x128_S16x4x64x128 (ix4 b h i d) = A (ix5 k b h i d) := by
  have e := start_v n k hn rfl
  pointwise
  refine congrArg A ?_
  refine congr (congr (congr (congr (congrArg ix5 ?_) ?_) ?_) ?_) ?_
  · exact Fin.ext (e 0)
  · exact Fin.ext (by show _ + b.val = b.val; rw [e 1]; exact Nat.zero_add _)
  · exact Fin.ext (by show _ + h.val = h.val; rw [e 2]; exact Nat.zero_add _)
  · exact Fin.ext (by show _ + i.val = i.val; rw [e 3]; exact Nat.zero_add _)
  · exact Fin.ext (by show _ + d.val = d.val; rw [e 4]; exact Nat.zero_add _)

/-- The output array after chunk `k` is put in. -/
theorem put_apply (A : FVec Ideal S64x16x4x64x128 .f32) (n : IVec S_ 32) (k : Fin 64) (hn : n (Shape.Idx.first h_S_) = BitVec.ofNat 32 k.val)
    (p : FVec Ideal S16x4x64x128 .f32) (t : Fin 64) (b : Fin 16) (h : Fin 4) (i : Fin 64) (l : Fin 128) :
    Host.dynamicUpdateSlice A (broadcastInDim S1x16x4x64x128 ![1, 2, 3, 4] bcast_S16x4x64x128_S1x16x4x64x128_1_2_3_4 p)
      (fun k => (((![n, constantI S_ 32 0#32, constantI S_ 32 0#32, constantI S_ 32 0#32, constantI S_ 32 0#32] :
        Fin 5 → (⟨S_, .i32⟩ : BufTy).Contents (Elt Ideal))) k (Shape.Idx.first h_S_)).toInt) updateFits_S64x16x4x64x128_S1x16x4x64x128 (ix5 t b h i l)
      = if t = k then p (ix4 b h i l) else A (ix5 t b h i l) := by
  have e := start_v n k hn rfl
  pointwise
  have e0 : Host.clampedStart S64x16x4x64x128 S1x16x4x64x128 _ _ 0 = k.val := e 0
  have e1 : Host.clampedStart S64x16x4x64x128 S1x16x4x64x128 _ _ 1 = 0 := e 1
  have e2 : Host.clampedStart S64x16x4x64x128 S1x16x4x64x128 _ _ 2 = 0 := e 2
  have e3 : Host.clampedStart S64x16x4x64x128 S1x16x4x64x128 _ _ 3 = 0 := e 3
  have e4 : Host.clampedStart S64x16x4x64x128 S1x16x4x64x128 _ _ 4 = 0 := e 4
  by_cases ht : t = k
  · rw [if_pos ht, dif_pos (by rw [e0, e1, e2, e3, e4, ht]; omega)]
    refine congrArg p (congr (congr (congr (congrArg ix4 ?_) ?_) ?_) ?_)
    · exact Fin.ext (by show b.val - _ = b.val; rw [e1]; exact Nat.sub_zero _)
    · exact Fin.ext (by show h.val - _ = h.val; rw [e2]; exact Nat.sub_zero _)
    · exact Fin.ext (by show i.val - _ = i.val; rw [e3]; exact Nat.sub_zero _)
    · exact Fin.ext (by show l.val - _ = l.val; rw [e4]; exact Nat.sub_zero _)
  · rw [if_neg ht, dif_neg]
    rw [e0]
    intro h'
    exact ht (Fin.ext (by omega))

section Stages

variable (V : Valuation τ sig (Elt Ideal)) (b : Fin 16) (h : Fin 4)

/-- The decayed queries of a trip. -/
theorem v55_apply (q c : Fin 64 → Fin 64 → EReal)
    (hq : ∀ i d, (shapeCast S16x4x64x64 (Host.dynamicSlice S1x16x4x64x64 (V (Proc.devRef .tc main_v42_0)) (fun k => (((![V (Proc.devRef .tc main_v42_5), constantI S_ 32 0#32, constantI S_ 32 0#32, constantI S_ 32 0#32, constantI S_ 32 0#32] :
      Fin 5 → (⟨S_, .i32⟩ : BufTy).Contents (Elt Ideal))) k (Shape.Idx.first h_S_)).toInt) sliceFits_S64x16x4x64x64_S1x16x4x64x64)
      shapeCasts_S1x16x4x64x64_S16x4x64x64 : FVec Ideal S16x4x64x64 .f32) (ix4 b h i d) = q i d)
    (hc : ∀ i d, (Value.res_main_while0b_v53 V : FVec Ideal S16x4x64x64 .f32) (ix4 b h i d) = c i d) (i d : Fin 64) :
    (Value.res_main_while0b_v55 V : FVec Ideal S16x4x64x64 .f32) (ix4 b h i d) = q i d * Ideal.exp (c i d) :=
  congrArg₂ (fun p r : EReal => p * r) (hq i d) (congrArg Ideal.exp (hc i d))

/-- The host's chunk output, of its stages. -/
def outS (qd k c : FVec Ideal S16x4x64x64 .f32) (v st : FVec Ideal S16x4x64x128 .f32) : FVec Ideal S16x4x64x128 .f32 :=
  addf (Host.dotGeneral dot_S16x4x64x64_S16x4x64x128_S16x4x64x128_3_2_2_3_01_01 none (select (broadcastInDim S16x4x64x64 ![2, 3] bcast_S64x64_S16x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S16x4x64x64_S16x4x64x64_S16x4x64x64_3_3_2_2_01_01 none qd (mulf k (Host.exp (Host.negf c)))) (broadcastInDim S16x4x64x64 ![] bcast_S_S16x4x64x64 (id (constant S_ .f32 0x00000000#32)))) v) (Host.dotGeneral dot_S16x4x64x64_S16x4x64x128_S16x4x64x128_3_2_2_3_01_01 none qd st)

theorem v65_eq : Value.res_main_while0b_v65 V = outS (Value.res_main_while0b_v55 V) (Value.res_main_while0b_v49 V) (Value.res_main_while0b_v53 V)
    (Value.res_main_while0b_v50 V) (V (Proc.devRef .tc main_v42_6)) := rfl

/-- The host's causal mask. -/
theorem mask_eq : ∀ i j : Fin 64, Scalar.select (IntOp.cmpi CmpIPredicate.sge (IntOp.addi (BitVec.ofNat 32 i.val) 0#32) (BitVec.ofNat 32 j.val)) 1#1 0#1
    = if j ≤ i then 1#1 else 0#1 := by decide +kernel

/-- A chunk's output at an index. -/
theorem outS_apply (qd k c : FVec Ideal S16x4x64x64 .f32) (v st : FVec Ideal S16x4x64x128 .f32) (q : Fin 64 → Fin 64 → EReal)
    (hq : ∀ i d, qd (ix4 b h i d) = q i d * Ideal.exp (c (ix4 b h i d))) (i : Fin 64) (e : Fin 128) :
    outS qd k c v st (ix4 b h i e) = GlaSpec.out q (fun i d => k (ix4 b h i d)) (fun i d => c (ix4 b h i d)) (fun i e => v (ix4 b h i e))
      (fun d e => st (ix4 b h d e)) i e := by
  pointwise [outS]
  unfold GlaSpec.out
  refine congrArg₂ (fun p r : EReal => p + r) (Finset.sum_congr rfl fun j _ => congrArg (fun p : EReal => p * v (ix4 b h j e)) ?_)
    (Finset.sum_congr rfl fun d _ => by rw [hq])
  rw [mask_eq]
  unfold GlaSpec.att
  by_cases hj : j ≤ i
  · rw [if_pos hj, if_pos hj]
    simp only [hq]
    rfl
  · rw [if_neg hj, if_neg hj]
    exact Ideal.ofBits_zero_f32

/-- The host's next state, of its stages. -/
def nextS (k c : FVec Ideal S16x4x64x64 .f32) (v st : FVec Ideal S16x4x64x128 .f32) : FVec Ideal S16x4x64x128 .f32 :=
  addf (mulf (broadcastInDim S16x4x64x128 ![0, 1, 2, 3] bcast_S16x4x64x1_S16x4x64x128_0_1_2_3 (broadcastInDim S16x4x64x1 ![0, 1, 2] bcast_S16x4x64_S16x4x64x1_0_1_2 (Host.exp
    (shapeCast S16x4x64 (extractStridedSlice S16x4x1x64 ![0, 0, 63, 0] c slices_S16x4x64x64_S16x4x1x64_0_0_63_0) shapeCasts_S16x4x1x64_S16x4x64)))) st)
    (Host.dotGeneral dot_S16x4x64x64_S16x4x64x128_S16x4x64x128_2_2_3_3_01_01 none (mulf k (Host.exp (subf (broadcastInDim S16x4x64x64 ![0, 1, 2, 3] bcast_S16x4x1x64_S16x4x64x64_0_1_2_3 (broadcastInDim S16x4x1x64 ![0, 1, 3] bcast_S16x4x64_S16x4x1x64_0_1_3
      (shapeCast S16x4x64 (extractStridedSlice S16x4x1x64 ![0, 0, 63, 0] c slices_S16x4x64x64_S16x4x1x64_0_0_63_0) shapeCasts_S16x4x1x64_S16x4x64))) c))) v)

theorem nextS_apply (k c : FVec Ideal S16x4x64x64 .f32) (v st : FVec Ideal S16x4x64x128 .f32) (d : Fin 64) (e : Fin 128) :
    nextS k c v st (ix4 b h d e) = GlaSpec.next (fun i d => k (ix4 b h i d)) (fun i d => c (ix4 b h i d)) (fun i e => v (ix4 b h i e))
      (fun d e => st (ix4 b h d e)) d e := by
  pointwise [nextS]
  rfl

/-- The host's normalisation of a chunk's output. -/
def normS (o g : FVec Ideal S16x4x64x128 .f32) : FVec Ideal S16x4x64x128 .f32 :=
  mulf (mulf (subf o (broadcastInDim S16x4x64x128 ![0, 1, 2, 3] bcast_S16x4x64x1_S16x4x64x128_0_1_2_3 (Host.divf (broadcastInDim S16x4x64x1 ![0, 1, 2] bcast_S16x4x64_S16x4x64x1_0_1_2 (Host.reduceAdd o (constant S_ .f32 0x00000000#32) reducesTo_S16x4x64x128_S16x4x64_d3 h_S_)) (broadcastInDim S16x4x64x1 ![] bcast_S_S16x4x64x1 (constant S_ .f32 0x43000000#32)))))
    (broadcastInDim S16x4x64x128 ![0, 1, 2, 3] bcast_S16x4x64x1_S16x4x64x128_0_1_2_3 (Host.rsqrt (addf (Host.divf (broadcastInDim S16x4x64x1 ![0, 1, 2] bcast_S16x4x64_S16x4x64x1_0_1_2 (Host.reduceAdd
      (mulf (subf o (broadcastInDim S16x4x64x128 ![0, 1, 2, 3] bcast_S16x4x64x1_S16x4x64x128_0_1_2_3 (Host.divf (broadcastInDim S16x4x64x1 ![0, 1, 2] bcast_S16x4x64_S16x4x64x1_0_1_2 (Host.reduceAdd o (constant S_ .f32 0x00000000#32) reducesTo_S16x4x64x128_S16x4x64_d3 h_S_)) (broadcastInDim S16x4x64x1 ![] bcast_S_S16x4x64x1 (constant S_ .f32 0x43000000#32)))))
        (subf o (broadcastInDim S16x4x64x128 ![0, 1, 2, 3] bcast_S16x4x64x1_S16x4x64x128_0_1_2_3 (Host.divf (broadcastInDim S16x4x64x1 ![0, 1, 2] bcast_S16x4x64_S16x4x64x1_0_1_2 (Host.reduceAdd o (constant S_ .f32 0x00000000#32) reducesTo_S16x4x64x128_S16x4x64_d3 h_S_)) (broadcastInDim S16x4x64x1 ![] bcast_S_S16x4x64x1 (constant S_ .f32 0x43000000#32))))))
      (constant S_ .f32 0x00000000#32) reducesTo_S16x4x64x128_S16x4x64_d3 h_S_)) (broadcastInDim S16x4x64x1 ![] bcast_S_S16x4x64x1 (constant S_ .f32 0x43000000#32))) (broadcastInDim S16x4x64x1 ![] bcast_S_S16x4x64x1 (constant S_ .f32 0x3727C5AC#32)))))) g

theorem normS_apply (o g : FVec Ideal S16x4x64x128 .f32) (i : Fin 64) (e : Fin 128) :
    normS o g (ix4 b h i e) = GlaSpec.norm (fun e => o (ix4 b h i e)) e * g (ix4 b h i e) := by
  pointwise [normS]
  rfl

end Stages

end Cert.GlaRefIdeal.RefValue

end
-- ==== Proof.GlaRefLoop.lean ====
/- The gated linear attention reference: what its loop leaves, and its result. -/
module

public import proofs.«01_k».proof.Proof.GlaRefStep

@[expose] public section

set_option maxRecDepth 16384

noncomputable section

namespace Cert.GlaRefIdeal.RefValue

open Cert.GlaRefIdeal Cert.GlaRefIdeal.Gen Idealize.ShloMosaic Idealize.ShloMosaic.TcCoe Idealize.SL.Sem Idealize.ShloMosaic.StableHlo

section Loop

variable (P : Fin 16 → GlaSpec.Par)

/-- What the loop's carried buffers hold before trip `k`. -/
structure Inv (k : ℕ) (V : Valuation τ sig (Elt Ideal)) : Prop where
  q : ∀ (n : Fin 64) (b : Fin 16) (h : Fin 4) (i d : Fin 64), (V (Proc.devRef .tc main_v42_0) : FVec Ideal S64x16x4x64x64 .f32) (ix5 n b h i d) = (P b).q h n.val i d
  kk : ∀ (n : Fin 64) (b : Fin 16) (h : Fin 4) (i d : Fin 64), (V (Proc.devRef .tc main_v42_1) : FVec Ideal S64x16x4x64x64 .f32) (ix5 n b h i d) = (P b).k h n.val i d
  v : ∀ (n : Fin 64) (b : Fin 16) (h : Fin 4) (i : Fin 64) (e : Fin 128), (V (Proc.devRef .tc main_v42_2) : FVec Ideal S64x16x4x64x128 .f32) (ix5 n b h i e) = (P b).v h n.val i e
  a : ∀ (n : Fin 64) (b : Fin 16) (h : Fin 4) (i d : Fin 64), (V (Proc.devRef .tc main_v42_3) : FVec Ideal S64x16x4x64x64 .f32) (ix5 n b h i d)
    = (P b).la (n.val * 64 + i.val) ⟨h.val * 64 + d.val, by omega⟩
  g : ∀ (n : Fin 64) (b : Fin 16) (h : Fin 4) (i : Fin 64) (e : Fin 128), (V (Proc.devRef .tc main_v42_4) : FVec Ideal S64x16x4x64x128 .f32) (ix5 n b h i e)
    = (P b).gate (n.val * 64 + i.val) ⟨h.val * 128 + e.val, by omega⟩
  n : (V (Proc.devRef .tc main_v42_5) : IVec S_ 32) (Shape.Idx.first h_S_) = BitVec.ofNat 32 k
  s : ∀ (b : Fin 16) (h : Fin 4) (d : Fin 64) (e : Fin 128), (V (Proc.devRef .tc main_v42_6) : FVec Ideal S16x4x64x128 .f32) (ix4 b h d e) = (P b).st h k d e
  o : ∀ (n : Fin 64) (b : Fin 16) (h : Fin 4) (i : Fin 64) (e : Fin 128), n.val < k →
    (V (Proc.devRef .tc main_v42_7) : FVec Ideal S64x16x4x64x128 .f32) (ix5 n b h i e) = (P b).y h n.val i e

variable {P} (k : Fin 64) (V : Valuation τ sig (Elt Ideal)) (I : Inv P k.val V) (b : Fin 16) (h : Fin 4)
include I

/-- The keys of a trip. -/
theorem k_apply (i d : Fin 64) : (Value.res_main_while0b_v49 V : FVec Ideal S16x4x64x64 .f32) (ix4 b h i d) = (P b).k h k.val i d :=
  (rowK_apply _ _ k I.n b h i d).trans (I.kk k b h i d)

/-- The values of a trip. -/
theorem v_apply (i : Fin 64) (e : Fin 128) : (Value.res_main_while0b_v50 V : FVec Ideal S16x4x64x128 .f32) (ix4 b h i e) = (P b).v h k.val i e :=
  (rowV_apply _ _ k I.n b h i e).trans (I.v k b h i e)

/-- The decay's running sum of a trip. -/
theorem c_apply (i d : Fin 64) : (Value.res_main_while0b_v53 V : FVec Ideal S16x4x64x64 .f32) (ix4 b h i d) = (P b).c h k.val i d := by
  refine (cumsum_apply _ b h i d).trans ?_
  unfold GlaSpec.Par.c GlaSpec.cum
  refine Finset.sum_congr rfl fun j _ => ?_
  split
  · exact (rowK_apply _ _ k I.n b h j d).trans (I.a k b h j d)
  · rfl

/-- The output of a trip before normalisation. -/
theorem o_apply (i : Fin 64) (e : Fin 128) : (Value.res_main_while0b_v65 V : FVec Ideal S16x4x64x128 .f32) (ix4 b h i e) = (P b).o h k.val i e := by
  rw [v65_eq]
  refine (outS_apply b h _ _ _ _ _ ((P b).q h k.val) (fun i d => ?_) i e).trans ?_
  · exact congrArg (fun p : EReal => p * _) ((rowK_apply _ _ k I.n b h i d).trans (I.q k b h i d))
  · unfold GlaSpec.Par.o
    simp only [k_apply k V I, v_apply k V I, c_apply k V I, I.s]

/-- The state after a trip. -/
theorem s_apply (d : Fin 64) (e : Fin 128) : (Value.step_main_v42_6 V : FVec Ideal S16x4x64x128 .f32) (ix4 b h d e) = (P b).st h (k.val + 1) d e := by
  refine (nextS_apply b h (Value.res_main_while0b_v49 V) (Value.res_main_while0b_v53 V) (Value.res_main_while0b_v50 V) (V (Proc.devRef .tc main_v42_6)) d e).trans ?_
  simp only [k_apply k V I, v_apply k V I, c_apply k V I, I.s]
  rfl

/-- One trip keeps the invariant. -/
theorem inv_step : Inv P (k.val + 1) (Value.STEP V) where
  q := fun n b h i d => by rw [Value.STEP_main_v42_0]; exact I.q n b h i d
  kk := fun n b h i d => by rw [Value.STEP_main_v42_1]; exact I.kk n b h i d
  v := fun n b h i d => by rw [Value.STEP_main_v42_2]; exact I.v n b h i d
  a := fun n b h i d => by rw [Value.STEP_main_v42_3]; exact I.a n b h i d
  g := fun n b h i d => by rw [Value.STEP_main_v42_4]; exact I.g n b h i d
  n := by
    rw [Value.STEP_main_v42_5]
    exact (congrArg (fun q : BitVec 32 => q + 1#32) I.n).trans (BitVec.ofNat_add _ _).symm
  s := fun b h d e => by
    rw [Value.STEP_main_v42_6]
    exact s_apply k V I b h d e
  o := fun n b h i e hn => by
    rw [Value.STEP_main_v42_7]
    refine (put_apply (V (Proc.devRef .tc main_v42_7)) (V (Proc.devRef .tc main_v42_5)) k I.n _ n b h i e).trans ?_
    by_cases hk : n = k
    · rw [if_pos hk, hk]
      refine (normS_apply b h (Value.res_main_while0b_v65 V) _ i e).trans ((congrArg (fun p : EReal => GlaSpec.norm _ e * p)
        ((rowV_apply (V (Proc.devRef .tc main_v42_4)) (V (Proc.devRef .tc main_v42_5)) k I.n b h i e).trans (I.g k b h i e))).trans ?_)
      simp only [o_apply k V I]
      rfl
    · rw [if_neg hk]
      exact I.o n b h i e (by have : n.val ≠ k.val := fun e => hk (Fin.ext e); omega)

omit I in
/-- The invariant at the loop's end. -/
theorem inv_iter (I : Inv P 0 V) : ∀ k ≤ 64, Inv P k (Value.STEP^[k] V)
  | 0, _ => I
  | k + 1, h => by
    rw [Function.iterate_succ_apply']
    exact inv_step ⟨k, by omega⟩ _ (inv_iter I k (by omega))

end Loop

variable (m : (ℓ : Loc nD τ sig) → Buf (Elt Ideal) ℓ) (c : Dev nD)

/-- Column `l` of an input product at time `t`. -/
def colOf (x : FVec Ideal S16x4096x1024 .f32) (w : FVec Ideal S1024x3216 .f32) (b : Fin 16) (t : ℕ) (l : Fin 3216) : EReal :=
  if h : t < 4096 then ∑ k : Fin 1024, x (ix3 b ⟨t, h⟩ k) * w (ix2 k l) else 0

/-- What one batch row's call reads, from the argument arrays. -/
def par (b : Fin 16) : GlaSpec.Par where
  col := colOf (m ((c.tc : Thread nD τ).loc main_arg0)) (m ((c.tc : Thread nD τ).loc main_arg1)) b
  gB := fun j l => (m ((c.tc : Thread nD τ).loc main_arg2) : FVec Ideal S16x256 .f32) (ix2 j l)
  gb := fun l => (m ((c.tc : Thread nD τ).loc main_arg3) : FVec Ideal S256 .f32) (ix1 l)
  ng := fun l => (m ((c.tc : Thread nD τ).loc main_arg4) : FVec Ideal S512 .f32) (ix1 l)

/-- The call's columns of the input product at a time. -/
theorem pS_apply (b : Fin 16) (t : Fin 4096) (l : Fin 1552) : pS m c (ix3 b t l) = (par m c b).col t.val ⟨1664 + l.val, by omega⟩ := by
  unfold pS
  rw [partS_apply]
  unfold par colOf
  dsimp only
  rw [dif_pos t.isLt]

/-- At the loop's entry the invariant holds. -/
theorem inv_entry : Inv (par m c) 0 (entryContents Value.preI m c) where
  q := fun n b h i d => by
    rw [entry_q, chunkS_apply, scaleS_apply, headS_apply]
    refine congrArg (fun p : EReal => p * _) (Eq.trans (by pointwise) ((pS_apply m c b ⟨n.val * 64 + i.val, by omega⟩ ⟨h.val * 64 + d.val, by omega⟩).trans rfl))
  kk := fun n b h i d => by
    rw [entry_k, chunkS_apply, headS_apply]
    refine Eq.trans (by pointwise) ((pS_apply m c b ⟨n.val * 64 + i.val, by omega⟩ ⟨256 + (h.val * 64 + d.val), by omega⟩).trans ?_)
    exact congrArg ((par m c b).col _) (Fin.ext (by show 1664 + (256 + (h.val * 64 + d.val)) = 1920 + (h.val * 64 + d.val); omega))
  v := fun n b h i e => by
    rw [entry_v, chunkV_apply]
    refine Eq.trans (by pointwise) ((pS_apply m c b ⟨n.val * 64 + i.val, by omega⟩ ⟨512 + (h.val * 128 + e.val), by omega⟩).trans ?_)
    exact congrArg ((par m c b).col _) (Fin.ext (by show 1664 + (512 + (h.val * 128 + e.val)) = 2176 + (h.val * 128 + e.val); omega))
  a := fun n b h i d => by
    rw [entry_a, chunkS_apply, headS_apply, logS_apply, gateS_apply]
    unfold GlaSpec.Par.la
    refine congrArg GlaSpec.logA (congrArg (fun p : EReal => p + _) (Finset.sum_congr rfl fun j _ => congrArg (fun p : EReal => p * _) ?_))
    refine Eq.trans (by pointwise) ((pS_apply m c b ⟨n.val * 64 + i.val, by omega⟩ ⟨1024 + j.val, by omega⟩).trans ?_)
    exact congrArg ((par m c b).col _) (Fin.ext (by show 1664 + (1024 + j.val) = 2688 + j.val; omega))
  g := fun n b h i e => by
    rw [entry_g, chunkV_apply, siluS_apply]
    unfold GlaSpec.Par.gate
    refine congrArg (fun p : EReal => GlaSpec.silu p * _) ?_
    refine Eq.trans (by pointwise) ((pS_apply m c b ⟨n.val * 64 + i.val, by omega⟩ ⟨1040 + (h.val * 128 + e.val), by omega⟩).trans ?_)
    exact congrArg ((par m c b).col _) (Fin.ext (by show 1664 + (1040 + (h.val * 128 + e.val)) = 2704 + (h.val * 128 + e.val); omega))
  n := by rw [entry_n]; rfl
  s := fun b h d e => by rw [entry_s]; pointwise; rfl
  o := fun n b h i e hn => absurd hn (by omega)

/-- The reference's result, by index. -/
theorem out_apply (b : Fin 16) (t : Fin 4096) (l : Fin 512) :
    (Value.out_main_v47 (Value.STEP^[64] (entryContents Value.preI m c)) : FVec Ideal S16x4096x512 .bf16) (ix3 b t l)
      = (par m c b).y ⟨l.val / 128, by omega⟩ (t.val / 64) ⟨t.val % 64, by omega⟩ ⟨l.val % 128, by omega⟩ := by
  have I := inv_iter _ (inv_entry m c) 64 le_rfl
  have e : (Value.out_main_v47 (Value.STEP^[64] (entryContents Value.preI m c)) : FVec Ideal S16x4096x512 .bf16) (ix3 b t l)
      = (Value.STEP^[64] (entryContents Value.preI m c) (Proc.devRef .tc main_v42_7) : FVec Ideal S64x16x4x64x128 .f32)
        (ix5 ⟨t.val / 64, by omega⟩ b ⟨l.val / 128, by omega⟩ ⟨t.val % 64, by omega⟩ ⟨l.val % 128, by omega⟩) := by
    unfold Value.out_main_v47
    pointwise
  rw [e]
  exact I.o _ _ _ _ _ (by show t.val / 64 < 64; omega)

end Cert.GlaRefIdeal.RefValue

end
-- ==== Proof.GlaClaim.lean ====
/- The value claim of the gated linear attention's call: the kernel and its reference leave the same result. -/
module

public import proofs.«01_k».proof.Defs
public import proofs.«01_k».proof.Proof.GlaKer
public import proofs.«01_k».proof.Proof.GlaRefLoop

@[expose] public section

set_option maxRecDepth 16384

noncomputable section

namespace Cert.Proof

open Idealize.ShloMosaic Idealize.ShloMosaic.TcCoe Idealize.SL.Sem

/-- The gated linear attention's kernel and its reference leave the same result at the extended reals. -/
theorem gla : Cert.algebraic_GlaIdeal_GlaRefIdeal := by
  intro m g m' g' _ hagree
  refine ⟨fun c => Cert.GlaIdeal.Value.G9 m c, ?_, ?_⟩
  · exact Cert.GlaIdeal.Value.run m g
  · refine (θ_run _ _ _).mono (fun r h c => ⟨(h c).1.trans ?_, (h c).2⟩) (Cert.GlaRefIdeal.Value.run m' g')
    obtain ⟨h0, h1, h2, h3, h4⟩ := hagree c
    funext j
    rw [eq_ix3 j]
    refine (Cert.GlaRefIdeal.RefValue.out_apply m' c (j 0) (j 1) (j 2)).trans (Eq.trans ?_ (Cert.GlaIdeal.KerValue.out_apply m c (j 0) (j 1) (j 2)).symm)
    unfold Cert.GlaRefIdeal.RefValue.par Cert.GlaIdeal.KerValue.par
    rw [h0, h1, h2, h3, h4]
    rfl

end Cert.Proof

end
-- ==== Proof.lean ====
module

public import proofs.«01_k».proof.Defs
public import proofs.«01_k».proof.Proof.Gen.Rg
public import proofs.«01_k».proof.Proof.Gen.Rg.Skeleton
public import proofs.«01_k».proof.Proof.Gen.Rg.Launch
public import proofs.«01_k».proof.Proof.Gen.Rg.Points
public import proofs.«01_k».proof.Proof.Gen.Rg.Frame
public import proofs.«01_k».proof.Proof.Gen.RgIdeal
public import proofs.«01_k».proof.Proof.Gen.RgIdeal.Skeleton
public import proofs.«01_k».proof.Proof.Gen.RgIdeal.Launch
public import proofs.«01_k».proof.Proof.Gen.RgIdeal.Points
public import proofs.«01_k».proof.Proof.Gen.RgIdeal.Frame
public import proofs.«01_k».proof.Proof.Gen.RgRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Outp
public import proofs.«01_k».proof.Proof.Gen.Outp.Skeleton
public import proofs.«01_k».proof.Proof.Gen.Outp.Launch
public import proofs.«01_k».proof.Proof.Gen.Outp.Points
public import proofs.«01_k».proof.Proof.Gen.Outp.Frame
public import proofs.«01_k».proof.Proof.Gen.OutpIdeal
public import proofs.«01_k».proof.Proof.Gen.OutpIdeal.Skeleton
public import proofs.«01_k».proof.Proof.Gen.OutpIdeal.Launch
public import proofs.«01_k».proof.Proof.Gen.OutpIdeal.Points
public import proofs.«01_k».proof.Proof.Gen.OutpIdeal.Frame
public import proofs.«01_k».proof.Proof.Gen.OutpRefIdeal
public import proofs.«01_k».proof.Proof.Gen.Odd
public import proofs.«01_k».proof.Proof.Gen.Odd.Skeleton
public import proofs.«01_k».proof.Proof.Gen.Odd.Launch
public import proofs.«01_k».proof.Proof.Gen.Odd.Points
public import proofs.«01_k».proof.Proof.Gen.Odd.Frame
public import proofs.«01_k».proof.Proof.Gen.OddIdeal
public import proofs.«01_k».proof.Proof.Gen.OddIdeal.Skeleton
public import proofs.«01_k».proof.Proof.Gen.OddIdeal.Launch
public import proofs.«01_k».proof.Proof.Gen.OddIdeal.Points
public import proofs.«01_k».proof.Proof.Gen.OddIdeal.Frame
public import proofs.«01_k».proof.Proof.Gen.OddRefIdeal
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaRefIdeal
public import proofs.«01_k».proof.Proof.Gen.RgRefIdeal.Run
public import proofs.«01_k».proof.Proof.Gen.FfnRefIdeal.Run
public import proofs.«01_k».proof.Proof.Gen.OutpRefIdeal.Run
public import proofs.«01_k».proof.Proof.Gen.OddRefIdeal.Run
public import proofs.«01_k».proof.Proof.Gen.GlaRefIdeal.Run
public import proofs.«01_k».proof.Proof.Claims
public import proofs.«01_k».proof.Proof.RgClaim
public import proofs.«01_k».proof.Proof.OddRef
public import proofs.«01_k».proof.Proof.GlaFrame
public import proofs.«01_k».proof.Proof.GlaIdealFrame
public import proofs.«01_k».proof.Proof.GlaClaim
public import Idealize.ShloMosaic.Adequacy
public import Idealize.ShloMosaic.Init
public import Idealize.ShloMosaic.Lib.Quiescent

@[expose] public section

noncomputable section

namespace Cert.Proof

open Idealize.ShloMosaic Idealize.SL.Sem Cert.Rg

/-- Every claim of the statement holds. -/
theorem claim : Cert.Claim := ⟨Cert.Rg.Gen.facts, Cert.RgIdeal.Gen.facts, Cert.RgRefIdeal.Gen.facts, Cert.Ffn.Gen.facts, Cert.FfnIdeal.Gen.facts, Cert.FfnRefIdeal.Gen.facts, Cert.Outp.Gen.facts, Cert.OutpIdeal.Gen.facts, Cert.OutpRefIdeal.Gen.facts, Cert.Odd.Gen.facts, Cert.OddIdeal.Gen.facts, Cert.OddRefIdeal.Gen.facts, Cert.Gla.Gen.facts, Cert.GlaIdeal.Gen.facts, Cert.GlaRefIdeal.Gen.facts,
  fun m ρ _ => Cert.Rg.Gen.frame m ρ,
  fun m ρ _ => Cert.RgIdeal.Gen.frame m ρ,
  fun m ρ _ => (θ_run Cert.RgRefIdeal.defs _ _).mono
    (fun r h => ⟨fun c => (h c).2, sem_eq_zero_of_no_sems (by decide) r.2⟩) (Cert.RgRefIdeal.Value.run (F := Ideal) m ρ),
  fun m ρ _ => Cert.Ffn.Gen.frame m ρ,
  fun m ρ _ => Cert.FfnIdeal.Gen.frame m ρ,
  fun m ρ _ => (θ_run Cert.FfnRefIdeal.defs _ _).mono
    (fun r h => ⟨fun c => (h c).2, sem_eq_zero_of_no_sems (by decide) r.2⟩) (Cert.FfnRefIdeal.Value.run (F := Ideal) m ρ),
  fun m ρ _ => Cert.Outp.Gen.frame m ρ,
  fun m ρ _ => Cert.OutpIdeal.Gen.frame m ρ,
  fun m ρ _ => (θ_run Cert.OutpRefIdeal.defs _ _).mono
    (fun r h => ⟨fun c => (h c).2, sem_eq_zero_of_no_sems (by decide) r.2⟩) (Cert.OutpRefIdeal.Value.run (F := Ideal) m ρ),
  fun m ρ _ => Cert.Odd.Gen.frame m ρ,
  fun m ρ _ => Cert.OddIdeal.Gen.frame m ρ,
  fun m ρ _ => (θ_run Cert.OddRefIdeal.defs _ _).mono
    (fun r h => ⟨fun c => (h c).2, sem_eq_zero_of_no_sems (by decide) r.2⟩) (Cert.OddRefIdeal.Value.run (F := Ideal) m ρ),
  fun m ρ _ => Cert.Gla.Gen.frame m ρ,
  fun m ρ _ => Cert.GlaIdeal.Gen.frame m ρ,
  fun m ρ _ => (θ_run Cert.GlaRefIdeal.defs _ _).mono
    (fun r h => ⟨fun c => (h c).2, sem_eq_zero_of_no_sems (by decide) r.2⟩) (Cert.GlaRefIdeal.Value.run (F := Ideal) m ρ),
  trivial,
  Cert.Proof.rg,
  trivial,
  Cert.Proof.ffn,
  trivial,
  Cert.Proof.outp,
  trivial,
  Cert.Proof.odd,
  trivial,
  Cert.Proof.gla⟩

end Cert.Proof

end
